-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn_out [hPre_finite_ffn_out : Cert.Pre_finite_ffn_out.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_ffn_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_ffn_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn_out [hPre_finite_ffn_out : Cert.Pre_finite_ffn_out.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn_in [hPre_finite_ffn_in : Cert.Pre_finite_ffn_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_ffn_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_ffn_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_ffn_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_ffn_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn_in [hPre_finite_ffn_in : Cert.Pre_finite_ffn_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_loss [hPre_finite_loss : Cert.Pre_finite_loss.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite_loss.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_loss [hPre_finite_loss : Cert.Pre_finite_loss.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_in_proj [hPre_finite_in_proj : Cert.Pre_finite_in_proj.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_in_proj.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_finite_in_proj.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.1 = (fun _ => 1#1)
    ∧ (Cert.Pre_finite_in_proj.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.1 = (fun _ => 1#1)
    ∧ (Cert.Pre_finite_in_proj.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_in_proj [hPre_finite_in_proj : Cert.Pre_finite_in_proj.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
    ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
    ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn_out [hKernel2Ideal : Cert.Kernel2Ideal.Facts] [hPre_finite_ffn_out : Cert.Pre_finite_ffn_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn_out m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn_out [hReference2Ideal : Cert.Reference2Ideal.Facts] [hPre_finite_ffn_out : Cert.Pre_finite_ffn_out.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn_out m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_ffn_in [hKernel3Ideal : Cert.Kernel3Ideal.Facts] [hPre_finite_ffn_in : Cert.Pre_finite_ffn_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn_in m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_ffn_in [hReference3Ideal : Cert.Reference3Ideal.Facts] [hPre_finite_ffn_in : Cert.Pre_finite_ffn_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_loss [hKernel7Ideal : Cert.Kernel7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_loss m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_loss [hReference7Ideal : Cert.Reference7Ideal.Facts] [hPre_finite_loss : Cert.Pre_finite_loss.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_loss m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite_in_proj [hKernel12Ideal : Cert.Kernel12Ideal.Facts] [hPre_finite_in_proj : Cert.Pre_finite_in_proj.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_in_proj m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite_in_proj [hReference12Ideal : Cert.Reference12Ideal.Facts] [hPre_finite_in_proj : Cert.Pre_finite_in_proj.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_in_proj m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn_out [hKernel2Ideal : Cert.Kernel2Ideal.Facts] [hReference2Ideal : Cert.Reference2Ideal.Facts] [hPre_finite_ffn_out : Cert.Pre_finite_ffn_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn_out m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_ffn_in [hKernel3Ideal : Cert.Kernel3Ideal.Facts] [hReference3Ideal : Cert.Reference3Ideal.Facts] [hPre_finite_ffn_in : Cert.Pre_finite_ffn_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn_in m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal_pre_finite_loss [hKernel7Ideal : Cert.Kernel7Ideal.Facts] [hReference7Ideal : Cert.Reference7Ideal.Facts] [hPre_finite_loss : Cert.Pre_finite_loss.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_loss m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v67) = v1 c
          ∧ r.2.mem ((c.tc : Thread Cert.Reference7Ideal.nD Cert.Reference7Ideal.τ).loc Cert.Reference7Ideal.main_v66) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_in_proj [hKernel12Ideal : Cert.Kernel12Ideal.Facts] [hReference12Ideal : Cert.Reference12Ideal.Facts] [hPre_finite_in_proj : Cert.Pre_finite_in_proj.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_in_proj m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v11_0)) (v1 : (c : Dev Cert.Kernel12Ideal.nD) → Buf (Elt Ideal) ((c.tc : Thread Cert.Kernel12Ideal.nD Cert.Kernel12Ideal.τ).loc Cert.Kernel12Ideal.main_v11_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11_0) = v0 c
          ∧ r.2.mem ((c.tc : Thread Cert.Kernel12Ideal.nD Cert.Kernel12Ideal.τ).loc Cert.Kernel12Ideal.main_v11_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v2_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v2_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v31) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v33) = v2 c
          ∧ r.2.mem ((c.tc : Thread Cert.Reference14Ideal.nD Cert.Reference14Ideal.τ).loc Cert.Reference14Ideal.main_v34) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)) (v4 : (c : Dev Cert.Kernel16Ideal.nD) → Buf (Elt Ideal) ((c.tc : Thread Cert.Kernel16Ideal.nD Cert.Kernel16Ideal.τ).loc Cert.Kernel16Ideal.main_v5_4)) (v5 : (c : Dev Cert.Kernel16Ideal.nD) → Buf (Elt Ideal) ((c.tc : Thread Cert.Kernel16Ideal.nD Cert.Kernel16Ideal.τ).loc Cert.Kernel16Ideal.main_v5_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_v5_4) = v4 c
          ∧ r.2.mem ((c.tc : Thread Cert.Kernel16Ideal.nD Cert.Kernel16Ideal.τ).loc Cert.Kernel16Ideal.main_v5_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v35) = v1 c
          ∧ r.2.mem ((c.tc : Thread Cert.Reference16Ideal.nD Cert.Reference16Ideal.τ).loc Cert.Reference16Ideal.main_v36) = v2 c
          ∧ r.2.mem ((c.tc : Thread Cert.Reference16Ideal.nD Cert.Reference16Ideal.τ).loc Cert.Reference16Ideal.main_v37) = v3 c
          ∧ r.2.mem ((c.tc : Thread Cert.Reference16Ideal.nD Cert.Reference16Ideal.τ).loc Cert.Reference16Ideal.main_v38) = v4 c
          ∧ r.2.mem ((c.tc : Thread Cert.Reference16Ideal.nD Cert.Reference16Ideal.τ).loc Cert.Reference16Ideal.main_v26) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_inputs : Cert.Pre_finite_inputs.Facts) (hPre_finite_ffn_out : Cert.Pre_finite_ffn_out.Facts) (hPre_finite_ffn_in : Cert.Pre_finite_ffn_in.Facts) (hPre_finite_loss : Cert.Pre_finite_loss.Facts) (hPre_finite_in_proj : Cert.Pre_finite_in_proj.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_ffn_out (hKernel2Ideal := hKernel2Ideal) (hPre_finite_ffn_out := hPre_finite_ffn_out)
    ∧ quiescent_Reference2Ideal (hReference2Ideal := hReference2Ideal)
    ∧ quiescent_Reference2Ideal_pre_finite_ffn_out (hReference2Ideal := hReference2Ideal) (hPre_finite_ffn_out := hPre_finite_ffn_out)
    ∧ quiescent_Kernel3 (hKernel3 := hKernel3)
    ∧ quiescent_Kernel3Ideal (hKernel3Ideal := hKernel3Ideal)
    ∧ quiescent_Kernel3Ideal_pre_finite_ffn_in (hKernel3Ideal := hKernel3Ideal) (hPre_finite_ffn_in := hPre_finite_ffn_in)
    ∧ quiescent_Reference3Ideal (hReference3Ideal := hReference3Ideal)
    ∧ quiescent_Reference3Ideal_pre_finite_ffn_in (hReference3Ideal := hReference3Ideal) (hPre_finite_ffn_in := hPre_finite_ffn_in)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_finite_loss (hKernel7Ideal := hKernel7Ideal) (hPre_finite_loss := hPre_finite_loss)
    ∧ quiescent_Reference7Ideal (hReference7Ideal := hReference7Ideal)
    ∧ quiescent_Reference7Ideal_pre_finite_loss (hReference7Ideal := hReference7Ideal) (hPre_finite_loss := hPre_finite_loss)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_in_proj (hKernel12Ideal := hKernel12Ideal) (hPre_finite_in_proj := hPre_finite_in_proj)
    ∧ quiescent_Reference12Ideal (hReference12Ideal := hReference12Ideal)
    ∧ quiescent_Reference12Ideal_pre_finite_in_proj (hReference12Ideal := hReference12Ideal) (hPre_finite_in_proj := hPre_finite_in_proj)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_ffn_out (hKernel2Ideal := hKernel2Ideal) (hReference2Ideal := hReference2Ideal) (hPre_finite_ffn_out := hPre_finite_ffn_out)
    ∧ preserves_Kernel3_Kernel3Ideal
    ∧ algebraic_Kernel3Ideal_Reference3Ideal_pre_finite_ffn_in (hKernel3Ideal := hKernel3Ideal) (hReference3Ideal := hReference3Ideal) (hPre_finite_ffn_in := hPre_finite_ffn_in)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_finite_loss (hKernel7Ideal := hKernel7Ideal) (hReference7Ideal := hReference7Ideal) (hPre_finite_loss := hPre_finite_loss)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_in_proj (hKernel12Ideal := hKernel12Ideal) (hReference12Ideal := hReference12Ideal) (hPre_finite_in_proj := hPre_finite_in_proj)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_ffn_in.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1024x5632 .f32) (main_arg3 : FVec F S4096x1024 .f32) (main_arg4 : FVec F S4096x1024 .f32) (main_arg5 : FVec F S1x1024 .f32) : IVec S4096x2816 1 × IVec S4096x2816 1 × IVec S1024x5632 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_ffn_out.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S2816x1024 1 × IVec S4096x1024 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_in_proj.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S_ : Shape := ⟨0, ![]⟩

class Facts : Prop where
  bcast_S_S4096x4608 : S_.BroadcastsInDim S4096x4608 (![] : Fin 0 → Fin S4096x4608.rank)
  bcast_S_S1024x4608 : S_.BroadcastsInDim S1024x4608 (![] : Fin 0 → Fin S1024x4608.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4608 .f32) (main_arg1 : FVec F S1024x4608 .f32) (main_arg2 : FVec F S4096x1024 .f32) (main_arg3 : FVec F S4096x1024 .f32) (main_arg4 : FVec F S1x1024 .f32) : IVec S4096x4608 1 × IVec S1024x4608 1 × IVec S4096x1024 1 × IVec S1x1024 1 :=
  let main_v0 : FVec F S4096x4608 .f32 := Host.absf main_arg0
  let main_cst : FVec F S_ .f32 := constant S_ .f32 0x7F800000#32
  let main_v1 : FVec F S4096x4608 .f32 := broadcastInDim S4096x4608 ![] bcast_S_S4096x4608 main_cst
  let main_v2 : IVec S4096x4608 1 := cmpf .olt main_v0 main_v1
  let main_v3 : FVec F S1024x4608 .f32 := Host.absf main_arg1
  let main_cst_0 : FVec F S_ .f32 := constant S_ .f32 0x7F800000#32
  let main_v4 : FVec F S1024x4608 .f32 := broadcastInDim S1024x4608 ![] bcast_S_S1024x4608 main_cst_0
  let main_v5 : IVec S1024x4608 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_inputs.lean ====
abbrev S4096x4608 : Shape := ⟨2, ![4096, 4608]⟩
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩

class Facts : Prop where
  slices_S4096x4608_S4096x512_0_0 : S4096x4608.Slices ![0, 0] S4096x512
  bcast_S_S4096x512 : S_.BroadcastsInDim S4096x512 (![] : Fin 0 → Fin S4096x512.rank)
  bcast_S_S4x128x128 : S_.BroadcastsInDim S4x128x128 (![] : Fin 0 → Fin S4x128x128.rank)
  bcast_S_S1x512 : S_.BroadcastsInDim S1x512 (![] : Fin 0 → Fin S1x512.rank)

variable [Facts]

def fn {F : FTy → Type} [FloatOps F] (main_arg0 : FVec F S4096x4608 .f32) (main_arg1 : FVec F S4096x512 .f32) (main_arg2 : FVec F S4x128x128 .f32) (main_arg3 : FVec F S1x512 .f32) : IVec S4096x512 1 × IVec S4096x512 1 × IVec S4x128x128 1 × IVec S1x512 1 :=
  let main_v0 : FVec F S4096x512 .f32 := (extractStridedSlice S4096x512 ![0, 0] · slices_S4096x4608_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S4x128x128 .f32 := Host.absf main_arg2
  let main_cst_1 : FVec F S_ .f32 := constant S_ .f32 0x7F800000#32
  let main_v8 : FVec F S4x128x128 .f32 := broadcastInDim S4x128x128 ![] bcast_S_S4x128x128 main_cst_1
  let main_v9 : IVec S4x128x128 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  (main_v3, main_v6, main_v9, main_v12)
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S4096x1024 .f32) : IVec S4096x2816 1 × IVec S2816x1024 1 × IVec S4096x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x4608 : Shape := ⟨2, ![4096, 4608]⟩
abbrev S4096x512 : Shape := ⟨2, ![4096, 512]⟩
abbrev S4x128x128 : Shape := ⟨3, ![4, 128, 128]⟩
abbrev S1x512 : Shape := ⟨2, ![1, 512]⟩
abbrev S4096x128 : Shape := ⟨2, ![4096, 128]⟩
abbrev S1x128x128 : Shape := ⟨3, ![1, 128, 128]⟩
abbrev S1x128 : Shape := ⟨2, ![1, 128]⟩
abbrev S4112x128 : Shape := ⟨2, ![4112, 128]⟩
abbrev S16x128 : Shape := ⟨2, ![16, 128]⟩
abbrev S1024x128 : Shape := ⟨2, ![1024, 128]⟩
abbrev S128x128 : Shape := ⟨2, ![128, 128]⟩
abbrev S1040x128 : Shape := ⟨2, ![1040, 128]⟩
abbrev S1024x1 : Shape := ⟨2, ![1024, 1]⟩
abbrev S128 : Shape := ⟨1, ![128]⟩

abbrev nBuf : Space → Nat
  | .hbm => 7
  | .vmem => 17
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S4x128x128, .f32⟩
  | .hbm, ⟨3, _⟩ => ⟨S1x512, .f32⟩
  | .hbm, ⟨4, _⟩ => ⟨S4096x512, .bf16⟩
  | .hbm, ⟨5, _⟩ => ⟨S4x128x128, .f32⟩
  | .hbm, ⟨6, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S4112x128, .f32⟩
  | .local _ .vmem, ⟨15, _⟩ => ⟨S4112x128, .f32⟩
  | .local _ .vmem, ⟨16, _⟩ => ⟨S4096x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  v21
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v21 : BitVec 32 := Scalar.muli arg11 c1024_i32
  let v22 : BitVec 32 := v21
  let c16_i32 : BitVec 32 := 16#32
  let v25 : BitVec 32 := Scalar.addi v22 c16_i32
  let v26 : Index := Scalar.indexCast v25
  let c0_25 : Index := 0#32
  ![v26.toNat, 0]
@[reducible] def k0_t2_loop : Scf.Loop 32 :=
  let c0_i32_16 : BitVec 32 := 0#32
  let c4_i32_17 : BitVec 32 := 4#32
  let v19 : BitVec 32 := Scalar.addi c0_i32_16 c4_i32_17
  let c1_i32_18 : BitVec 32 := 1#32
  ⟨c0_i32_16, v19, c1_i32_18⟩
def k0_mult2 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  v21
def k0_off3 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off4 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v55 : Index := Scalar.indexCast v22
  let c0_33 : Index := 0#32
  ![v55.toNat, 0]
def k0_off5 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let c1024_i32 : BitVec 32 := 1024#32
  let v21 : BitVec 32 := Scalar.muli arg11 c1024_i32
  let v22 : BitVec 32 := v21
  let v81 : Index := Scalar.indexCast v22
  let c0_48 : Index := 0#32
  ![v81.toNat, 0]
@[reducible] def k0_t3_loop : Scf.Loop 32 :=
  let c0_i32_20 : BitVec 32 := 0#32
  let c4_i32_21 : BitVec 32 := 4#32
  let v20 : BitVec 32 := Scalar.addi c0_i32_20 c4_i32_21
  let c1_i32_22 : BitVec 32 := 1#32
  ⟨c0_i32_20, v20, c1_i32_22⟩
def k0_mult3 (k0_t3 : Fin k0_t3_loop.trips) : BitVec 32 :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  v21
def k0_off6 (k0_t3 : Fin k0_t3_loop.trips) : Fin 2 → Nat :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  let v22 : BitVec 32 := v21
  let v23 : Index := Scalar.indexCast v22
  let c0_24 : Index := 0#32
  ![v23.toNat, 0]
def k0_off7 (k0_t3 : Fin k0_t3_loop.trips) : Fin 2 → Nat :=
  let c0_i32_20 : BitVec 32 := 0#32
  let c1_i32_22 : BitVec 32 := 1#32
  let arg11 : BitVec 32 := Scf.iv c0_i32_20 c1_i32_22 k0_t3
  let c1024_i32 : BitVec 32 := 1024#32
  let v21 : BitVec 32 := Scalar.muli arg11 c1024_i32
  let v22 : BitVec 32 := v21
  let v40 : Index := Scalar.indexCast v22
  let c0_27 : Index := 0#32
  ![v40.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x4608 : Shape := ⟨2, ![4096, 4608]⟩
abbrev S4096x512 : Shape := ⟨2, ![4096, 512]⟩
abbrev S4x128x128 : Shape := ⟨3, ![4, 128, 128]⟩
abbrev S1x512 : Shape := ⟨2, ![1, 512]⟩
abbrev S4096x4x128 : Shape := ⟨3, ![4096, 4, 128]⟩
abbrev S_ : Shape := ⟨0, ![]⟩
abbrev S4096 : Shape := ⟨1, ![4096]⟩
abbrev S4096x1x128 : Shape := ⟨3, ![4096, 1, 128]⟩
abbrev S4096x128 : Shape := ⟨2, ![4096, 128]⟩
abbrev S2x128 : Shape := ⟨2, ![2, 128]⟩
abbrev S4094x128 : Shape := ⟨2, ![4094, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4x128x4096 : Shape := ⟨3, ![4, 128, 4096]⟩
abbrev S512 : Shape := ⟨1, ![512]⟩
abbrev S4x4096x128 : Shape := ⟨3, ![4, 4096, 128]⟩

abbrev nBuf : Space → Nat
  | .hbm => 200
  | .vmem => 0
  | .smem => 0
  | _ => 0

abbrev hbmTy0_0 (i : Nat) : BufTy := match i % 128 with
  | 0 => ⟨S4096x4608, .f32⟩
  | 1 => ⟨S4096x512, .f32⟩
  | 2 => ⟨S4x128x128, .f32⟩
  | 3 => ⟨S1x512, .f32⟩
  | 4 => ⟨S4096x512, .f32⟩
  | 5 => ⟨S4096x4x128, .f32⟩
  | 6 => ⟨S_, .f32⟩
  | 7 => ⟨S_, .f32⟩
  | 8 => ⟨S4096x4x128, .f32⟩
  | 9 => ⟨S4096, .i32⟩
  | 10 => ⟨S4096x1x128, .f32⟩
  | 11 => ⟨S4096x128, .f32⟩
  | 12 => ⟨S_, .f32⟩
  | 13 => ⟨S2x128, .f32⟩
  | 14 => ⟨S4094x128, .f32⟩
  | 15 => ⟨S4096x128, .f32⟩
  | 16 => ⟨S_, .f32⟩
  | 17 => ⟨S2x128, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x128, .f32⟩
  | 27 => ⟨S4096x128, .f32⟩
  | 28 => ⟨S4096x128, .f32⟩
  | 29 => ⟨S4096x1x128, .f32⟩
  | 30 => ⟨S4096x128, .f32⟩
  | 31 => ⟨S4096x128, .f32⟩
  | 32 => ⟨S4096x1x128, .f32⟩
  | 33 => ⟨S4096x128, .f32⟩
  | 34 => ⟨S_, .f32⟩
  | 35 => ⟨S4x128, .f32⟩
  | 36 => ⟨S4092x128, .f32⟩
  | 37 => ⟨S4096x128, .f32⟩
  | 38 => ⟨S_, .f32⟩
  | 39 => ⟨S4x128, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S4096x1, .f32⟩
  | 48 => ⟨S4096x128, .f32⟩
  | 49 => ⟨S4096x128, .f32⟩
  | 50 => ⟨S4096x128, .f32⟩
  | 51 => ⟨S4096x1x128, .f32⟩
  | 52 => ⟨S4096x128, .f32⟩
  | 53 => ⟨S4096x128, .f32⟩
  | 54 => ⟨S4096x1x128, .f32⟩
  | 55 => ⟨S4096x128, .f32⟩
  | 56 => ⟨S_, .f32⟩
  | 57 => ⟨S8x128, .f32⟩
  | 58 => ⟨S4088x128, .f32⟩
  | 59 => ⟨S4096x128, .f32⟩
  | 60 => ⟨S_, .f32⟩
  | 61 => ⟨S8x128, .f32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096, .f32⟩
  | 69 => ⟨S4096x1, .f32⟩
  | 70 => ⟨S4096x128, .f32⟩
  | 71 => ⟨S4096x128, .f32⟩
  | 72 => ⟨S4096x128, .f32⟩
  | 73 => ⟨S4096x1x128, .f32⟩
  | 74 => ⟨S4096x128, .f32⟩
  | 75 => ⟨S4096x128, .f32⟩
  | 76 => ⟨S4096x1x128, .f32⟩
  | 77 => ⟨S4096x128, .f32⟩
  | 78 => ⟨S_, .f32⟩
  | 79 => ⟨S16x128, .f32⟩
  | 80 => ⟨S4080x128, .f32⟩
  | 81 => ⟨S4096x128, .f32⟩
  | 82 => ⟨S_, .f32⟩
  | 83 => ⟨S16x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x1, .f32⟩
  | 92 => ⟨S4096x128, .f32⟩
  | 93 => ⟨S4096x128, .f32⟩
  | 94 => ⟨S4096x128, .f32⟩
  | 95 => ⟨S4096x1x128, .f32⟩
  | 96 => ⟨S4096x128, .f32⟩
  | 97 => ⟨S4096x128, .f32⟩
  | 98 => ⟨S4096x1x128, .f32⟩
  | 99 => ⟨S4096x1x128, .f32⟩
  | 100 => ⟨S4096x1x128, .f32⟩
  | 101 => ⟨S4096x1x128, .f32⟩
  | 102 => ⟨S4096x4x128, .f32⟩
  | 103 => ⟨S4x128x4096, .f32⟩
  | 104 => ⟨S4096x4x128, .f32⟩
  | 105 => ⟨S4096x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S4096x512, .f32⟩
  | 113 => ⟨S4096x512, .f32⟩
  | 114 => ⟨S4096x4x128, .f32⟩
  | 115 => ⟨S4x128x4096, .f32⟩
  | 116 => ⟨S4x4096x128, .f32⟩
  | 117 => ⟨S4096x4x128, .f32⟩
  | 118 => ⟨S4x128x128, .f32⟩
  | 119 => ⟨S4x128x128, .f32⟩
  | 120 => ⟨S4096x1x128, .f32⟩
  | 121 => ⟨S4096x128, .f32⟩
  | 122 => ⟨S4096x1x128, .f32⟩
  | 123 => ⟨S4096x128, .f32⟩
  | 124 => ⟨S4096x1x128, .f32⟩
  | 125 => ⟨S4096x128, .f32⟩
  | 126 => ⟨S4096x1x128, .f32⟩
  | 127 => ⟨S4096x128, .f32⟩
  | _ => ⟨S4096x4608, .f32⟩

abbrev hbmTy0_1 (i : Nat) : BufTy := match i % 128 with
  | 0 => ⟨S4096x128, .f32⟩
  | 1 => ⟨S4096x1x128, .f32⟩
  | 2 => ⟨S_, .f32⟩
  | 3 => ⟨S4096x4x128, .f32⟩
  | 4 => ⟨S4096x128, .f32⟩
  | 5 => ⟨S4096x128, .f32⟩
  | 6 => ⟨S4096x128, .f32⟩
  | 7 => ⟨S16x128, .f32⟩
  | 8 => ⟨S4080x128, .f32⟩
  | 9 => ⟨S_, .f32⟩
  | 10 => ⟨S4096x128, .f32⟩
  | 11 => ⟨S4096x128, .f32⟩
  | 12 => ⟨S4096x1x128, .f32⟩
  | 13 => ⟨S_, .f32⟩
  | 14 => ⟨S4096x4x128, .f32⟩
  | 15 => ⟨S4096x128, .f32⟩
  | 16 => ⟨S4096x1x128, .f32⟩
  | 17 => ⟨S_, .f32⟩
  | 18 => ⟨S4096x4x128, .f32⟩
  | 19 => ⟨S4096x4x128, .f32⟩
  | 20 => ⟨S4096x128, .f32⟩
  | 21 => ⟨S4096x128, .f32⟩
  | 22 => ⟨S4096x128, .f32⟩
  | 23 => ⟨S8x128, .f32⟩
  | 24 => ⟨S4088x128, .f32⟩
  | 25 => ⟨S_, .f32⟩
  | 26 => ⟨S4096x128, .f32⟩
  | 27 => ⟨S4096x128, .f32⟩
  | 28 => ⟨S4096x1x128, .f32⟩
  | 29 => ⟨S_, .f32⟩
  | 30 => ⟨S4096x4x128, .f32⟩
  | 31 => ⟨S4096x4x128, .f32⟩
  | 32 => ⟨S4096x128, .f32⟩
  | 33 => ⟨S4096x1x128, .f32⟩
  | 34 => ⟨S_, .f32⟩
  | 35 => ⟨S4096x4x128, .f32⟩
  | 36 => ⟨S4096x4x128, .f32⟩
  | 37 => ⟨S4096x128, .f32⟩
  | 38 => ⟨S4096x128, .f32⟩
  | 39 => ⟨S4096x128, .f32⟩
  | 40 => ⟨S4x128, .f32⟩
  | 41 => ⟨S4092x128, .f32⟩
  | 42 => ⟨S_, .f32⟩
  | 43 => ⟨S4096x128, .f32⟩
  | 44 => ⟨S4096x128, .f32⟩
  | 45 => ⟨S4096x1x128, .f32⟩
  | 46 => ⟨S_, .f32⟩
  | 47 => ⟨S4096x4x128, .f32⟩
  | 48 => ⟨S4096x4x128, .f32⟩
  | 49 => ⟨S4096x128, .f32⟩
  | 50 => ⟨S4096x1x128, .f32⟩
  | 51 => ⟨S_, .f32⟩
  | 52 => ⟨S4096x4x128, .f32⟩
  | 53 => ⟨S4096x4x128, .f32⟩
  | 54 => ⟨S4096x128, .f32⟩
  | 55 => ⟨S4096x128, .f32⟩
  | 56 => ⟨S4096x128, .f32⟩
  | 57 => ⟨S2x128, .f32⟩
  | 58 => ⟨S4094x128, .f32⟩
  | 59 => ⟨S_, .f32⟩
  | 60 => ⟨S4096x128, .f32⟩
  | 61 => ⟨S4096x128, .f32⟩
  | 62 => ⟨S4096x1x128, .f32⟩
  | 63 => ⟨S_, .f32⟩
  | 64 => ⟨S4096x4x128, .f32⟩
  | 65 => ⟨S4096x4x128, .f32⟩
  | 66 => ⟨S_, .f32⟩
  | 67 => ⟨S_, .f32⟩
  | 68 => ⟨S4096x4x128, .f32⟩
  | 69 => ⟨S4096x4x128, .f32⟩
  | 70 => ⟨S4096x512, .f32⟩
  | 71 => ⟨S4096x512, .bf16⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_16 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_18 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_19 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_21 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_22 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_23 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_24 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_25 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_26 : Ref sig .tc := ⟨.hbm, 191, rfl⟩
abbrev main_v157 : Ref sig .tc := ⟨.hbm, 192, rfl⟩
abbrev main_v158 : Ref sig .tc := ⟨.hbm, 193, rfl⟩
abbrev main_call1_call0_cst : Ref sig .tc := ⟨.hbm, 194, rfl⟩
abbrev main_call1_call0_v0 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S2048x1024 : Shape := ⟨2, ![2048, 1024]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 32
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .bf16⟩
  | .hbm, ⟨27, _⟩ => ⟨S2816x1024, .bf16⟩
  | .hbm, ⟨28, _⟩ => ⟨S4096x2816, .bf16⟩
  | .hbm, ⟨29, _⟩ => ⟨S4096x2816, .bf16⟩
  | .hbm, ⟨30, _⟩ => ⟨S4096x2816, .bf16⟩
  | .hbm, ⟨31, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x2816, .bf16⟩
  | .hbm, ⟨7, _⟩ => ⟨S4096x2816, .bf16⟩
  | .hbm, ⟨8, _⟩ => ⟨S1024x5632, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S1024x5632 : Shape := ⟨2, ![1024, 5632]⟩
abbrev S4096x256 : Shape := ⟨2, ![4096, 256]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S1024x5632, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S1024x256, .f32⟩
  | .local _ .vmem, ⟨6, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c11_i32 : BitVec 32 := 11#32
  let v1 : BitVec 1 := Scalar.cmpi .slt arg1 c11_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c11_i32_1 : BitVec 32 := 11#32
  let v5 : BitVec 1 := Scalar.cmpi .sge arg1 c11_i32_1
  let c22_i32 : BitVec 32 := 22#32
  let v6 : BitVec 1 := Scalar.cmpi .slt arg1 c22_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S512x1024 : Shape := ⟨2, ![512, 1024]⟩
abbrev S4096x256 : Shape := ⟨2, ![4096, 256]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .hbm, ⟨5, _⟩ => ⟨S512x1024, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S512x1024 : Shape := ⟨2, ![512, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S4096x1024, .bf16⟩
  | .hbm, ⟨5, _⟩ => ⟨S4096x1024, .bf16⟩
  | .hbm, ⟨6, _⟩ => ⟨S512x1024, .bf16⟩
  | .hbm, ⟨7, _⟩ => ⟨S1024x1024, .bf16⟩
  | .hbm, ⟨8, _⟩ => ⟨S4096x512, .f32⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S_, .f32⟩
  | .hbm, ⟨5, _⟩ => ⟨S4096x512, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel12.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S4096x512 : Shape := ⟨2, ![4096, 512]⟩
abbrev S512x512 : Shape := ⟨2, ![512, 512]⟩
abbrev S512x1024 : Shape := ⟨2, ![512, 1024]⟩
abbrev S1024x512 : Shape := ⟨2, ![1024, 512]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S4096x4608, .f32⟩
  | .hbm, ⟨1, _⟩ => ⟨S1024x4608, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x512, .f32⟩
  | .hbm, ⟨6, _⟩ => ⟨S4096x512, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S1024x4608, .bf16⟩
  | .hbm, ⟨16, _⟩ => ⟨S4096x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x4608, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference12Ideal.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S1024x4608, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4608, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel13.lean ====
abbrev S4096x1024 : Shape := ⟨2, ![4096, 1024]⟩
abbrev S4096x4608 : Shape := ⟨2, ![4096, 4608]⟩
abbrev S4096x512 : Shape := ⟨2, ![4096, 512]⟩
abbrev S1024x4608 : Shape := ⟨2, ![1024, 4608]⟩
abbrev S4096x256 : Shape := ⟨2, ![4096, 256]⟩
abbrev S1024x256 : Shape := ⟨2, ![1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S4096x512, .f32⟩
  | .hbm, ⟨3, _⟩ => ⟨S4096x512, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S1024x4608, .f32⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S1024x256, .f32⟩
  | .local _ .vmem, ⟨12, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 18], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let c6_i32 : BitVec 32 := 6#32
  let v6 : BitVec 1 := Scalar.cmpi .slt arg1 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c6_i32_3 : BitVec 32 := 6#32
  let v10 : BitVec 1 := Scalar.cmpi .sge arg1 c6_i32_3
  let c10_i32 : BitVec 32 := 10#32
  let v11 : BitVec 1 := Scalar.cmpi .slt arg1 c10_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c10_i32_5 : BitVec 32 := 10#32
  let v15 : BitVec 1 := Scalar.cmpi .sge arg1 c10_i32_5
  let c14_i32 : BitVec 32 := 14#32
  let v16 : BitVec 1 := Scalar.cmpi .slt arg1 c14_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c14_i32_7 : BitVec 32 := 14#32
  let v20 : BitVec 1 := Scalar.cmpi .sge arg1 c14_i32_7
  let c18_i32 : BitVec 32 := 18#32
  let v21 : BitVec 1 := Scalar.cmpi .slt arg1 c18_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S_, .f32⟩
  | .hbm, ⟨3, _⟩ => ⟨S1024x4608, .f32⟩
  | .hbm, ⟨4, _⟩ => ⟨S4096x4608, .f32⟩
  | .hbm, ⟨5, _⟩ => ⟨S4608x1024, .f32⟩
  | .hbm, ⟨6, _⟩ => ⟨S1024x4608, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S4096x4608 : Shape := ⟨2, ![4096, 4608]⟩
abbrev S512x1024 : Shape := ⟨2, ![512, 1024]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x4608, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference14Ideal.lean ====
abbrev S4096x1024 : Shape := ⟨2, ![4096, 1024]⟩
abbrev S1024x1024 : Shape := ⟨2, ![1024, 1024]⟩
abbrev S4096x4608 : Shape := ⟨2, ![4096, 4608]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x4608, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x4608 : Shape := ⟨2, ![1024, 4608]⟩
abbrev S4096x4608 : Shape := ⟨2, ![4096, 4608]⟩
abbrev S512x1024 : Shape := ⟨2, ![512, 1024]⟩
abbrev S1024x1536 : Shape := ⟨2, ![1024, 1536]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4608, .f32⟩
  | .hbm, ⟨3, _⟩ => ⟨S1024x4608, .bf16⟩
  | .hbm, ⟨4, _⟩ => ⟨S4096x4608, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S512x1536, .f32⟩
  | .local _ .vmem, ⟨6, _⟩ => ⟨S512x1536, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4096x1024 : Shape := ⟨2, ![4096, 1024]⟩
abbrev S1x1024 : Shape := ⟨2, ![1, 1024]⟩
abbrev S1024x4608 : Shape := ⟨2, ![1024, 4608]⟩
abbrev S_ : Shape := ⟨0, ![]⟩
abbrev S4096 : Shape := ⟨1, ![4096]⟩
abbrev S4096x1 : Shape := ⟨2, ![4096, 1]⟩
abbrev S4096x4608 : Shape := ⟨2, ![4096, 4608]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4608, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4608, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel16.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x4608 : Shape := ⟨2, ![4096, 4608]⟩
abbrev S1024x512 : Shape := ⟨2, ![1024, 512]⟩
abbrev S512x256 : Shape := ⟨2, ![512, 256]⟩
abbrev S1024x256 : Shape := ⟨2, ![1024, 256]⟩
abbrev S256x1024 : Shape := ⟨2, ![256, 1024]⟩
abbrev S512x512 : Shape := ⟨2, ![512, 512]⟩

abbrev nBuf : Space → Nat
  | .hbm => 18
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S4096x4608, .f32⟩
  | .hbm, ⟨5, _⟩ => ⟨S1024x1024, .f32⟩
  | .hbm, ⟨6, _⟩ => ⟨S4096x1024, .f32⟩
  | .hbm, ⟨7, _⟩ => ⟨S4096x512, .bf16⟩
  | .hbm, ⟨8, _⟩ => ⟨S4096x1024, .bf16⟩
  | .hbm, ⟨9, _⟩ => ⟨S512x1024, .bf16⟩
  | .hbm, ⟨10, _⟩ => ⟨S1024x1024, .bf16⟩
  | .hbm, ⟨11, _⟩ => ⟨S1024x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x256, .bf16⟩
  | .local _ .vmem, ⟨5, _⟩ => ⟨S512x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S256x1024, .bf16⟩
  | .local _ .vmem, ⟨13, _⟩ => ⟨S256x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x1024, .f32⟩
  | .local _ .vmem, ⟨27, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference16Ideal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x4608 : Shape := ⟨2, ![4096, 4608]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .hbm, ⟨3, _⟩ => ⟨S1024x1024, .f32⟩
  | .hbm, ⟨4, _⟩ => ⟨S4096x4608, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Sums.lean ====
/- The sums of the pooling mixer: a trailing window, a leading window cut at the sequence's end, running sums from
   either side and their differences. Nothing here mentions a program. -/
module

public import Mathlib.Algebra.BigOperators.Intervals
public import Mathlib.Data.EReal.Operations
public import Mathlib.Tactic.Ring
public import Mathlib.Tactic.Linarith
public import Mathlib.Tactic.Positivity

@[expose] public section

noncomputable section

namespace Cert.Pool

open Finset

/-! ## Windows -/

variable {M : Type} [AddCommMonoid M]

/-- The sum of the `w` entries that end at `t`, those before the start left out. -/
def trail (w : ℕ) (f : ℕ → M) (t : ℕ) : M := ∑ i ∈ range w, if i ≤ t then f (t - i) else 0

/-- The sum of the `w` entries that begin at `t`, those at `n` or beyond left out. -/
def lead (w n : ℕ) (f : ℕ → M) (t : ℕ) : M := ∑ i ∈ range w, if t + i < n then f (t + i) else 0

/-- How many entries a trailing window of width `w` has at position `t`. -/
def cnt (w t : ℕ) : ℝ := ((min (t + 1) w : ℕ) : ℝ)

theorem cnt_ne {w : ℕ} (hw : 0 < w) (t : ℕ) : cnt w t ≠ 0 := by
  unfold cnt
  exact Nat.cast_ne_zero.mpr (by omega)

/-- A sum over a range with the entries at `m` or beyond left out is the sum over the shorter range. -/
theorem sum_range_if_lt (m d : ℕ) (f : ℕ → M) :
    (∑ k ∈ range (m + d), if k < m then f k else 0) = ∑ k ∈ range m, f k := by
  rw [sum_range_add, sum_eq_zero (s := range d) fun k _ => if_neg (by omega), add_zero]
  exact sum_congr rfl fun k hk => if_pos (mem_range.1 hk)

/-- A trailing window is a difference of two running sums. -/
theorem trail_eq_sub (w : ℕ) (f : ℕ → ℝ) (t : ℕ) :
    (∑ i ∈ range (t + 1), f i) - (if t < w then 0 else ∑ i ∈ range (t - w + 1), f i) = trail w f t := by
  unfold trail
  split
  · next h =>
    obtain ⟨d, rfl⟩ : ∃ d, w = (t + 1) + d := ⟨w - (t + 1), by omega⟩
    rw [sub_zero, ← sum_range_reflect f (t + 1)]
    have e := sum_range_if_lt (t + 1) d fun i => f (t - i)
    simp only [Nat.lt_succ_iff] at e
    rw [e]
    rfl
  · next h =>
    obtain ⟨d, rfl⟩ : ∃ d, t = w + d := ⟨t - w, by omega⟩
    rw [show w + d + 1 = (d + 1) + w by omega, show w + d - w + 1 = d + 1 by omega, sum_range_add, add_sub_cancel_left,
      ← sum_range_reflect (fun x => f (d + 1 + x)) w]
    refine sum_congr rfl fun i hi => ?_
    have := mem_range.1 hi
    rw [if_pos (by omega)]
    congr 1
    omega

/-- A leading window that reaches as far as the sequence is the sum of what is left of it. -/
theorem lead_long {n t w : ℕ} (ht : t ≤ n) (hw : n - t ≤ w) (f : ℕ → M) : lead w n f t = ∑ k ∈ range (n - t), f (t + k) := by
  unfold lead
  obtain ⟨d, rfl⟩ : ∃ d, w = (n - t) + d := ⟨w - (n - t), by omega⟩
  rw [← sum_range_if_lt (n - t) d fun k => f (t + k)]
  refine sum_congr rfl fun k _ => ?_
  by_cases h : t + k < n
  · rw [if_pos h, if_pos (by omega)]
  · rw [if_neg h, if_neg (by omega)]

/-- A leading window is what is left of the sequence, less the same `w` places on. -/
theorem lead_eq_sub (w n : ℕ) (z : ℕ → ℝ) (t : ℕ) (ht : t ≤ n) :
    lead n n (fun s => z s + if s + w < n then -z (s + w) else 0) t = lead w n z t := by
  rw [lead_long ht (by omega), sum_add_distrib]
  by_cases h : n - t ≤ w
  · rw [lead_long ht h, sum_eq_zero (f := fun k => if t + k + w < n then -z (t + k + w) else 0), add_zero]
    intro k _
    exact if_neg (by omega)
  · obtain ⟨d, hd⟩ : ∃ d, n - t = w + d := ⟨n - t - w, by omega⟩
    have e1 : lead w n z t = ∑ k ∈ range w, z (t + k) :=
      sum_congr rfl fun k hk => if_pos (by have := mem_range.1 hk; omega)
    have e2 : (∑ k ∈ range (n - t), if t + k + w < n then -z (t + k + w) else 0) = ∑ k ∈ range d, -z (t + (w + k)) := by
      rw [show n - t = d + w by omega, ← sum_range_if_lt d w fun k => -z (t + (w + k))]
      refine sum_congr rfl fun k _ => ?_
      by_cases hk : k < d
      · rw [if_pos hk, if_pos (by omega), show t + k + w = t + (w + k) by omega]
      · rw [if_neg hk, if_neg (by omega)]
    rw [e1, e2, hd, sum_range_add, sum_neg_distrib]
    ring

/-! ## Windows by doubling, in a sequence with a halo -/

/-- The sum of the `w` entries that end at `r`. -/
def back (w : ℕ) (v : ℕ → M) (r : ℕ) : M := ∑ i ∈ range w, v (r - i)

/-- The sum of the `w` entries that begin at `r`. -/
def ahead (w : ℕ) (v : ℕ → M) (r : ℕ) : M := ∑ i ∈ range w, v (r + i)

theorem back_one (v : ℕ → M) (r : ℕ) : back 1 v r = v r := by simp [back]

theorem ahead_one (v : ℕ → M) (r : ℕ) : ahead 1 v r = v r := by simp [ahead]

theorem back_double (w : ℕ) (v : ℕ → M) (r : ℕ) : back w v r + back w v (r - w) = back (2 * w) v r := by
  unfold back
  rw [two_mul, sum_range_add]
  congr 1
  refine sum_congr rfl fun i _ => ?_
  rw [Nat.sub_sub]

theorem ahead_double (w : ℕ) (v : ℕ → M) (r : ℕ) : ahead w v r + ahead w v (r + w) = ahead (2 * w) v r := by
  unfold ahead
  rw [two_mul, sum_range_add]
  congr 1
  refine sum_congr rfl fun i _ => ?_
  rw [Nat.add_assoc]

/-- A sequence after sixteen zeros. -/
def after16 (u : ℕ → M) (r : ℕ) : M := if r < 16 then 0 else u (r - 16)

/-- A sequence cut at `n`, zeros beyond. -/
def cut (n : ℕ) (z : ℕ → M) (r : ℕ) : M := if r < n then z r else 0

theorem back_after16 (w : ℕ) (u : ℕ → M) (t : ℕ) : back w (after16 u) (t + 16) = trail w u t := by
  refine sum_congr rfl fun i hi => ?_
  have := mem_range.1 hi
  unfold after16
  by_cases h : i ≤ t
  · rw [if_pos h, if_neg (by omega), show t + 16 - i - 16 = t - i by omega]
  · rw [if_neg h, if_pos (by omega)]

theorem ahead_cut (w n : ℕ) (z : ℕ → M) (t : ℕ) : ahead w (cut n z) t = lead w n z t := rfl

/-- A group's window width. -/
def width (g : ℕ) : ℕ := 2 * 2 ^ g

theorem width_pos (g : ℕ) : 0 < width g := by unfold width; positivity

/-- The columns of group `g`. -/
def cols (a : ℕ → ℕ → M) (g t c : ℕ) : M := a t (g * 128 + c)

/-! ## Sums of reals among the extended reals -/

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A product of a choice of reals. -/
theorem coe_choice (p : Prop) [Decidable p] (a b : ℝ) : ((if p then a else b : ℝ) : EReal) = if p then (a : EReal) else (b : EReal) := by
  split <;> rfl

/-- A trailing window of reals is the same window among the extended reals. -/
theorem coe_trail (w : ℕ) (f : ℕ → ℝ) (t : ℕ) : ((trail w f t : ℝ) : EReal) = trail w (fun s => (f s : EReal)) t := by
  unfold trail
  rw [coe_sum]
  exact sum_congr rfl fun i _ => coe_choice _ _ _

/-- A leading window of reals is the same window among the extended reals. -/
theorem coe_lead (w n : ℕ) (f : ℕ → ℝ) (t : ℕ) : ((lead w n f t : ℝ) : EReal) = lead w n (fun s => (f s : EReal)) t := by
  unfold lead
  rw [coe_sum]
  exact sum_congr rfl fun i _ => coe_choice _ _ _

end Cert.Pool

end
-- ==== Proof.Mixer.lean ====
/- The pooling mixer's gradients over one group of channels, as sums of extended reals over positions and channels numbered by the natural
   numbers. Both programs are shown to compute these. -/
module

public import proofs.«01_k».proof.Proof.Sums
public import Idealize.ShloMosaic.Lib.Pointwise

@[expose] public section

noncomputable section

namespace Cert.Pool

open Finset Idealize.ShloMosaic

/-! ## The mixer's gradients over one group of channels -/

/-- The mean of the trailing window, less the entry itself. -/
def pooled (w : ℕ) (u : ℕ → ℕ → EReal) (t c : ℕ) : EReal := Ideal.div (trail w (fun s => u s c) t) ((cnt w t : ℝ) : EReal) - u t c

/-- The cotangent of the mixed channels. -/
def dmix (dm : ℕ → ℕ → EReal) (s : ℕ → EReal) (t d : ℕ) : EReal := dm t d * s d

/-- The cotangent of the pooled channels. -/
def dpool (dm : ℕ → ℕ → EReal) (s : ℕ → EReal) (wt : ℕ → ℕ → EReal) (t c : ℕ) : EReal := ∑ d ∈ range 128, dmix dm s t d * wt c d

/-- The cotangent of the mixer's input over `n` positions. -/
def dinput (n w : ℕ) (dm : ℕ → ℕ → EReal) (s : ℕ → EReal) (wt : ℕ → ℕ → EReal) (t c : ℕ) : EReal :=
  lead w n (fun r => Ideal.div (dpool dm s wt r c) ((cnt w r : ℝ) : EReal)) t - dpool dm s wt t c

/-- The gradient of the group's weights, summed over the first `n` positions. -/
def dweight (n w : ℕ) (u dm : ℕ → ℕ → EReal) (s : ℕ → EReal) (c d : ℕ) : EReal := ∑ t ∈ range n, pooled w u t c * dmix dm s t d

/-- The group's mixed channels, before the scale. -/
def mixed (w : ℕ) (u : ℕ → ℕ → EReal) (wt : ℕ → ℕ → EReal) (t d : ℕ) : EReal := ∑ c ∈ range 128, pooled w u t c * wt c d

/-- The gradient of the group's scale, summed over the first `n` positions. -/
def dscale (n w : ℕ) (u dm : ℕ → ℕ → EReal) (wt : ℕ → ℕ → EReal) (d : ℕ) : EReal := ∑ t ∈ range n, dm t d * mixed w u wt t d

/-! ## Arrays as functions of natural numbers -/

/-- A matrix as a function of natural numbers, zero outside. -/
def nat2 {R C : ℕ} (x : (⟨2, ![R, C]⟩ : Shape).Idx → EReal) (t c : ℕ) : EReal := if h : t < R ∧ c < C then x (ix2 ⟨t, h.1⟩ ⟨c, h.2⟩) else 0

/-- An array of matrices as a function of natural numbers, zero outside. -/
def nat3 {G R C : ℕ} (x : (⟨3, ![G, R, C]⟩ : Shape).Idx → EReal) (g t c : ℕ) : EReal :=
  if h : g < G ∧ t < R ∧ c < C then x (ix3 ⟨g, h.1⟩ ⟨t, h.2.1⟩ ⟨c, h.2.2⟩) else 0

theorem nat2_apply {R C : ℕ} (x : (⟨2, ![R, C]⟩ : Shape).Idx → EReal) (t : Fin R) (c : Fin C) : nat2 x t c = x (ix2 t c) :=
  dif_pos ⟨t.isLt, c.isLt⟩

theorem nat3_apply {G R C : ℕ} (x : (⟨3, ![G, R, C]⟩ : Shape).Idx → EReal) (g : Fin G) (t : Fin R) (c : Fin C) :
    nat3 x g t c = x (ix3 g t c) :=
  dif_pos ⟨g.isLt, t.isLt, c.isLt⟩

theorem nat2_mk {R C : ℕ} (x : (⟨2, ![R, C]⟩ : Shape).Idx → EReal) {r d : ℕ} (hr : r < R) (hd : d < C) :
    nat2 x r d = x (ix2 (⟨r, hr⟩ : Fin R) (⟨d, hd⟩ : Fin C)) := nat2_apply x ⟨r, hr⟩ ⟨d, hd⟩

theorem nat3_mk {G R C : ℕ} (x : (⟨3, ![G, R, C]⟩ : Shape).Idx → EReal) {g r d : ℕ} (hg : g < G) (hr : r < R) (hd : d < C) :
    nat3 x g r d = x (ix3 (⟨g, hg⟩ : Fin G) (⟨r, hr⟩ : Fin R) (⟨d, hd⟩ : Fin C)) := nat3_apply x ⟨g, hg⟩ ⟨r, hr⟩ ⟨d, hd⟩

/-! ## The gradients depend on the entries within the extents alone -/

theorem pooled_congr {w t c : ℕ} {u u' : ℕ → ℕ → EReal} (hu : ∀ s, s ≤ t → u s c = u' s c) : pooled w u t c = pooled w u' t c := by
  unfold pooled trail
  rw [hu t le_rfl]
  congr 2
  refine sum_congr rfl fun i _ => ?_
  by_cases h : i ≤ t
  · rw [if_pos h, if_pos h]
    exact hu _ (Nat.sub_le _ _)
  · rw [if_neg h, if_neg h]

theorem dpool_congr {t c : ℕ} {dm dm' : ℕ → ℕ → EReal} {s s' : ℕ → EReal} {wt wt' : ℕ → ℕ → EReal} (hdm : ∀ d, d < 128 → dm t d = dm' t d)
    (hs : ∀ d, d < 128 → s d = s' d) (hwt : ∀ d, d < 128 → wt c d = wt' c d) : dpool dm s wt t c = dpool dm' s' wt' t c := by
  refine sum_congr rfl fun d hd => ?_
  have hd' := mem_range.1 hd
  unfold dmix
  rw [hdm d hd', hs d hd', hwt d hd']

theorem dinput_congr {n w t c : ℕ} (ht : t < n) {dm dm' : ℕ → ℕ → EReal} {s s' : ℕ → EReal} {wt wt' : ℕ → ℕ → EReal}
    (hdm : ∀ r d, r < n → d < 128 → dm r d = dm' r d) (hs : ∀ d, d < 128 → s d = s' d) (hwt : ∀ d, d < 128 → wt c d = wt' c d) :
    dinput n w dm s wt t c = dinput n w dm' s' wt' t c := by
  unfold dinput lead
  rw [dpool_congr (fun d hd => hdm t d ht hd) hs hwt]
  congr 1
  refine sum_congr rfl fun i _ => ?_
  by_cases h : t + i < n
  · rw [if_pos h, if_pos h]
    dsimp only
    rw [dpool_congr (fun d hd => hdm _ d h hd) hs hwt]
  · rw [if_neg h, if_neg h]

theorem dweight_congr {n w c d : ℕ} {u u' dm dm' : ℕ → ℕ → EReal} {s s' : ℕ → EReal} (hu : ∀ t, t < n → u t c = u' t c)
    (hdm : ∀ t, t < n → dm t d = dm' t d) (hs : s d = s' d) : dweight n w u dm s c d = dweight n w u' dm' s' c d := by
  refine sum_congr rfl fun t ht => ?_
  have ht' := mem_range.1 ht
  unfold dmix
  rw [pooled_congr fun r hr => hu r (by omega), hdm t ht', hs]

theorem dscale_congr {n w d : ℕ} {u u' dm dm' : ℕ → ℕ → EReal} {wt wt' : ℕ → ℕ → EReal} (hu : ∀ t c, t < n → c < 128 → u t c = u' t c)
    (hdm : ∀ t, t < n → dm t d = dm' t d) (hwt : ∀ c, c < 128 → wt c d = wt' c d) : dscale n w u dm wt d = dscale n w u' dm' wt' d := by
  refine sum_congr rfl fun t ht => ?_
  have ht' := mem_range.1 ht
  rw [hdm t ht']
  congr 1
  refine sum_congr rfl fun c hc => ?_
  have hc' := mem_range.1 hc
  rw [pooled_congr fun r hr => hu r c (by omega) hc', hwt c hc']

/-! ## The whole arrays -/

/-- The columns of group `g` of the one row of scales. -/
def scales {C : ℕ} (x : (⟨2, ![1, C]⟩ : Shape).Idx → EReal) (g d : ℕ) : EReal := nat2 x 0 (g * 128 + d)

/-- The cotangent of the mixer's input. -/
def duAll (dm : (⟨2, ![4096, 512]⟩ : Shape).Idx → EReal) (wt : (⟨3, ![4, 128, 128]⟩ : Shape).Idx → EReal) (s : (⟨2, ![1, 512]⟩ : Shape).Idx → EReal)
    (t q : ℕ) : EReal :=
  dinput 4096 (width (q / 128)) (cols (nat2 dm) (q / 128)) (scales s (q / 128)) (nat3 wt (q / 128)) t (q % 128)

/-- The gradient of the weights. -/
def dwAll (u : (⟨2, ![4096, 4608]⟩ : Shape).Idx → EReal) (dm : (⟨2, ![4096, 512]⟩ : Shape).Idx → EReal) (s : (⟨2, ![1, 512]⟩ : Shape).Idx → EReal)
    (g a b : ℕ) : EReal :=
  dweight 4096 (width g) (cols (nat2 u) g) (cols (nat2 dm) g) (scales s g) a b

/-- The gradient of the scales. -/
def dsAll (u : (⟨2, ![4096, 4608]⟩ : Shape).Idx → EReal) (dm : (⟨2, ![4096, 512]⟩ : Shape).Idx → EReal)
    (wt : (⟨3, ![4, 128, 128]⟩ : Shape).Idx → EReal) (q : ℕ) : EReal :=
  dscale 4096 (width (q / 128)) (cols (nat2 u) (q / 128)) (cols (nat2 dm) (q / 128)) (nat3 wt (q / 128)) (q % 128)

end Cert.Pool

end
-- ==== Proof.Finiteness.lean ====
/- The precondition read at an entry: every entry it looks at is a real number. -/
module

public import proofs.«01_k».proof.Defs
public import proofs.«01_k».proof.Proof.Mixer

@[expose] public section

set_option maxRecDepth 16384

noncomputable section

namespace Cert.Pool

open Idealize.ShloMosaic

/-- The side conditions of the precondition. -/
theorem preFacts : Cert.Pre_finite_inputs.Facts where
  slices_S4096x4608_S4096x512_0_0 := by decide +kernel
  bcast_S_S4096x512 := by decide +kernel
  bcast_S_S4x128x128 := by decide +kernel
  bcast_S_S1x512 := by decide +kernel

/-- A value whose absolute value is below the infinity is a real number. -/
theorem real_of_below (x : Ideal .f32)
    (h : FloatOps.cmpf .olt (FloatOps.hostAbsf x) (FloatOps.ofBits (F := Ideal) .f32 0x7F800000#32) = 1#1) : ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  have h1 : (x : EReal) ≠ ⊤ := hlt.1.ne
  have h2 : (x : EReal) ≠ ⊥ := fun e => by
    rw [e] at hlt
    simp at hlt
  exact ⟨(x : EReal).toReal, (EReal.coe_toReal h1 h2).symm⟩

attribute [local instance] preFacts

variable (u : FVec Ideal Cert.Pre_finite_inputs.S4096x4608 .f32) (dm : FVec Ideal Cert.Pre_finite_inputs.S4096x512 .f32)
  (wt : FVec Ideal Cert.Pre_finite_inputs.S4x128x128 .f32) (sc : FVec Ideal Cert.Pre_finite_inputs.S1x512 .f32)

theorem pre_u (h : (Cert.Pre_finite_inputs.fn (F := Ideal) u dm wt sc).1 = fun _ => 1#1) (g t c : ℕ) (hg : g < 4) (ht : t < 4096) (hc : c < 128) :
    ∃ r : ℝ, cols (nat2 u) g t c = r := by
  unfold cols
  rw [nat2_mk u ht (show g * 128 + c < 4608 by omega)]
  refine real_of_below _ ?_
  have := congrFun h (ix2 (⟨t, ht⟩ : Fin 4096) (⟨g * 128 + c, by omega⟩ : Fin 512))
  unfold Cert.Pre_finite_inputs.fn at this
  dsimp only at this
  rw [← this]
  symm
  pointwise

theorem pre_dm (h : (Cert.Pre_finite_inputs.fn (F := Ideal) u dm wt sc).2.1 = fun _ => 1#1) (g t c : ℕ) (hg : g < 4) (ht : t < 4096) (hc : c < 128) :
    ∃ r : ℝ, cols (nat2 dm) g t c = r := by
  unfold cols
  rw [nat2_mk dm ht (show g * 128 + c < 512 by omega)]
  exact real_of_below _ (congrFun h (ix2 (⟨t, ht⟩ : Fin 4096) (⟨g * 128 + c, by omega⟩ : Fin 512)))

theorem pre_wt (h : (Cert.Pre_finite_inputs.fn (F := Ideal) u dm wt sc).2.2.1 = fun _ => 1#1) (g a b : ℕ) (hg : g < 4) (ha : a < 128) (hb : b < 128) :
    ∃ r : ℝ, nat3 wt g a b = r := by
  rw [nat3_mk wt hg ha hb]
  exact real_of_below _ (congrFun h (ix3 (⟨g, hg⟩ : Fin 4) (⟨a, ha⟩ : Fin 128) (⟨b, hb⟩ : Fin 128)))

theorem pre_sc (h : (Cert.Pre_finite_inputs.fn (F := Ideal) u dm wt sc).2.2.2 = fun _ => 1#1) (g c : ℕ) (hg : g < 4) (hc : c < 128) :
    ∃ r : ℝ, scales sc g c = r := by
  unfold scales
  rw [nat2_mk sc Nat.one_pos (show g * 128 + c < 512 by omega)]
  exact real_of_below _ (congrFun h (ix2 (⟨0, Nat.one_pos⟩ : Fin 1) (⟨g * 128 + c, by omega⟩ : Fin 512)))

end Cert.Pool

end
-- ==== Proof.Reals.lean ====
/- Real numbers among the extended reals, the constants of the feed-forward layer, and the logistic function. -/
module

public import proofs.«01_k».proof.Proof.Finiteness

@[expose] public section

noncomputable section

namespace Cert.Ffn

open Idealize.ShloMosaic

/-- The value is a real number. -/
def IsReal (x : EReal) : Prop := ∃ r : ℝ, x = r

theorem isReal_coe (r : ℝ) : IsReal r := ⟨r, rfl⟩

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_sum {n : ℕ} {f : Fin n → EReal} (h : ∀ k, IsReal (f k)) : IsReal (∑ k, f k) := by
  choose r hr using h
  exact ⟨∑ k, r k, by rw [Cert.Pool.coe_sum]; exact Finset.sum_congr rfl fun k _ => hr k⟩

theorem ofBits_zero : Ideal.ofBits .f32 0x00000000#32 = 0 := by simp [Ideal.ofBits, Ideal.ieee]

theorem ofBits_one : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

theorem ofBits_half : Ideal.ofBits .f32 0x3F000000#32 = ((1 / 2 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_width : Ideal.ofBits .f32 0x44800000#32 = ((1024 : ℝ) : EReal) := by
  simp [Ideal.ofBits, Ideal.ieee, -EReal.coe_mul]
  norm_num

theorem ofBits_inv_width : Ideal.ofBits .f32 0x3A800000#32 = ((1 / 1024 : ℝ) : EReal) := by
  simp [Ideal.ofBits, Ideal.ieee, -EReal.coe_mul]
  norm_num

/-- The norm's small constant is a positive real number. -/
theorem ofBits_eps : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-- The logistic function. -/
def sg (a : EReal) : EReal := Ideal.div 1 (1 + Ideal.exp (-a))

theorem sg_coe (a : ℝ) : sg a = ((1 / (1 + Real.exp (-a)) : ℝ) : EReal) := by
  have h : (1 : EReal) + Ideal.exp (-(a : EReal)) = ((1 + Real.exp (-a) : ℝ) : EReal) := by
    rw [← EReal.coe_neg, Ideal.exp_coe, EReal.coe_add, EReal.coe_one]
  have hp : (1 + Real.exp (-a) : ℝ) ≠ 0 := (by positivity : (0 : ℝ) < 1 + Real.exp (-a)).ne'
  unfold sg
  rw [h, Ideal.div_coe hp, one_mul]

theorem sg_top : sg ⊤ = 1 := by
  have h : (1 : EReal) + Ideal.exp (-⊤) = ((1 : ℝ) : EReal) := by
    rw [EReal.neg_top, Ideal.exp_bot, add_zero, EReal.coe_one]
  unfold sg
  rw [h, Ideal.div_coe one_ne_zero]
  norm_num

theorem sg_bot : sg ⊥ = 0 := by
  have h : (1 : EReal) + Ideal.exp (-⊥) = ⊤ := by
    rw [EReal.neg_bot, Ideal.exp_top]
    exact EReal.coe_add_top 1
  unfold sg Ideal.div
  rw [h, if_neg (by simp), EReal.inv_top, mul_zero]

/-- The logistic function through the hyperbolic tangent. -/
theorem sg_tanh (a : EReal) : ((1 / 2 : ℝ) : EReal) * Ideal.tanh (((1 / 2 : ℝ) : EReal) * a) + ((1 / 2 : ℝ) : EReal) = sg a := by
  induction a with
  | bot =>
    rw [sg_bot, EReal.coe_mul_bot_of_pos (by norm_num), Ideal.tanh_bot, show (-1 : EReal) = ((-1 : ℝ) : EReal) by simp, ← EReal.coe_mul, ← EReal.coe_add]
    norm_num
  | top =>
    rw [sg_top, EReal.coe_mul_top_of_pos (by norm_num), Ideal.tanh_top, show (1 : EReal) = ((1 : ℝ) : EReal) by simp, ← EReal.coe_mul, ← EReal.coe_add]
    norm_num
  | coe a =>
    rw [sg_coe, ← EReal.coe_mul, Ideal.tanh_coe, ← EReal.coe_mul, ← EReal.coe_add, EReal.coe_eq_coe_iff, Real.tanh_eq_sinh_div_cosh, Real.sinh_eq, Real.cosh_eq]
    have h1 : Real.exp (-a) = Real.exp (-(1 / 2 * a)) * Real.exp (-(1 / 2 * a)) := by rw [← Real.exp_add]; congr 1; ring
    have h2 : Real.exp (1 / 2 * a) * Real.exp (-(1 / 2 * a)) = 1 := by rw [← Real.exp_add]; simp
    have p1 := Real.exp_pos (1 / 2 * a)
    have p2 := Real.exp_pos (-(1 / 2 * a))
    rw [h1]
    generalize Real.exp (1 / 2 * a) = x at *
    generalize Real.exp (-(1 / 2 * a)) = y at *
    have : x = 1 / y := by field_simp; linarith
    subst this
    field_simp
    ring

/-- The derivative of the gated product with respect to the gate, the cotangent put in after or before. -/
theorem gate_cotangent {d u : EReal} (a : EReal) (hd : IsReal d) (hu : IsReal u) :
    d * (u * sg a + a * u * (sg a * (1 - sg a))) = d * u * sg a + a * (d * u) * (sg a * (1 - sg a)) := by
  obtain ⟨d, rfl⟩ := hd
  obtain ⟨u, rfl⟩ := hu
  have h1 : (1 : EReal) - 1 = 0 := by rw [show (1 : EReal) = ((1 : ℝ) : EReal) by simp, ← EReal.coe_sub]; simp
  induction a with
  | bot => simp [sg_bot]
  | top => simp [sg_top, h1]
  | coe a =>
    rw [sg_coe, show (1 : EReal) = ((1 : ℝ) : EReal) by simp]
    simp only [← EReal.coe_mul, ← EReal.coe_add, ← EReal.coe_sub]
    congr 1
    ring

end Cert.Ffn

end
-- ==== Proof.FfnOutBwd.lean ====
/- The derivative of the gated product of the feed-forward layer: the call's two results and the reference's. -/
module

public import proofs.«01_k».proof.Defs
public import proofs.«01_k».proof.Proof.Gen.Kernel2Ideal.Value
public import proofs.«01_k».proof.Proof.Gen.Reference2Ideal.Run
public import proofs.«01_k».proof.Proof.Reals
public import Idealize.ShloMosaic.Lib.Pointwise
public import Idealize.ShloMosaic.Lib.Pipeline.Value
public import Idealize.ShloMosaic.Lib.Pipeline.ValueKit

@[expose] public section

set_option maxRecDepth 16384

noncomputable section

namespace Cert.FfnOutBwd

open Idealize.ShloMosaic Idealize.ShloMosaic.TcCoe Idealize.SL.Sem
open Idealize.ShloMosaic.Pipeline (Dat Cfg Window)
open Cert.Kernel2Ideal Cert.Kernel2Ideal.Gen

variable (m : (ℓ : Loc nD τ sig) → Buf (Elt Ideal) ℓ) (ρ : Dev nD → PrngReg)

/-- One entry of a stretch of rows: the cotangent of the product times the saved factor. -/
def dotTimes {a b k : ℕ} (x : (⟨2, ![a, k]⟩ : Shape).Idx → EReal) (w : (⟨2, ![b, k]⟩ : Shape).Idx → EReal) (f : EReal) (i : Fin a) (j : Fin b) : EReal :=
  (∑ k, x (ix2 i k) * w (ix2 j k)) * f

section
variable (w : Vec Ideal S256x1024 .bf16) (x : Vec Ideal S512x1024 .bf16) (f : Vec Ideal S512x256 .bf16) (i : Fin 512) (j : Fin 256)

theorem pay9_at : ((k0_pay9 w x f : FVec Ideal S512x256 .bf16) (ix2 i j) : EReal) = dotTimes x w (f (ix2 i j)) i j := by
  unfold dotTimes
  pointwise [k0_pay9, k0_pay8, k0_pay7]
theorem pay10_at : ((k0_pay10 w x f : FVec Ideal S512x256 .bf16) (ix2 i j) : EReal) = dotTimes x w (f (ix2 i j)) i j := by
  unfold dotTimes
  pointwise [k0_pay10, k0_pay8, k0_pay7]
theorem pay12_at : ((k0_pay12 w x f : FVec Ideal S512x256 .bf16) (ix2 i j) : EReal) = dotTimes x w (f (ix2 i j)) i j := by
  unfold dotTimes
  pointwise [k0_pay12, k0_pay11, k0_pay7]
theorem pay13_at : ((k0_pay13 w x f : FVec Ideal S512x256 .bf16) (ix2 i j) : EReal) = dotTimes x w (f (ix2 i j)) i j := by
  unfold dotTimes
  pointwise [k0_pay13, k0_pay11, k0_pay7]
theorem pay2_at : ((k0_pay2 w x f : FVec Ideal S512x256 .bf16) (ix2 i j) : EReal) = dotTimes x w (f (ix2 i j)) i j := by
  unfold dotTimes
  pointwise [k0_pay2, k0_pay1]
theorem pay3_at : ((k0_pay3 w x f : FVec Ideal S512x256 .bf16) (ix2 i j) : EReal) = dotTimes x w (f (ix2 i j)) i j := by
  unfold dotTimes
  pointwise [k0_pay3, k0_pay1]
theorem pay5_at : ((k0_pay5 w x f : FVec Ideal S512x256 .bf16) (ix2 i j) : EReal) = dotTimes x w (f (ix2 i j)) i j := by
  unfold dotTimes
  pointwise [k0_pay5, k0_pay4]
theorem pay6_at : ((k0_pay6 w x f : FVec Ideal S512x256 .bf16) (ix2 i j) : EReal) = dotTimes x w (f (ix2 i j)) i j := by
  unfold dotTimes
  pointwise [k0_pay6, k0_pay4]
end

theorem hz : (![0, 0] : Fin 2 → Nat) = fun _ => 0 := funext fun a => by fin_cases a <;> rfl

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

theorem weight_eq (x0 : Vec Ideal S2048x1024 .bf16) (x1 : Vec Ideal S256x1024 .bf16) (x2 x3 : Vec Ideal S2048x256 .bf16) : k0_pay14 x0 x1 x2 x3 = x1 := by
  unfold k0_pay14
  rw [View.ld_unit_zero (S := S256x1024) hz]
  funext y
  idx_vars y
  pointwise [k0_pay7]

/-- The stretch of rows at an offset, read at an entry of the block. -/
theorem stretch (x0 : Vec Ideal S2048x1024 .bf16) (x1 : Vec Ideal S256x1024 .bf16) (x2 : Vec Ideal S2048x256 .bf16) (o : ℕ)
    (h0 : ∀ a, (![o, 0] : Fin 2 → ℕ) a + S512x1024.size a ≤ S2048x1024.size a) (h2 : ∀ a, (![o, 0] : Fin 2 → ℕ) a + S512x256.size a ≤ S2048x256.size a)
    (i : Fin 512) (j : Fin 256) (i' : Fin 2048) (hi : i'.val = o + i.val) :
    dotTimes (View.ld x0 (Rect.unit (s := S2048x1024) ![o, 0] S512x1024.size h0)) x1
        (View.ld x2 (Rect.unit (s := S2048x256) ![o, 0] S512x256.size h2) (ix2 i j)) i j = dotTimes x0 x1 (x2 (ix2 i' j)) i' j := by
  unfold dotTimes
  refine mul_terms (sum_terms fun k => mul_terms ?_ rfl) ?_
  · exact View.ld_unit_apply_of _ _ _ _ _ _ (fun a => by fin_cases a <;> simp [hi])
  · exact View.ld_unit_apply_of _ _ _ _ _ _ (fun a => by fin_cases a <;> simp [hi])

theorem out_4 (x0 : Vec Ideal S2048x1024 .bf16) (x1 : Vec Ideal S256x1024 .bf16) (x2 x3 : Vec Ideal S2048x256 .bf16) (i : Fin 2048) (j : Fin 256) :
    (out0_4 x0 x1 x2 x3 (ix2 i j) : EReal) = dotTimes x0 x1 (x2 (ix2 i j)) i j := by
  unfold out0_4
  rw [weight_eq, View.ld_unit_zero (S := S256x1024) hz]
  canon_tiles x h <;> idx_vars x <;> (obtain rfl : j = _ := Fin.ext h1)
  · rw [pay5_at]; exact stretch _ _ _ _ _ _ _ _ _ h0
  · rw [pay2_at]; exact stretch _ _ _ _ _ _ _ _ _ h0
  · rw [pay12_at]; exact stretch _ _ _ _ _ _ _ _ _ h0
  · rw [pay9_at]; exact stretch _ _ _ _ _ _ _ _ _ (h0.trans (Nat.zero_add _).symm)

theorem out_5 (x0 : Vec Ideal S2048x1024 .bf16) (x1 : Vec Ideal S256x1024 .bf16) (x2 x3 : Vec Ideal S2048x256 .bf16) (i : Fin 2048) (j : Fin 256) :
    (out0_5 x0 x1 x2 x3 (ix2 i j) : EReal) = dotTimes x0 x1 (x3 (ix2 i j)) i j := by
  unfold out0_5
  rw [weight_eq, View.ld_unit_zero (S := S256x1024) hz]
  canon_tiles x h <;> idx_vars x <;> (obtain rfl : j = _ := Fin.ext h1)
  · rw [pay6_at]; exact stretch _ _ _ _ _ _ _ _ _ h0
  · rw [pay3_at]; exact stretch _ _ _ _ _ _ _ _ _ h0
  · rw [pay13_at]; exact stretch _ _ _ _ _ _ _ _ _ h0
  · rw [pay10_at]; exact stretch _ _ _ _ _ _ _ _ _ (h0.trans (Nat.zero_add _).symm)

theorem places : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![(grid0.coords t 0).val, (grid0.coords t 1).val] := by
  decide +kernel

abbrev argA (c : Dev nD) : FVec Ideal S4096x2816 .f32 := m ((c.tc : Thread nD τ).loc main_arg0)
abbrev argU (c : Dev nD) : FVec Ideal S4096x2816 .f32 := m ((c.tc : Thread nD τ).loc main_arg1)
abbrev argW (c : Dev nD) : FVec Ideal S2816x1024 .f32 := m ((c.tc : Thread nD τ).loc main_arg2)
abbrev argD (c : Dev nD) : FVec Ideal S4096x1024 .f32 := m ((c.tc : Thread nD τ).loc main_arg3)

open Cert.Ffn

/-- The saved factor of the gate's cotangent. -/
def byGate (a u : EReal) : EReal := u * sg a + a * u * (sg a * (1 - sg a))

theorem factor4 (c : Dev nD) : (V m c main_v8 : S4096x2816.Idx → EReal) = fun j => byGate (argA m c j) (argU m c j) := by
  funext j
  idx_vars j
  show StableHlo.after (List.flatten [hostOps0, hostOps0_1, hostOps0_2, hostOps0_3]) (fun b => m (c, b)) main_v8 (ix2 j0 j1) = _
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results
  pointwise []
  rfl

theorem factor5 (c : Dev nD) : (V m c main_v9 : S4096x2816.Idx → EReal) = fun j => argA m c j * sg (argA m c j) := by
  funext j
  idx_vars j
  show StableHlo.after (List.flatten [hostOps0, hostOps0_1, hostOps0_2, hostOps0_3]) (fun b => m (c, b)) main_v9 (ix2 j0 j1) = _
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results
  pointwise []
  rfl

theorem cot (c : Dev nD) : (V m c main_v6 : S4096x1024.Idx → EReal) = argD m c := by
  show StableHlo.after (List.flatten [hostOps0, hostOps0_1, hostOps0_2, hostOps0_3]) (fun b => m (c, b)) main_v6 = _
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

theorem wts (c : Dev nD) : (V m c main_v7 : S2816x1024.Idx → EReal) = argW m c := by
  show StableHlo.after (List.flatten [hostOps0, hostOps0_1, hostOps0_2, hostOps0_3]) (fun b => m (c, b)) main_v7 = _
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The two cotangents, entry by entry: the cotangent of the product, through the weight, times what the forward pass saved. -/
def dgate (a u : S4096x2816.Idx → EReal) (w : S2816x1024.Idx → EReal) (d : S4096x1024.Idx → EReal) (i : Fin 4096) (j : Fin 2816) : EReal :=
  dotTimes d w (byGate (a (ix2 i j)) (u (ix2 i j))) i j

def dup (a : S4096x2816.Idx → EReal) (w : S2816x1024.Idx → EReal) (d : S4096x1024.Idx → EReal) (i : Fin 4096) (j : Fin 2816) : EReal :=
  dotTimes d w (a (ix2 i j) * sg (a (ix2 i j))) i j

theorem result4 (c : Dev nD) :
    (dats m 0 c).arrAt 4 cfg0.N = (fun j => dgate (argA m c) (argU m c) (argW m c) (argD m c) (j 0) (j 1) : FVec Ideal S4096x2816 .bf16) := by
  refine (dats m 0 c).arrAt_eq_of_covers 4 _ (by decide +kernel) fun t hf y => ?_
  blk_simp
  rw [after0_4]
  idx_vars y
  rw [out_4]
  unfold dgate dotTimes
  rw [← cot m c, ← wts m c]
  refine mul_terms (sum_terms fun k => mul_terms ?_ ?_) ((congrFun (factor4 m c) (ix2 _ _)).symm.trans ?_).symm <;> blk_ext [iblk, places t]

theorem result5 (c : Dev nD) :
    (dats m 0 c).arrAt 5 cfg0.N = (fun j => dup (argA m c) (argW m c) (argD m c) (j 0) (j 1) : FVec Ideal S4096x2816 .bf16) := by
  refine (dats m 0 c).arrAt_eq_of_covers 5 _ (by decide +kernel) fun t hf y => ?_
  blk_simp
  rw [after0_5]
  idx_vars y
  rw [out_5]
  unfold dup dotTimes
  rw [← cot m c, ← wts m c]
  refine mul_terms (sum_terms fun k => mul_terms ?_ ?_) ((congrFun (factor5 m c) (ix2 _ _)).symm.trans ?_).symm <;> blk_ext [iblk, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v10_0) = (fun j => dgate (argA m c) (argU m c) (argW m c) (argD m c) (j 0) (j 1) : FVec Ideal S4096x2816 .bf16)
      ∧ r.2.mem ((c.tc : Thread nD τ).loc main_v10_1) = (fun j => dup (argA m c) (argW m c) (argD m c) (j 0) (j 1) : FVec Ideal S4096x2816 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result4 m c), (h c).2.1.trans (result5 m c), (h c).2.2⟩) (Cert.Kernel2Ideal.Value.run_blocks m ρ)

/-- The side conditions of the precondition. -/
theorem preFacts : Cert.Pre_finite_ffn_out.Facts where
  bcast_S_S4096x2816 := by decide +kernel
  bcast_S_S2816x1024 := by decide +kernel
  bcast_S_S4096x1024 := by decide +kernel

attribute [local instance] preFacts

/-- What the value claim asks of the reference's arguments. -/
def Real (m : (ℓ : Loc Cert.Reference2Ideal.nD Cert.Reference2Ideal.τ Cert.Reference2Ideal.sig) → Buf (Elt Ideal) ℓ) (c : Dev Cert.Reference2Ideal.nD) : Prop :=
  (∀ i j, IsReal ((m ((c.tc : Thread Cert.Reference2Ideal.nD Cert.Reference2Ideal.τ).loc Cert.Reference2Ideal.main_arg1) : FVec Ideal S4096x2816 .f32) (ix2 i j)))
  ∧ (∀ i j, IsReal ((m ((c.tc : Thread Cert.Reference2Ideal.nD Cert.Reference2Ideal.τ).loc Cert.Reference2Ideal.main_arg2) : FVec Ideal S2816x1024 .f32) (ix2 i j)))
  ∧ ∀ i j, IsReal ((m ((c.tc : Thread Cert.Reference2Ideal.nD Cert.Reference2Ideal.τ).loc Cert.Reference2Ideal.main_arg3) : FVec Ideal S4096x1024 .f32) (ix2 i j))

theorem real_of_pre (m : (ℓ : Loc Cert.Reference2Ideal.nD Cert.Reference2Ideal.τ Cert.Reference2Ideal.sig) → Buf (Elt Ideal) ℓ) (c : Dev Cert.Reference2Ideal.nD)
    (h : (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
      ∧ (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
      ∧ (Cert.Pre_finite_ffn_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)) : Real m c := by
  obtain ⟨h1, h2, h3⟩ := h
  exact ⟨fun i j => Cert.Pool.real_of_below _ (congrFun h1 (ix2 i j)), fun i j => Cert.Pool.real_of_below _ (congrFun h2 (ix2 i j)),
    fun i j => Cert.Pool.real_of_below _ (congrFun h3 (ix2 i j))⟩

/-- The reference's first result, entry by entry. -/
theorem ref_gate (a u : FVec Ideal S4096x2816 .f32) (w : FVec Ideal S2816x1024 .f32) (d : FVec Ideal S4096x1024 .f32) (i : Fin 4096) (j : Fin 2816)
    (hu : IsReal (u (ix2 i j))) (hw : ∀ i j, IsReal (w (ix2 i j))) (hd : ∀ i j, IsReal (d (ix2 i j))) :
    dotTimes d w (u (ix2 i j)) i j * sg (a (ix2 i j)) + a (ix2 i j) * dotTimes d w (u (ix2 i j)) i j * (sg (a (ix2 i j)) * (1 - sg (a (ix2 i j))))
      = dgate a u w d i j :=
  (gate_cotangent _ (isReal_sum fun k => isReal_mul (hd _ _) (hw _ _)) hu).symm

open Cert.Reference2Ideal in
/-- The reference's two results, and its arguments unchanged. -/
theorem reference (m : (ℓ : Loc Cert.Reference2Ideal.nD Cert.Reference2Ideal.τ Cert.Reference2Ideal.sig) → Buf (Elt Ideal) ℓ) (ρ : Dev Cert.Reference2Ideal.nD → PrngReg) (hr : ∀ c, Real m c) :
    θ_run (Cert.Reference2Ideal.defs (F := Ideal)) (onTc (τ := Cert.Reference2Ideal.τ) (Cert.Reference2Ideal.main (F := Ideal))) ⟨m, fun _ => 0, ρ⟩ fun r =>
      ∀ c : Dev Cert.Reference2Ideal.nD,
      r.2.mem ((c.tc : Thread Cert.Reference2Ideal.nD Cert.Reference2Ideal.τ).loc Cert.Reference2Ideal.main_v7)
        = (fun j => dgate (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (j 0) (j 1) : FVec Ideal Cert.Reference2Ideal.S4096x2816 .bf16)
      ∧ r.2.mem ((c.tc : Thread Cert.Reference2Ideal.nD Cert.Reference2Ideal.τ).loc Cert.Reference2Ideal.main_v8)
        = (fun j => dup (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (j 0) (j 1) : FVec Ideal Cert.Reference2Ideal.S4096x2816 .bf16)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3) :=
  (θ_run _ _ _).mono (fun _ h c => ⟨(h c).1.trans (funext fun j => by
      idx_vars j
      refine Eq.trans ?_ (ref_gate _ _ _ _ j0 j1 ((hr c).1 _ _) (hr c).2.1 (hr c).2.2)
      unfold dotTimes sg
      pointwise []),
    (h c).2.1.trans (funext fun j => by
      idx_vars j
      unfold dup dotTimes sg
      pointwise []
      exact mul_comm _ _), (h c).2.2⟩) (Cert.Reference2Ideal.Value.run m ρ)

end Cert.FfnOutBwd

end
-- ==== Proof.Norm.lean ====
/- The normalisation by the root of the mean square over a row, and its derivative, over real rows. -/
module

public import proofs.«01_k».proof.Proof.Reals

@[expose] public section

noncomputable section

namespace Cert.Ffn

open Idealize.ShloMosaic

/-- The mean square of a row and the small constant. -/
def msq (x : Fin 1024 → EReal) : EReal := Ideal.div (∑ k, x k * x k) (Ideal.ofBits .f32 0x44800000#32) + Ideal.ofBits .f32 0x358637BD#32

/-- The factor the row is scaled by. -/
def root (x : Fin 1024 → EReal) : EReal := Ideal.rsqrt (msq x)

theorem div_width (a : ℝ) : Ideal.div (a : EReal) (Ideal.ofBits .f32 0x44800000#32) = ((a * (1 / 1024) : ℝ) : EReal) := by
  rw [ofBits_width, Ideal.div_coe (by norm_num), EReal.coe_mul]

theorem msq_coe (x : Fin 1024 → ℝ) : ∃ v : ℝ, 0 < v ∧ msq (fun k => (x k : EReal)) = (v : EReal) := by
  obtain ⟨e, he, h⟩ := ofBits_eps
  refine ⟨(∑ k, x k * x k) * (1 / 1024) + e, add_pos_of_nonneg_of_pos (mul_nonneg (Finset.sum_nonneg fun k _ => mul_self_nonneg _) (by norm_num)) he, ?_⟩
  unfold msq
  rw [h, EReal.coe_add, ← div_width, Cert.Pool.coe_sum]
  simp only [EReal.coe_mul]

/-- Over a real row the factor is a positive real number whose square is the inverse of the mean square. -/
theorem root_coe (x : Fin 1024 → ℝ) : ∃ v r : ℝ, 0 < v ∧ r * r * v = 1 ∧ msq (fun k => (x k : EReal)) = (v : EReal) ∧ root (fun k => (x k : EReal)) = (r : EReal) := by
  obtain ⟨v, hv, h⟩ := msq_coe x
  have hs := Real.sqrt_pos.2 hv
  refine ⟨v, (Real.sqrt v)⁻¹, hv, ?_, h, ?_⟩
  · rw [← mul_inv, Real.mul_self_sqrt hv.le, inv_mul_cancel₀ hv.ne']
  · unfold root
    rw [h, Ideal.rsqrt_coe, if_neg (not_lt.2 hv.le), if_neg hv.ne']

theorem isReal_root {x : Fin 1024 → EReal} (hx : ∀ k, IsReal (x k)) : IsReal (root x) := by
  choose a ha using hx
  obtain ⟨v, r, -, -, -, hr⟩ := root_coe a
  rw [show x = fun k => (a k : EReal) from funext ha, hr]
  exact ⟨r, rfl⟩

/-- What the normalisation's derivative adds to the incoming cotangent at one entry of the row. -/
def back (x y : Fin 1024 → EReal) (i : Fin 1024) : EReal :=
  root x * (y i - x i * root x * Ideal.div (∑ k, y k * (x k * root x)) (Ideal.ofBits .f32 0x44800000#32))

/-- The part of the derivative that comes through the mean square. -/
def through (x y : Fin 1024 → EReal) : EReal :=
  Ideal.div ((∑ k, x k * y k) * (Ideal.ofBits .f32 0xBF000000#32 * Ideal.div (root x) (msq x))) (Ideal.ofBits .f32 0x44800000#32)

theorem through_back (d : EReal) {x y : Fin 1024 → EReal} (hx : ∀ k, IsReal (x k)) (hy : ∀ k, IsReal (y k)) (i : Fin 1024) :
    d + y i * root x + x i * through x y + through x y * x i = d + back x y i := by
  choose a ha using hx
  choose b hb using hy
  obtain rfl : x = fun k => (a k : EReal) := funext ha
  obtain rfl : y = fun k => (b k : EReal) := funext hb
  obtain ⟨v, r, hv, hrv, hm, hr⟩ := root_coe a
  unfold back through
  rw [hm, hr, ofBits_neg_half, Ideal.div_coe hv.ne', add_assoc, add_assoc]
  congr 1
  simp only [← EReal.coe_mul, ← Cert.Pool.coe_sum, div_width, ← EReal.coe_sub, ← EReal.coe_add]
  congr 1
  have h1 : ∑ k, b k * (a k * r) = (∑ k, a k * b k) * r := by
    rw [Finset.sum_mul]
    exact Finset.sum_congr rfl fun k _ => by ring
  have h2 : 1 / v = r * r := by field_simp; linarith
  rw [h1, h2]
  ring

end Cert.Ffn

end
-- ==== Proof.FfnInBwd.lean ====
/- The derivative of the feed-forward layer's normalisation and first product: the call's three results and the reference's. -/
module

public import proofs.«01_k».proof.Defs
public import proofs.«01_k».proof.Proof.Gen.Kernel3Ideal.Value
public import proofs.«01_k».proof.Proof.Gen.Reference3Ideal.Run
public import proofs.«01_k».proof.Proof.Norm
public import Idealize.ShloMosaic.Lib.Pointwise
public import Idealize.ShloMosaic.Lib.Pipeline.Value
public import Idealize.ShloMosaic.Lib.Pipeline.ValueKit

@[expose] public section

set_option maxRecDepth 16384

noncomputable section

namespace Cert.FfnInBwd

open Idealize.ShloMosaic Idealize.ShloMosaic.TcCoe Idealize.SL.Sem
open Idealize.ShloMosaic.Pipeline (Dat Cfg Window)
open Cert.Kernel3Ideal Cert.Kernel3Ideal.Gen
open Cert.Ffn

variable (m : (ℓ : Loc nD τ sig) → Buf (Elt Ideal) ℓ) (ρ : Dev nD → PrngReg)

theorem hz : (![0, 0] : Fin 2 → Nat) = fun _ => 0 := funext fun a => by fin_cases a <;> rfl

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- A row of the product with the transposed weight. -/
def dotT {a b k : ℕ} (x : (⟨2, ![a, k]⟩ : Shape).Idx → EReal) (w : (⟨2, ![b, k]⟩ : Shape).Idx → EReal) (i : Fin a) (j : Fin b) : EReal :=
  ∑ k, x (ix2 i k) * w (ix2 j k)

section
variable (dg du : Vec Ideal S512x2816 .bf16) (wg wu : Vec Ideal S1024x2816 .bf16) (x d p q r : Vec Ideal S512x1024 .f32) (g acc : Vec Ideal S1x1024 .f32)
variable (i : Fin 512) (j : Fin 1024)

theorem pay5_at : ((k0_pay5 dg wg du wu : FVec Ideal S512x1024 .f32) (ix2 i j) : EReal) = dotT dg wg i j + dotT du wu i j := by
  unfold dotT
  pointwise [k0_pay5]

theorem pay9_at : ((k0_pay9 x : FVec Ideal S512x1024 .f32) (ix2 i j) : EReal) = root fun k => x (ix2 i k) := by
  unfold root msq
  pointwise [k0_pay9, k0_pay6]

theorem pay7_at : ((k0_pay7 x : FVec Ideal S512x1024 .f32) (ix2 i j) : EReal) = x (ix2 i j) * root fun k => x (ix2 i k) := by
  unfold root msq
  pointwise [k0_pay7, k0_pay6]

theorem pay8_at : ((k0_pay8 dg wg du wu x g : FVec Ideal S512x1024 .f32) (ix2 i j) : EReal)
    = (dotT dg wg i j + dotT du wu i j) * g (ix2 0 j) - x (ix2 i j) * root (fun k => x (ix2 i k))
        * Ideal.div (∑ k, (dotT dg wg i k + dotT du wu i k) * g (ix2 0 k) * (x (ix2 i k) * root (fun k => x (ix2 i k)))) (Ideal.ofBits .f32 0x44800000#32) := by
  unfold root msq dotT
  pointwise [k0_pay8, k0_pay7, k0_pay6, k0_pay5]

theorem pay1_at : ((k0_pay1 p q r : FVec Ideal S512x1024 .f32) (ix2 i j) : EReal) = r (ix2 i j) + q (ix2 i j) * p (ix2 i j) := by
  pointwise [k0_pay1]

theorem pay3_at : ((k0_pay3 p q r : FVec Ideal S512x1024 .bf16) (ix2 i j) : EReal) = r (ix2 i j) + q (ix2 i j) * p (ix2 i j) := by
  pointwise [k0_pay3, k0_pay1]

theorem pay2_at (z : Fin 1) : ((k0_pay2 p q acc : FVec Ideal S1x1024 .f32) (ix2 z j) : EReal) = acc (ix2 z j) + ∑ i : Fin 512, p (ix2 i j) * q (ix2 i j) := by
  pointwise [k0_pay2]

theorem pay4_at (z : Fin 1) : ((k0_pay4 : FVec Ideal S1x1024 .f32) (ix2 z j) : EReal) = 0 := by
  pointwise [k0_pay4]
end

/-- The cotangent of the normalised row. -/
def dh {n : ℕ} (dg du : (⟨2, ![n, 2816]⟩ : Shape).Idx → EReal) (w : S1024x5632.Idx → EReal) (i : Fin n) (j : Fin 1024) : EReal :=
  ∑ k : Fin 2816, dg (ix2 i k) * w (ix2 j ⟨k.val, by omega⟩) + ∑ k : Fin 2816, du (ix2 i k) * w (ix2 j ⟨2816 + k.val, by omega⟩)

/-- The cotangent of the row itself, the incoming one added. -/
def dx {n : ℕ} (dg du : (⟨2, ![n, 2816]⟩ : Shape).Idx → EReal) (w : S1024x5632.Idx → EReal) (d x : (⟨2, ![n, 1024]⟩ : Shape).Idx → EReal)
    (g : S1x1024.Idx → EReal) (i : Fin n) (j : Fin 1024) : EReal :=
  d (ix2 i j) + back (fun k => x (ix2 i k)) (fun k => dh dg du w i k * g (ix2 0 k)) j

/-- What one row gives to the scale's gradient. -/
def part {n : ℕ} (dg du : (⟨2, ![n, 2816]⟩ : Shape).Idx → EReal) (w : S1024x5632.Idx → EReal) (x : (⟨2, ![n, 1024]⟩ : Shape).Idx → EReal)
    (i : Fin n) (j : Fin 1024) : EReal :=
  dh dg du w i j * (x (ix2 i j) * root fun k => x (ix2 i k))

section
variable (x0 x1 : Vec Ideal S512x2816 .bf16) (x2 : Vec Ideal S1024x5632 .bf16) (x3 x4 : Vec Ideal S512x1024 .f32) (x5 xo : Vec Ideal S1x1024 .f32)

theorem halves (h : ∀ a, (![0, 0] : Fin 2 → ℕ) a + S1024x2816.size a ≤ S1024x5632.size a) (h' : ∀ a, (![0, 2816] : Fin 2 → ℕ) a + S1024x2816.size a ≤ S1024x5632.size a)
    (i : Fin 512) (j : Fin 1024) :
    dotT x0 (View.ld x2 (Rect.unit (s := S1024x5632) ![0, 0] S1024x2816.size h)) i j + dotT x1 (View.ld x2 (Rect.unit (s := S1024x5632) ![0, 2816] S1024x2816.size h')) i j
      = dh x0 x1 x2 i j := by
  unfold dotT dh
  refine congrArg₂ _ (sum_terms fun k => mul_terms rfl ?_) (sum_terms fun k => mul_terms rfl ?_)
  · exact View.ld_unit_apply_of _ _ _ _ _ _ (fun a => by fin_cases a <;> simp)
  · exact View.ld_unit_apply_of _ _ _ _ _ _ (fun a => by fin_cases a <;> simp)

variable (c : Dev nD) (i : grid0.Coords) (a1 : Memref sig .tc .vmem S512x2816 .bf16) (h1 : a1.IsWhole) (a2 : Memref sig .tc .vmem S512x2816 .bf16) (h2 : a2.IsWhole)
  (a3 : Memref sig .tc .vmem S1024x5632 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .bf16) (h8 : a8.IsWhole)
  (a9 : Memref sig .tc .vmem S1x1024 .f32) (h9 : a9.IsWhole)

theorem outA_6 (hc : cond0_0 i) (p : Fin 512) (q : Fin 1024) :
    (out0_A_6 c i a1 h1 a2 h2 a3 h3 a4 h4 a5 h5 a6 h6 a7 h7 a8 h8 a9 h9 hc x0 x1 x2 x3 x4 x5 (ix2 p q) : EReal) = dx x0 x1 x2 x3 x4 x5 p q := by
  frame_out
  rw [pay1_at, pay8_at, pay9_at]
  simp only [halves]
  rfl

theorem outB_6 (hc : ¬cond0_0 i) (p : Fin 512) (q : Fin 1024) :
    (out0_B_6 c i a1 h1 a2 h2 a3 h3 a4 h4 a5 h5 a6 h6 a7 h7 a8 h8 a9 h9 hc x0 x1 x2 x3 x4 x5 xo (ix2 p q) : EReal) = dx x0 x1 x2 x3 x4 x5 p q := by
  frame_out
  rw [pay1_at, pay8_at, pay9_at]
  simp only [halves]
  rfl

theorem outA_7 (hc : cond0_0 i) (p : Fin 512) (q : Fin 1024) :
    (out0_A_7 c i a1 h1 a2 h2 a3 h3 a4 h4 a5 h5 a6 h6 a7 h7 a8 h8 a9 h9 hc x0 x1 x2 x3 x4 x5 (ix2 p q) : EReal) = dx x0 x1 x2 x3 x4 x5 p q := by
  frame_out
  rw [pay3_at, pay8_at, pay9_at]
  simp only [halves]
  rfl

theorem outB_7 (hc : ¬cond0_0 i) (p : Fin 512) (q : Fin 1024) :
    (out0_B_7 c i a1 h1 a2 h2 a3 h3 a4 h4 a5 h5 a6 h6 a7 h7 a8 h8 a9 h9 hc x0 x1 x2 x3 x4 x5 xo (ix2 p q) : EReal) = dx x0 x1 x2 x3 x4 x5 p q := by
  frame_out
  rw [pay3_at, pay8_at, pay9_at]
  simp only [halves]
  rfl

theorem outA_8 (hc : cond0_0 i) (q : Fin 1024) :
    (out0_A_8 c i a1 h1 a2 h2 a3 h3 a4 h4 a5 h5 a6 h6 a7 h7 a8 h8 a9 h9 hc x0 x1 x2 x3 x4 x5 (ix2 0 q) : EReal) = 0 + ∑ p, part x0 x1 x2 x4 p q := by
  frame_out
  rw [pay2_at, pay4_at]
  simp only [pay5_at, pay7_at, halves]
  rfl

theorem outB_8 (hc : ¬cond0_0 i) (q : Fin 1024) :
    (out0_B_8 c i a1 h1 a2 h2 a3 h3 a4 h4 a5 h5 a6 h6 a7 h7 a8 h8 a9 h9 hc x0 x1 x2 x3 x4 x5 xo (ix2 0 q) : EReal) = xo (ix2 0 q) + ∑ p, part x0 x1 x2 x4 p q := by
  frame_out
  rw [pay2_at]
  simp only [pay5_at, pay7_at, halves]
  rfl
end

theorem places : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![0, 0] := by
  decide +kernel

theorem dh_congr {n n' : ℕ} {dg du : (⟨2, ![n, 2816]⟩ : Shape).Idx → EReal} {dg' du' : (⟨2, ![n', 2816]⟩ : Shape).Idx → EReal} {w w' : S1024x5632.Idx → EReal}
    {i : Fin n} {i' : Fin n'} (j : Fin 1024) (hg : ∀ k, dg (ix2 i k) = dg' (ix2 i' k)) (hu : ∀ k, du (ix2 i k) = du' (ix2 i' k))
    (hw : ∀ j k, w (ix2 j k) = w' (ix2 j k)) : dh dg du w i j = dh dg' du' w' i' j := by
  unfold dh
  simp only [hg, hu, hw]

theorem dx_congr {n n' : ℕ} {dg du : (⟨2, ![n, 2816]⟩ : Shape).Idx → EReal} {dg' du' : (⟨2, ![n', 2816]⟩ : Shape).Idx → EReal} {w w' : S1024x5632.Idx → EReal}
    {d x : (⟨2, ![n, 1024]⟩ : Shape).Idx → EReal} {d' x' : (⟨2, ![n', 1024]⟩ : Shape).Idx → EReal} {g g' : S1x1024.Idx → EReal}
    {i : Fin n} {i' : Fin n'} {j j' : Fin 1024} (hj : j = j') (hg : ∀ k, dg (ix2 i k) = dg' (ix2 i' k)) (hu : ∀ k, du (ix2 i k) = du' (ix2 i' k))
    (hw : ∀ j k, w (ix2 j k) = w' (ix2 j k)) (hd : ∀ k, d (ix2 i k) = d' (ix2 i' k)) (hx : ∀ k, x (ix2 i k) = x' (ix2 i' k))
    (hs : ∀ k, g (ix2 0 k) = g' (ix2 0 k)) : dx dg du w d x g i j = dx dg' du' w' d' x' g' i' j' := by
  subst hj
  unfold dx
  simp only [hd, hx, hs, dh_congr _ hg hu hw]

theorem part_congr {n n' : ℕ} {dg du : (⟨2, ![n, 2816]⟩ : Shape).Idx → EReal} {dg' du' : (⟨2, ![n', 2816]⟩ : Shape).Idx → EReal} {w w' : S1024x5632.Idx → EReal}
    {x : (⟨2, ![n, 1024]⟩ : Shape).Idx → EReal} {x' : (⟨2, ![n', 1024]⟩ : Shape).Idx → EReal}
    {i : Fin n} {i' : Fin n'} {j j' : Fin 1024} (hj : j = j') (hg : ∀ k, dg (ix2 i k) = dg' (ix2 i' k)) (hu : ∀ k, du (ix2 i k) = du' (ix2 i' k))
    (hw : ∀ j k, w (ix2 j k) = w' (ix2 j k)) (hx : ∀ k, x (ix2 i k) = x' (ix2 i' k)) : part dg du w x i j = part dg' du' w' x' i' j' := by
  subst hj
  unfold part
  simp only [hx, dh_congr _ hg hu hw]

abbrev argG (c : Dev nD) : FVec Ideal S4096x2816 .f32 := m ((c.tc : Thread nD τ).loc main_arg0)
abbrev argU (c : Dev nD) : FVec Ideal S4096x2816 .f32 := m ((c.tc : Thread nD τ).loc main_arg1)
abbrev argW (c : Dev nD) : FVec Ideal S1024x5632 .f32 := m ((c.tc : Thread nD τ).loc main_arg2)
abbrev argD (c : Dev nD) : FVec Ideal S4096x1024 .f32 := m ((c.tc : Thread nD τ).loc main_arg3)
abbrev argX (c : Dev nD) : FVec Ideal S4096x1024 .f32 := m ((c.tc : Thread nD τ).loc main_arg4)
abbrev argS (c : Dev nD) : FVec Ideal S1x1024 .f32 := m ((c.tc : Thread nD τ).loc main_arg5)

/-- The cotangent of the input after the point's body, in either case. -/
theorem after6 (c : Dev nD) (t : Fin cfg0.N) (p : Fin 512) (q : Fin 1024) :
    ((outsAt0 m c t.val t.isLt).1 (ix2 p q) : EReal) = dx (iblk m c 0 t) (iblk m c 1 t) (iblk m c 2 t) (iblk m c 3 t) (iblk m c 4 t) (iblk m c 5 t) p q := by
  by_cases h : t.val % 8 = 0
  · rw [outsAt0_A m c t h]; dsimp only; rw [outA_6]
  · rw [outsAt0_B m c t h]; dsimp only; rw [outB_6]

theorem after7 (c : Dev nD) (t : Fin cfg0.N) (p : Fin 512) (q : Fin 1024) :
    ((outsAt0 m c t.val t.isLt).2.1 (ix2 p q) : EReal) = dx (iblk m c 0 t) (iblk m c 1 t) (iblk m c 2 t) (iblk m c 3 t) (iblk m c 4 t) (iblk m c 5 t) p q := by
  by_cases h : t.val % 8 = 0
  · rw [outsAt0_A m c t h]; dsimp only; rw [outA_7]
  · rw [outsAt0_B m c t h]; dsimp only; rw [outB_7]

theorem result6 (c : Dev nD) : (dats m 0 c).arrAt 6 cfg0.N
    = (fun j => dx (argG m c) (argU m c) (argW m c) (argD m c) (argX m c) (argS m c) (j 0) (j 1) : FVec Ideal S4096x1024 .f32) := by
  refine (dats m 0 c).arrAt_eq_of_covers 6 _ (by decide +kernel) fun t hf y => ?_
  blk_simp
  rw [after0_6]
  idx_vars y
  refine (after6 m c t _ _).trans ?_
  refine dx_congr (Fin.ext ?_) (fun k => ?_) (fun k => ?_) (fun j k => ?_) (fun k => ?_) (fun k => ?_) (fun k => ?_)
  · blk_simp [places t]
  all_goals blk_ext [iblk, V, places t]

theorem result7 (c : Dev nD) : (dats m 0 c).arrAt 7 cfg0.N
    = (fun j => dx (argG m c) (argU m c) (argW m c) (argD m c) (argX m c) (argS m c) (j 0) (j 1) : FVec Ideal S4096x1024 .bf16) := by
  refine (dats m 0 c).arrAt_eq_of_covers 7 _ (by decide +kernel) fun t hf y => ?_
  blk_simp
  rw [after0_7]
  idx_vars y
  refine (after7 m c t _ _).trans ?_
  refine dx_congr (Fin.ext ?_) (fun k => ?_) (fun k => ?_) (fun j k => ?_) (fun k => ?_) (fun k => ?_) (fun k => ?_)
  · blk_simp [places t]
  all_goals blk_ext [iblk, V, places t]

theorem result8 (c : Dev nD) : (dats m 0 c).arrAt 8 cfg0.N
    = (fun j => ∑ i : Fin 4096, part (argG m c) (argU m c) (argW m c) (argX m c) i (j 1) : FVec Ideal S1x1024 .f32) := by
  refine (dats m 0 c).arrAt_eq_of_covers 8 _ (by decide +kernel) fun t hf y => ?_
  have hN : cfg0.N = 8 := N_0
  have ht : t.val + 1 = cfg0.N := by have := (flush0_8 t).mp hf; have := t.isLt; omega
  blk_simp
  rw [after0_8]
  idx_vars y
  obtain rfl : y0 = 0 := Subsingleton.elim _ _
  rw [Pipeline.eq_sum_fin_of_reset_step_apply_last (fun n h => fun q : Fin 1024 => ((outsAt0 m c n h).2.2 (ix2 0 q) : EReal)) 8 (fun _ => 0)
    (fun t q => ∑ p, part (iblk m c 0 t) (iblk m c 1 t) (iblk m c 2 t) (iblk m c 4 t) p q)
    (fun t h q => by rw [outsAt0_A m c t h]; dsimp only; rw [outA_8])
    (fun t h q => by rw [outsAt0_B m c t h]; dsimp only; rw [outB_8])
    (le_of_eq hN) t ht y1, zero_add]
  refine Fin.sum_mul_add_congr (fun s k hl => ?_) (by rw [hN])
  refine part_congr (Fin.ext ?_) (fun k => ?_) (fun k => ?_) (fun j k => ?_) (fun k => ?_)
  · blk_simp [places t]
  all_goals blk_ext [iblk, V, places s]

/-- The call's three results, and its arguments unchanged. -/
theorem values : θ_run defs (onTc (τ := τ) (main (F := Ideal))) ⟨m, fun _ => 0, ρ⟩ fun r => ∀ c : Dev nD,
      r.2.mem ((c.tc : Thread nD τ).loc main_v3_0) = (fun j => dx (argG m c) (argU m c) (argW m c) (argD m c) (argX m c) (argS m c) (j 0) (j 1) : FVec Ideal S4096x1024 .f32)
      ∧ r.2.mem ((c.tc : Thread nD τ).loc main_v3_1) = (fun j => dx (argG m c) (argU m c) (argW m c) (argD m c) (argX m c) (argS m c) (j 0) (j 1) : FVec Ideal S4096x1024 .bf16)
      ∧ r.2.mem ((c.tc : Thread nD τ).loc main_v3_2) = (fun j => ∑ i : Fin 4096, part (argG m c) (argU m c) (argW m c) (argX m c) i (j 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result6 m c), (h c).2.1.trans (result7 m c), (h c).2.2.1.trans (result8 m c), (h c).2.2.2⟩) (Cert.Kernel3Ideal.Value.run_blocks m ρ)

/-- The side conditions of the precondition. -/
theorem preFacts : Cert.Pre_finite_ffn_in.Facts where
  bcast_S_S4096x2816 := by decide +kernel
  bcast_S_S1024x5632 := by decide +kernel
  bcast_S_S4096x1024 := by decide +kernel
  bcast_S_S1x1024 := by decide +kernel

attribute [local instance] preFacts

/-- Every entry of the array is a real number. -/
def AllReal {a b : ℕ} (x : (⟨2, ![a, b]⟩ : Shape).Idx → EReal) : Prop := ∀ i j, IsReal (x (ix2 i j))

/-- What the value claim asks of the reference's arguments. -/
def Real (m : (ℓ : Loc Cert.Reference3Ideal.nD Cert.Reference3Ideal.τ Cert.Reference3Ideal.sig) → Buf (Elt Ideal) ℓ) (c : Dev Cert.Reference3Ideal.nD) : Prop :=
  AllReal (a := 4096) (b := 2816) (m ((c.tc : Thread Cert.Reference3Ideal.nD Cert.Reference3Ideal.τ).loc Cert.Reference3Ideal.main_arg0)) ∧ AllReal (a := 4096) (b := 2816) (m ((c.tc : Thread Cert.Reference3Ideal.nD Cert.Reference3Ideal.τ).loc Cert.Reference3Ideal.main_arg1)) ∧ AllReal (a := 1024) (b := 5632) (m ((c.tc : Thread Cert.Reference3Ideal.nD Cert.Reference3Ideal.τ).loc Cert.Reference3Ideal.main_arg2))
  ∧ AllReal (a := 4096) (b := 1024) (m ((c.tc : Thread Cert.Reference3Ideal.nD Cert.Reference3Ideal.τ).loc Cert.Reference3Ideal.main_arg4)) ∧ AllReal (a := 1) (b := 1024) (m ((c.tc : Thread Cert.Reference3Ideal.nD Cert.Reference3Ideal.τ).loc Cert.Reference3Ideal.main_arg5))

theorem real_of_pre (m : (ℓ : Loc Cert.Reference3Ideal.nD Cert.Reference3Ideal.τ Cert.Reference3Ideal.sig) → Buf (Elt Ideal) ℓ) (c : Dev Cert.Reference3Ideal.nD)
    (h : (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
      ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
      ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
      ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
      ∧ (Cert.Pre_finite_ffn_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)) : Real m c := by
  obtain ⟨h1, h2, h3, h4, h5⟩ := h
  exact ⟨fun i j => Cert.Pool.real_of_below _ (congrFun h1 (ix2 i j)), fun i j => Cert.Pool.real_of_below _ (congrFun h2 (ix2 i j)),
    fun i j => Cert.Pool.real_of_below _ (congrFun h3 (ix2 i j)), fun i j => Cert.Pool.real_of_below _ (congrFun h4 (ix2 i j)),
    fun i j => Cert.Pool.real_of_below _ (congrFun h5 (ix2 i j))⟩

section
variable (a b : FVec Ideal S4096x2816 .f32) (w : FVec Ideal S1024x5632 .f32) (d x : FVec Ideal S4096x1024 .f32) (g : FVec Ideal S1x1024 .f32)

/-- The reference's first result, entry by entry. -/
theorem ref_dx (ha : AllReal a) (hb : AllReal b) (hw : AllReal w) (hx : AllReal x) (hg : AllReal g) (i : Fin 4096) (j : Fin 1024) :
    d (ix2 i j) + dh a b w i j * g (ix2 0 j) * root (fun k => x (ix2 i k))
      + x (ix2 i j) * through (fun k => x (ix2 i k)) (fun k => dh a b w i k * g (ix2 0 k))
      + through (fun k => x (ix2 i k)) (fun k => dh a b w i k * g (ix2 0 k)) * x (ix2 i j) = dx a b w d x g i j := by
  exact through_back (d (ix2 i j)) (x := fun k => x (ix2 i k)) (y := fun k => dh a b w i k * g (ix2 0 k)) (fun k => hx i k)
    (fun k => isReal_mul (isReal_add (isReal_sum fun q => isReal_mul (ha i q) (hw k _)) (isReal_sum fun q => isReal_mul (hb i q) (hw k _))) (hg 0 k)) j

theorem ref_part (i : Fin 4096) (j : Fin 1024) :
    x (ix2 i j) * root (fun k => x (ix2 i k)) * dh a b w i j = part a b w x i j := mul_comm _ _
end

open Cert.Reference3Ideal in
/-- The reference's three results, and its arguments unchanged. -/
theorem reference (m : (ℓ : Loc Cert.Reference3Ideal.nD Cert.Reference3Ideal.τ Cert.Reference3Ideal.sig) → Buf (Elt Ideal) ℓ) (ρ : Dev Cert.Reference3Ideal.nD → PrngReg) (hr : ∀ c, Real m c) :
    θ_run (Cert.Reference3Ideal.defs (F := Ideal)) (onTc (τ := Cert.Reference3Ideal.τ) (Cert.Reference3Ideal.main (F := Ideal))) ⟨m, fun _ => 0, ρ⟩ fun r =>
      ∀ c : Dev Cert.Reference3Ideal.nD,
      r.2.mem ((c.tc : Thread Cert.Reference3Ideal.nD Cert.Reference3Ideal.τ).loc Cert.Reference3Ideal.main_v37)
        = (fun j => dx (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (j 0) (j 1) : FVec Ideal Cert.Reference3Ideal.S4096x1024 .f32)
      ∧ r.2.mem ((c.tc : Thread Cert.Reference3Ideal.nD Cert.Reference3Ideal.τ).loc Cert.Reference3Ideal.main_v38)
        = (fun j => dx (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (j 0) (j 1) : FVec Ideal Cert.Reference3Ideal.S4096x1024 .bf16)
      ∧ r.2.mem ((c.tc : Thread Cert.Reference3Ideal.nD Cert.Reference3Ideal.τ).loc Cert.Reference3Ideal.main_v20)
        = (fun j => ∑ i : Fin 4096, part (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg4)) i (j 1) : FVec Ideal Cert.Reference3Ideal.S1x1024 .f32)
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5) :=
  (θ_run _ _ _).mono (fun _ h c => ⟨(h c).1.trans (funext fun j => by
      idx_vars j
      refine Eq.trans ?_ (ref_dx _ _ _ _ _ _ (hr c).1 (hr c).2.1 (hr c).2.2.1 (hr c).2.2.2.1 (hr c).2.2.2.2 j0 j1)
      unfold Cert.Reference3Ideal.Value.res_main_v37 through root msq dh
      pointwise []
      simp only [Fin.sum_univ_one]),
    (h c).2.1.trans (funext fun j => by
      idx_vars j
      refine Eq.trans ?_ (ref_dx _ _ _ _ _ _ (hr c).1 (hr c).2.1 (hr c).2.2.1 (hr c).2.2.2.1 (hr c).2.2.2.2 j0 j1)
      unfold Cert.Reference3Ideal.Value.res_main_v38 through root msq dh
      pointwise []
      simp only [Fin.sum_univ_one]),
    (h c).2.2.1.trans (funext fun j => by
      idx_vars j
      refine Eq.trans ?_ (sum_terms fun i => ref_part _ _ _ _ i j1)
      unfold root msq dh
      pointwise []), (h c).2.2.2⟩) (Cert.Reference3Ideal.Value.run m ρ)

end Cert.FfnInBwd

end
-- ==== Proof.InGrad.lean ====
/- The gradient of the feed-forward input weights: the call's result and the reference's, the same sum over the tokens, the gate's columns before the up projection's. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.InGrad

open Idealize.ShloMosaic Idealize.ShloMosaic.TcCoe Idealize.SL.Sem
open Idealize.ShloMosaic.Pipeline (Dat Cfg Window)
open Cert.Kernel4Ideal Cert.Kernel4Ideal.Gen

variable (m : (ℓ : Loc nD τ sig) → Buf (Elt Ideal) ℓ) (ρ : Dev nD → PrngReg)

theorem hz : (![0, 0] : Fin 2 → Nat) = fun _ => 0 := funext fun a => by fin_cases a <;> rfl

theorem pay1_at (a : Vec Ideal S4096x1024 .bf16) (b : Vec Ideal S4096x256 .bf16) (i : Fin 1024) (j : Fin 256) :
    ((k0_pay1 a b : FVec Ideal S1024x256 .f32) (ix2 i j) : EReal) = ∑ k : Fin 4096, (a (ix2 k i) : EReal) * b (ix2 k j) := by
  pointwise [k0_pay1]

theorem pay2_at (a : Vec Ideal S4096x1024 .bf16) (b : Vec Ideal S4096x256 .bf16) (i : Fin 1024) (j : Fin 256) :
    ((k0_pay2 a b : FVec Ideal S1024x256 .f32) (ix2 i j) : EReal) = ∑ k : Fin 4096, (a (ix2 k i) : EReal) * b (ix2 k j) := by
  pointwise [k0_pay2]

section
variable (c : Dev nD) (i : grid0.Coords) (a2 : Memref sig .tc .vmem S4096x1024 .bf16) (h2 : a2.IsWhole) (a3 : Memref sig .tc .vmem S4096x256 .bf16)
    (h3 : a3.IsWhole) (a4 : Memref sig .tc .vmem S4096x256 .bf16) (h4 : a4.IsWhole) (a5 : Memref sig .tc .vmem S1024x256 .f32) (h5 : a5.IsWhole)
    (x0 : Vec Ideal S4096x1024 .bf16) (x1 x2 : Vec Ideal S4096x256 .bf16)

theorem out_gate (hc0 : cond0_0 i) (hc1 : ¬cond0_1 i) : out0_A_3 c i a2 h2 a3 h3 a4 h4 a5 h5 hc0 hc1 x0 x1 x2 = k0_pay1 x0 x1 := by
  unfold out0_A_3
  rw [View.read_writes_eq_canon _ _ _ (cover0_A_3 c i a2 h2 a3 h3 a4 h4 a5 h5 hc0 hc1 x0 x1 x2)]
  unfold kernelRun0_A
  dsimp only
  rw [View.canon_unit_zero hz]
  simp only [View.readAt_eq_ld, h2.read_unread, h3.read_unread, View.ld_unit_zero (S := S4096x256) hz, View.ld_unit_zero (S := S4096x1024) hz]

theorem out_up (hc0 : ¬cond0_0 i) (hc1 : cond0_1 i) : out0_B_3 c i a2 h2 a3 h3 a4 h4 a5 h5 hc0 hc1 x0 x1 x2 = k0_pay2 x0 x2 := by
  unfold out0_B_3
  rw [View.read_writes_eq_canon _ _ _ (cover0_B_3 c i a2 h2 a3 h3 a4 h4 a5 h5 hc0 hc1 x0 x1 x2)]
  unfold kernelRun0_B
  dsimp only
  rw [View.canon_unit_zero hz]
  simp only [View.readAt_eq_ld, h2.read_unread, h4.read_unread, View.ld_unit_zero (S := S4096x256) hz, View.ld_unit_zero (S := S4096x1024) hz]

end

theorem places : ∀ t : Fin cfg0.N, win0_0.index t = ![0, 0] ∧ (t.val < 11 → win0_1.index t = ![0, t.val]) ∧ (11 ≤ t.val → win0_2.index t = ![0, t.val - 11])
    ∧ win0_3.index t = ![0, t.val] := by
  decide +kernel

abbrev argH (c : Dev nD) : FVec Ideal S4096x1024 .f32 := m ((c.tc : Thread nD τ).loc main_arg0)
abbrev argG (c : Dev nD) : FVec Ideal S4096x2816 .f32 := m ((c.tc : Thread nD τ).loc main_arg1)
abbrev argU (c : Dev nD) : FVec Ideal S4096x2816 .f32 := m ((c.tc : Thread nD τ).loc main_arg2)

/-- Two arrays beside each other. -/
def beside (a b : S4096x2816.Idx → EReal) (k : Fin 4096) (j : Fin 5632) : EReal :=
  if h : j.val < 2816 then a (ix2 k ⟨j.val, h⟩) else b (ix2 k ⟨j.val - 2816, by omega⟩)

/-- The gradient of the weights of a product, entry by entry. -/
def grad (x : S4096x1024.Idx → EReal) (a b : S4096x2816.Idx → EReal) (i : Fin 1024) (j : Fin 5632) : EReal :=
  ∑ k : Fin 4096, x (ix2 k i) * beside a b k j

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The result, the whole array. -/
theorem result (c : Dev nD) : (dats m 0 c).arrAt 3 cfg0.N
    = (fun j => grad (argH m c) (argG m c) (argU m c) (j 0) (j 1) : FVec Ideal S1024x5632 .f32) := by
  refine (dats m 0 c).arrAt_eq_of_covers 3 _ (by decide +kernel) fun t hf y => ?_
  have p := places t
  blk_simp
  rw [after0_3]
  idx_vars y
  have e : (((View.whole main_v3).slice (win0_3.rect t)).emb (ix2 y0 y1) 1).val = t.val * 256 + y1.val := by
    refine ((cfg0.win 3).rect_emb_val t (ix2 y0 y1) 1).trans ?_
    show win0_3.index t 1 * 256 + y1.val = _
    rw [p.2.2.2]
    rfl
  have := y1.isLt
  by_cases h : t.val < 11
  · rw [outsAt0_A m c t h (by omega), out_gate, pay1_at]
    unfold grad
    refine sum_terms fun k => mul_terms ?_ ?_
    · blk_ext [iblk, V, p.1, p.2.2.2]
    · unfold beside
      rw [dif_pos (e.trans_lt (by omega))]
      blk_ext [iblk, V, p.2.1 h, p.2.2.2]
  · rw [outsAt0_B m c t h (by omega), out_up, pay2_at]
    unfold grad
    refine sum_terms fun k => mul_terms ?_ ?_
    · blk_ext [iblk, V, p.1, p.2.2.2]
    · unfold beside
      rw [dif_neg (e ▸ by omega)]
      blk_ext [iblk, V, p.2.2.1 (by omega), p.2.2.2]

theorem ref_at (x : FVec Ideal S4096x1024 .f32) (a b : FVec Ideal S4096x2816 .f32) (i : Fin 1024) (j : Fin 5632)
    (h : Cert.Reference4Ideal.S5632x1024.Transposes [1, 0] Cert.Reference4Ideal.S1024x5632)
    (hc : Shape.Concatenates [S4096x2816, S4096x2816] Cert.Reference4Ideal.S4096x5632 1) :
    (transpose Cert.Reference4Ideal.S1024x5632 [1, 0] (Host.dotGeneral Cert.Reference4Ideal.dot_S4096x5632_S4096x1024_S5632x1024_0_0_1_1_n_n none
     (concatenate Cert.Reference4Ideal.S4096x5632 1 [⟨S4096x2816, a⟩, ⟨S4096x2816, b⟩] hc) x) h (ix2 i j) : EReal) = grad x a b i j := by
  unfold grad
  pointwise []
  exact sum_terms fun k => mul_comm _ _

/-- The call's result, and its arguments unchanged. -/
theorem values : θ_run defs (onTc (τ := τ) (main (F := Ideal))) ⟨m, fun _ => 0, ρ⟩ fun r => ∀ c : Dev nD,
      r.2.mem ((c.tc : Thread nD τ).loc main_v3) = (fun j => grad (argH m c) (argG m c) (argU m c) (j 0) (j 1) : FVec Ideal S1024x5632 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result m c), (h c).2⟩) (Cert.Kernel4Ideal.Value.run_blocks m ρ)

/-- The reference's result, and its arguments unchanged. -/
theorem reference (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r =>
      ∀ c : Dev Cert.Reference4Ideal.nD,
      r.2.mem ((c.tc : Thread Cert.Reference4Ideal.nD Cert.Reference4Ideal.τ).loc Cert.Reference4Ideal.main_v4)
        = (fun j => grad (m ((c.tc : Thread Cert.Reference4Ideal.nD Cert.Reference4Ideal.τ).loc Cert.Reference4Ideal.main_arg0))
          (m ((c.tc : Thread Cert.Reference4Ideal.nD Cert.Reference4Ideal.τ).loc Cert.Reference4Ideal.main_arg1))
          (m ((c.tc : Thread Cert.Reference4Ideal.nD Cert.Reference4Ideal.τ).loc Cert.Reference4Ideal.main_arg2)) (j 0) (j 1)
            : FVec Ideal Cert.Reference4Ideal.S1024x5632 .f32)
      ∧ r.2.mem ((c.tc : Thread Cert.Reference4Ideal.nD Cert.Reference4Ideal.τ).loc Cert.Reference4Ideal.main_arg0)
        = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1)
        = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2)
        = m ((c.tc : Thread Cert.Reference4Ideal.nD Cert.Reference4Ideal.τ).loc Cert.Reference4Ideal.main_arg2) :=
  (θ_run _ _ _).mono (fun _ h c => ⟨(h c).1.trans (funext fun j => by idx_vars j; exact ref_at _ _ _ _ _ _ _), (h c).2⟩)
    (Cert.Reference4Ideal.Value.run m ρ)

end Cert.InGrad

end
-- ==== Proof.OutGrad.lean ====
/- The gradient of the feed-forward output weights: the call's two results and the reference's, the same sum over the tokens. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.OutGrad

open Idealize.ShloMosaic Idealize.ShloMosaic.TcCoe Idealize.SL.Sem
open Idealize.ShloMosaic.Pipeline (Dat Cfg Window)
open Cert.Kernel5Ideal Cert.Kernel5Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a block of the gradient. -/
theorem pay_at (a : Vec Ideal S4096x256 .bf16) (b : Vec Ideal S4096x1024 .bf16) (i : Fin 256) (j : Fin 1024) :
    ((k0_pay1 a b : FVec Ideal S256x1024 .f32) (ix2 i j) : EReal) = ∑ k : Fin 4096, (a (ix2 k i) : EReal) * b (ix2 k j) := by
  pointwise [k0_pay1]

theorem pay2_at (a : Vec Ideal S4096x256 .bf16) (b : Vec Ideal S4096x1024 .bf16) (i : Fin 256) (j : Fin 1024) :
    ((k0_pay2 a b : FVec Ideal S256x1024 .bf16) (ix2 i j) : EReal) = ∑ k : Fin 4096, (a (ix2 k i) : EReal) * b (ix2 k j) := by
  pointwise [k0_pay2, k0_pay1]

theorem out_2 (c : Dev nD) (i : grid0.Coords) (a2 : Memref sig .tc .vmem S4096x256 .bf16) (h2 : a2.IsWhole) (a3 : Memref sig .tc .vmem S4096x1024 .bf16)
    (h3 : a3.IsWhole) (a4 : Memref sig .tc .vmem S256x1024 .f32) (h4 : a4.IsWhole) (a5 : Memref sig .tc .vmem S256x1024 .bf16) (h5 : a5.IsWhole)
    (hc : cond0_0 i) (x0 : Vec Ideal S4096x256 .bf16) (x1 : Vec Ideal S4096x1024 .bf16) :
    out0_A_2 c i a2 h2 a3 h3 a4 h4 a5 h5 hc x0 x1 = k0_pay1 x0 x1 := by
  unfold out0_A_2
  rw [View.read_writes_eq_canon _ _ _ (cover0_A_2 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x256) hz, View.ld_unit_zero (S := S4096x1024) hz]

theorem out_3 (c : Dev nD) (i : grid0.Coords) (a2 : Memref sig .tc .vmem S4096x256 .bf16) (h2 : a2.IsWhole) (a3 : Memref sig .tc .vmem S4096x1024 .bf16)
    (h3 : a3.IsWhole) (a4 : Memref sig .tc .vmem S256x1024 .f32) (h4 : a4.IsWhole) (a5 : Memref sig .tc .vmem S256x1024 .bf16) (h5 : a5.IsWhole)
    (hc : cond0_0 i) (x0 : Vec Ideal S4096x256 .bf16) (x1 : Vec Ideal S4096x1024 .bf16) :
    out0_A_3 c i a2 h2 a3 h3 a4 h4 a5 h5 hc x0 x1 = k0_pay2 x0 x1 := by
  unfold out0_A_3
  rw [View.read_writes_eq_canon _ _ _ (cover0_A_3 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x256) hz, View.ld_unit_zero (S := S4096x1024) hz]

theorem places : ∀ t : Fin cfg0.N, win0_0.index t = ![0, (grid0.coords t 0).val] ∧ win0_1.index t = ![0, 0] ∧ win0_2.index t = ![(grid0.coords t 0).val, 0]
    ∧ win0_3.index t = ![(grid0.coords t 0).val, 0] := by
  decide +kernel

abbrev argA (c : Dev nD) : FVec Ideal S4096x2816 .f32 := m ((c.tc : Thread nD τ).loc main_arg0)
abbrev argB (c : Dev nD) : FVec Ideal S4096x1024 .f32 := m ((c.tc : Thread nD τ).loc main_arg1)

/-- The gradient of the weights of a product, entry by entry. -/
def grad (a : S4096x2816.Idx → EReal) (b : S4096x1024.Idx → EReal) (i : Fin 2816) (j : Fin 1024) : EReal :=
  ∑ k : Fin 4096, a (ix2 k i) * b (ix2 k j)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The first result, the whole array. -/
theorem result2 (c : Dev nD) : (dats m 0 c).arrAt 2 cfg0.N = (fun j => grad (argA m c) (argB m c) (j 0) (j 1) : FVec Ideal S2816x1024 .f32) := by
  refine (dats m 0 c).arrAt_eq_of_covers 2 _ (by decide +kernel) fun t hf y => ?_
  blk_simp
  rw [after0_2]
  unfold outsAt0
  dsimp only
  rw [out_2]
  idx_vars y
  rw [pay_at]
  unfold grad
  refine sum_terms fun k => mul_terms ?_ ?_ <;> blk_ext [iblk, V, places t]

theorem result3 (c : Dev nD) : (dats m 0 c).arrAt 3 cfg0.N = (fun j => grad (argA m c) (argB m c) (j 0) (j 1) : FVec Ideal S2816x1024 .bf16) := by
  refine (dats m 0 c).arrAt_eq_of_covers 3 _ (by decide +kernel) fun t hf y => ?_
  blk_simp
  rw [after0_3]
  unfold outsAt0
  dsimp only
  rw [out_3]
  idx_vars y
  rw [pay2_at]
  unfold grad
  refine sum_terms fun k => mul_terms ?_ ?_ <;> blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v2_0) = (fun j => grad (argA m c) (argB m c) (j 0) (j 1) : FVec Ideal S2816x1024 .f32)
      ∧ r.2.mem ((c.tc : Thread nD τ).loc main_v2_1) = (fun j => grad (argA m c) (argB m c) (j 0) (j 1) : FVec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result2 m c), (h c).2.1.trans (result3 m c), (h c).2.2⟩) (Cert.Kernel5Ideal.Value.run_blocks m ρ)

/-- The reference's first result, entry by entry. -/
theorem ref_at (a : FVec Ideal S4096x2816 .f32) (b : FVec Ideal S4096x1024 .f32) (i : Fin 2816) (j : Fin 1024)
    (h : Cert.Reference5Ideal.S1024x2816.Transposes [1, 0] Cert.Reference5Ideal.S2816x1024) :
    (transpose Cert.Reference5Ideal.S2816x1024 [1, 0] (Host.dotGeneral Cert.Reference5Ideal.dot_S4096x1024_S4096x2816_S1024x2816_0_0_1_1_n_n none b a)
      h (ix2 i j) : EReal) = grad a b i j := by
  unfold grad
  pointwise []
  exact Finset.sum_congr rfl fun k _ => mul_comm _ _

open Cert.Reference5Ideal in
/-- The reference's two results, and its arguments unchanged. -/
theorem reference (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ fun r =>
      ∀ c : Dev Cert.Reference5Ideal.nD,
      r.2.mem ((c.tc : Thread Cert.Reference5Ideal.nD Cert.Reference5Ideal.τ).loc Cert.Reference5Ideal.main_v3)
        = (fun j => grad (m ((c.tc : Thread Cert.Reference5Ideal.nD Cert.Reference5Ideal.τ).loc Cert.Reference5Ideal.main_arg0))
          (m ((c.tc : Thread Cert.Reference5Ideal.nD Cert.Reference5Ideal.τ).loc Cert.Reference5Ideal.main_arg1)) (j 0) (j 1)
            : FVec Ideal Cert.Reference5Ideal.S2816x1024 .f32)
      ∧ r.2.mem ((c.tc : Thread Cert.Reference5Ideal.nD Cert.Reference5Ideal.τ).loc Cert.Reference5Ideal.main_v4)
        = (fun j => grad (m ((c.tc : Thread Cert.Reference5Ideal.nD Cert.Reference5Ideal.τ).loc Cert.Reference5Ideal.main_arg0))
          (m ((c.tc : Thread Cert.Reference5Ideal.nD Cert.Reference5Ideal.τ).loc Cert.Reference5Ideal.main_arg1)) (j 0) (j 1)
            : FVec Ideal Cert.Reference5Ideal.S2816x1024 .bf16)
      ∧ r.2.mem ((c.tc : Thread Cert.Reference5Ideal.nD Cert.Reference5Ideal.τ).loc Cert.Reference5Ideal.main_arg0)
        = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1)
        = m ((c.tc : Thread Cert.Reference5Ideal.nD Cert.Reference5Ideal.τ).loc Cert.Reference5Ideal.main_arg1) :=
  (θ_run _ _ _).mono (fun _ h c => ⟨(h c).1.trans (funext fun j => by idx_vars j; exact ref_at _ _ _ _ _),
    (h c).2.1.trans (funext fun j => by idx_vars j; exact ref_at _ _ _ _ _), (h c).2.2⟩) (Cert.Reference5Ideal.Value.run m ρ)

end Cert.OutGrad

end
-- ==== Proof.FfnLoss.lean ====
/- The loss, its derivative through the last normalisation and the product before it: the call's four results and the reference's. -/
module

public import proofs.«01_k».proof.Defs
public import proofs.«01_k».proof.Proof.Gen.Kernel7Ideal.Value
public import proofs.«01_k».proof.Proof.Gen.Reference7Ideal.Run
public import proofs.«01_k».proof.Proof.Norm
public import Idealize.ShloMosaic.Lib.Pointwise
public import Idealize.ShloMosaic.Lib.Pipeline.Value
public import Idealize.ShloMosaic.Lib.Pipeline.ValueKit

@[expose] public section

set_option maxRecDepth 16384

noncomputable section

namespace Cert.FfnLoss

open Idealize.ShloMosaic Idealize.ShloMosaic.TcCoe Idealize.SL.Sem
open Idealize.ShloMosaic.Pipeline (Dat Cfg Window)
open Cert.Kernel7Ideal Cert.Kernel7Ideal.Gen
open Cert.Ffn

variable (m : (ℓ : Loc nD τ sig) → Buf (Elt Ideal) ℓ) (ρ : Dev nD → PrngReg)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

theorem add_terms {a b a' b' : EReal} (h : a = a') (h' : b = b') : a + b = a' + b' := congrArg₂ _ h h'

/-- A row of the residual stream behind the feed-forward layer. -/
def row {n : ℕ} (x : (⟨2, ![n, 1024]⟩ : Shape).Idx → EReal) (a : (⟨2, ![n, 2816]⟩ : Shape).Idx → EReal) (w : S2816x1024.Idx → EReal) (i : Fin n) (j : Fin 1024) : EReal :=
  x (ix2 i j) + ∑ k : Fin 2816, a (ix2 i k) * w (ix2 k j)

/-- What the normalised row misses its target by. -/
def miss (h t g : Fin 1024 → EReal) (j : Fin 1024) : EReal := h j * root h * g j - t j

/-- The cotangent of the normalised row. -/
def byRow (h t g : Fin 1024 → EReal) (j : Fin 1024) : EReal := miss h t g j * Ideal.ofBits .f32 0x3A800000#32

def dx (h t g : Fin 1024 → EReal) (j : Fin 1024) : EReal := back h (fun k => byRow h t g k * g k) j

/-- What one row gives to the sum of squares. -/
def sqp (h t g : Fin 1024 → EReal) (j : Fin 1024) : EReal := miss h t g j * miss h t g j

/-- What one row gives to the scale's gradient. -/
def dgp (h t g : Fin 1024 → EReal) (j : Fin 1024) : EReal := byRow h t g j * (h j * root h)

section
variable {h h' t t' g g' : Fin 1024 → EReal} {j j' : Fin 1024} (hj : j = j') (hh : ∀ k, h k = h' k) (ht : ∀ k, t k = t' k) (hg : ∀ k, g k = g' k)
include hj hh ht hg
theorem dx_congr : dx h t g j = dx h' t' g' j' := by rw [hj, funext hh, funext ht, funext hg]
theorem sqp_congr : sqp h t g j = sqp h' t' g' j' := by rw [hj, funext hh, funext ht, funext hg]
theorem dgp_congr : dgp h t g j = dgp h' t' g' j' := by rw [hj, funext hh, funext ht, funext hg]
end

section
variable (w : Vec Ideal S2816x1024 .bf16) (x t : Vec Ideal S256x1024 .f32) (a : Vec Ideal S256x2816 .bf16) (g acc : Vec Ideal S1x1024 .f32)
  (y e z : FVec Ideal S256x1024 .f32) (i : Fin 256) (j : Fin 1024)

theorem at_pay6 : ((k0_pay6 w x a : FVec Ideal S256x1024 .f32) (ix2 i j) : EReal) = row x a w i j := by
  unfold row
  pointwise [k0_pay6, k0_pay5]

theorem at_pay16 : ((k0_pay16 (k0_pay5 w) x a : FVec Ideal S256x1024 .f32) (ix2 i j) : EReal) = row x a w i j := by
  unfold row
  pointwise [k0_pay16, k0_pay5]

theorem at_pay7 : ((k0_pay7 g w x a t : FVec Ideal S256x1024 .f32) (ix2 i j) : EReal) = miss (row x a w i) (fun k => t (ix2 i k)) (fun k => g (ix2 0 k)) j := by
  have h (k) := at_pay6 w x a i k
  generalize hy : k0_pay6 w x a = y at h
  unfold k0_pay7
  rw [hy]
  simp only [miss, root, msq, ← h]
  pointwise []

theorem at_pay9 : ((k0_pay9 g w x a t : FVec Ideal S256x1024 .f32) (ix2 i j) : EReal) = byRow (row x a w i) (fun k => t (ix2 i k)) (fun k => g (ix2 0 k)) j := by
  rw [byRow, ← at_pay7]
  pointwise [k0_pay9]

theorem at_pay8 (z : Fin 1) : ((k0_pay8 g w x a t acc : FVec Ideal S1x1024 .f32) (ix2 z j) : EReal)
    = acc (ix2 z j) + ∑ i : Fin 256, sqp (row x a w i) (fun k => t (ix2 i k)) (fun k => g (ix2 0 k)) j := by
  simp only [sqp, ← at_pay7]
  pointwise [k0_pay8]

theorem at_pay13 : ((k0_pay13 g (k0_pay6 w x a) (k0_pay9 g w x a t) (k0_pay10 w x a) : FVec Ideal S256x1024 .f32) (ix2 i j) : EReal)
    = dx (row x a w i) (fun k => t (ix2 i k)) (fun k => g (ix2 0 k)) j := by
  have h (k) := at_pay6 w x a i k
  have h' (k) := at_pay9 w x t a g i k
  unfold k0_pay10
  generalize k0_pay9 g w x a t = e at h'
  rw [dx, ← funext h']
  generalize k0_pay6 w x a = y at h
  rw [← funext h]
  unfold back root msq
  pointwise [k0_pay13, k0_pay12, k0_pay11]

theorem at_pay14 (z : Fin 1) : ((k0_pay14 (k0_pay6 w x a) (k0_pay9 g w x a t) (k0_pay10 w x a) acc : FVec Ideal S1x1024 .f32) (ix2 z j) : EReal)
    = acc (ix2 z j) + ∑ i : Fin 256, dgp (row x a w i) (fun k => t (ix2 i k)) (fun k => g (ix2 0 k)) j := by
  have h (i k) := at_pay6 w x a i k
  have h' (i k) := at_pay9 w x t a g i k
  unfold k0_pay10
  generalize k0_pay9 g w x a t = e at h'
  simp only [dgp, ← h']
  generalize k0_pay6 w x a = y at h
  simp only [root, msq, ← h]
  pointwise [k0_pay14, k0_pay12, k0_pay11]

theorem at_pay15 : ((k0_pay15 g (k0_pay6 w x a) (k0_pay9 g w x a t) (k0_pay10 w x a) : FVec Ideal S256x1024 .bf16) (ix2 i j) : EReal)
    = dx (row x a w i) (fun k => t (ix2 i k)) (fun k => g (ix2 0 k)) j := at_pay13 w x t a g i j

/-- The second stretch of rows. -/
theorem at_pay18 : ((k0_pay18 g (k0_pay16 (k0_pay5 w) x a) (k0_pay17 (k0_pay5 w) x a) t : FVec Ideal S256x1024 .f32) (ix2 i j) : EReal)
    = miss (row x a w i) (fun k => t (ix2 i k)) (fun k => g (ix2 0 k)) j := by
  have h (k) := at_pay16 w x a i k
  unfold k0_pay17
  generalize k0_pay16 (k0_pay5 w) x a = y at h
  simp only [miss, root, msq, ← h]
  pointwise [k0_pay18]

theorem at_pay20 : ((k0_pay20 g (k0_pay16 (k0_pay5 w) x a) (k0_pay17 (k0_pay5 w) x a) t : FVec Ideal S256x1024 .f32) (ix2 i j) : EReal)
    = byRow (row x a w i) (fun k => t (ix2 i k)) (fun k => g (ix2 0 k)) j := by
  rw [byRow, ← at_pay18]
  pointwise [k0_pay20]

theorem at_pay19 (z : Fin 1) : ((k0_pay19 g (k0_pay16 (k0_pay5 w) x a) (k0_pay17 (k0_pay5 w) x a) t acc : FVec Ideal S1x1024 .f32) (ix2 z j) : EReal)
    = acc (ix2 z j) + ∑ i : Fin 256, sqp (row x a w i) (fun k => t (ix2 i k)) (fun k => g (ix2 0 k)) j := by
  simp only [sqp, ← at_pay18]
  pointwise [k0_pay19]

theorem at_pay23 : ((k0_pay23 g (k0_pay16 (k0_pay5 w) x a) (k0_pay17 (k0_pay5 w) x a) t : FVec Ideal S256x1024 .f32) (ix2 i j) : EReal)
    = dx (row x a w i) (fun k => t (ix2 i k)) (fun k => g (ix2 0 k)) j := by
  have h (k) := at_pay16 w x a i k
  have h' (k) := at_pay20 w x t a g i k
  unfold k0_pay23
  generalize k0_pay20 g (k0_pay16 (k0_pay5 w) x a) (k0_pay17 (k0_pay5 w) x a) t = e at h'
  rw [dx, ← funext h']
  generalize k0_pay16 (k0_pay5 w) x a = y at h
  rw [← funext h]
  unfold back root msq
  pointwise [k0_pay22, k0_pay21]

theorem at_pay2 : ((k0_pay2 (k0_pay23 g (k0_pay16 (k0_pay5 w) x a) (k0_pay17 (k0_pay5 w) x a) t) : FVec Ideal S256x1024 .bf16) (ix2 i j) : EReal)
    = dx (row x a w i) (fun k => t (ix2 i k)) (fun k => g (ix2 0 k)) j := at_pay23 w x t a g i j

theorem at_pay1 (z : Fin 1) : ((k0_pay1 (k0_pay20 g (k0_pay16 (k0_pay5 w) x a) (k0_pay17 (k0_pay5 w) x a) t) (k0_pay22 (k0_pay16 (k0_pay5 w) x a)) acc : FVec Ideal S1x1024 .f32) (ix2 z j) : EReal)
    = acc (ix2 z j) + ∑ i : Fin 256, dgp (row x a w i) (fun k => t (ix2 i k)) (fun k => g (ix2 0 k)) j := by
  have h (i k) := at_pay16 w x a i k
  have h' (i k) := at_pay20 w x t a g i k
  generalize k0_pay20 g (k0_pay16 (k0_pay5 w) x a) (k0_pay17 (k0_pay5 w) x a) t = e at h'
  simp only [dgp, ← h']
  generalize k0_pay16 (k0_pay5 w) x a = y at h
  simp only [root, msq, ← h]
  pointwise [k0_pay1, k0_pay22, k0_pay21]

theorem at_pay3 (z : Fin 1) : ((k0_pay3 : FVec Ideal S1x1024 .f32) (ix2 z j) : EReal) = 0 := by
  pointwise [k0_pay3]

theorem at_pay4 (z : Fin 1) : ((k0_pay4 : FVec Ideal S1x1024 .f32) (ix2 z j) : EReal) = 0 := by
  pointwise [k0_pay4]
end

/-- A stretch of a block's rows, read at an entry. -/
theorem ld_part (x : Vec Ideal S512x1024 .f32) {o : ℕ} (b : ∀ a, (![o, 0] : Fin 2 → ℕ) a + S256x1024.size a ≤ S512x1024.size a)
    {i : Fin 256} {i' : Fin 512} (h : i'.val = o + i.val) (k : Fin 1024) :
    View.ld x (Rect.unit (s := S512x1024) ![o, 0] S256x1024.size b) (ix2 i k) = x (ix2 i' k) :=
  View.ld_unit_apply_of _ _ _ _ _ _ (fun a => by fin_cases a <;> simp [h])

theorem row_part (x : Vec Ideal S512x1024 .f32) (a : Vec Ideal S512x2816 .bf16) (w : S2816x1024.Idx → EReal) {o : ℕ}
    (b : ∀ a, (![o, 0] : Fin 2 → ℕ) a + S256x1024.size a ≤ S512x1024.size a) (b' : ∀ a, (![o, 0] : Fin 2 → ℕ) a + S256x2816.size a ≤ S512x2816.size a)
    {i : Fin 256} {i' : Fin 512} (h : i'.val = o + i.val) (k : Fin 1024) :
    row (View.ld x (Rect.unit (s := S512x1024) ![o, 0] S256x1024.size b)) (View.ld a (Rect.unit (s := S512x2816) ![o, 0] S256x2816.size b')) w i k = row x a w i' k := by
  unfold row
  refine add_terms (ld_part x b h k) (sum_terms fun q => mul_terms ?_ rfl)
  exact View.ld_unit_apply_of _ _ _ _ _ _ (fun a => by fin_cases a <;> simp [h])

/-- A sum over a block's rows, stretch by stretch. -/
theorem sum_halves (f : Fin 512 → EReal) : ∑ p, f p = ∑ i : Fin 256, f ⟨i.val, by omega⟩ + ∑ i : Fin 256, f ⟨256 + i.val, by omega⟩ :=
  Fin.sum_univ_add (a := 256) (b := 256) f

section
variable (x0 : Vec Ideal S512x2816 .bf16) (x1 : Vec Ideal S2816x1024 .bf16) (x2 x4 : Vec Ideal S512x1024 .f32) (x3 xo xq : Vec Ideal S1x1024 .f32)
variable (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole)
   (a4 : Memref sig .tc .vmem S1x1024 .f32) (h4 : a4.IsWhole) (a5 : Memref sig .tc .vmem S512x1024 .f32) (h5 : a5.IsWhole) (a6 : Memref sig .tc .vmem S512x1024 .f32) (h6 : a6.IsWhole)
   (a7 : Memref sig .tc .vmem S512x1024 .bf16) (h7 : a7.IsWhole) (a8 : Memref sig .tc .vmem S1x1024 .f32) (h8 : a8.IsWhole) (a9 : Memref sig .tc .vmem S1x1024 .f32) (h9 : a9.IsWhole)

theorem outA_5 (hc : cond0_0 i) (p : Fin 512) (q : Fin 1024) :
    (out0_A_5 c i a1 h1 a2 h2 a3 h3 a4 h4 a5 h5 a6 h6 a7 h7 a8 h8 a9 h9 hc x0 x1 x2 x3 x4 (ix2 p q) : EReal) = dx (row x2 x0 x1 p) (fun k => x4 (ix2 p k)) (fun k => x3 (ix2 0 k)) q := by
  frame_out
  canon_tiles x h <;> idx_vars x <;> (obtain rfl : q = _ := Fin.ext h1)
  · rw [at_pay23]; exact dx_congr rfl (fun k => row_part _ _ _ _ _ h0 k) (fun k => ld_part _ _ h0 k) (fun k => rfl)
  · rw [at_pay13]; exact dx_congr rfl (fun k => row_part _ _ _ _ _ (h0.trans (Nat.zero_add _).symm) k) (fun k => ld_part _ _ (h0.trans (Nat.zero_add _).symm) k) (fun k => rfl)

theorem outB_5 (hc : ¬cond0_0 i) (p : Fin 512) (q : Fin 1024) :
    (out0_B_5 c i a1 h1 a2 h2 a3 h3 a4 h4 a5 h5 a6 h6 a7 h7 a8 h8 a9 h9 hc x0 x1 x2 x3 x4 xo xq (ix2 p q) : EReal) = dx (row x2 x0 x1 p) (fun k => x4 (ix2 p k)) (fun k => x3 (ix2 0 k)) q := by
  frame_out
  canon_tiles x h <;> idx_vars x <;> (obtain rfl : q = _ := Fin.ext h1)
  · rw [at_pay23]; exact dx_congr rfl (fun k => row_part _ _ _ _ _ h0 k) (fun k => ld_part _ _ h0 k) (fun k => rfl)
  · rw [at_pay13]; exact dx_congr rfl (fun k => row_part _ _ _ _ _ (h0.trans (Nat.zero_add _).symm) k) (fun k => ld_part _ _ (h0.trans (Nat.zero_add _).symm) k) (fun k => rfl)

theorem outA_6 (hc : cond0_0 i) (p : Fin 512) (q : Fin 1024) :
    (out0_A_6 c i a1 h1 a2 h2 a3 h3 a4 h4 a5 h5 a6 h6 a7 h7 a8 h8 a9 h9 hc x0 x1 x2 x3 x4 (ix2 p q) : EReal) = dx (row x2 x0 x1 p) (fun k => x4 (ix2 p k)) (fun k => x3 (ix2 0 k)) q := by
  frame_out
  canon_tiles x h <;> idx_vars x <;> (obtain rfl : q = _ := Fin.ext h1)
  · rw [at_pay2]; exact dx_congr rfl (fun k => row_part _ _ _ _ _ h0 k) (fun k => ld_part _ _ h0 k) (fun k => rfl)
  · rw [at_pay15]; exact dx_congr rfl (fun k => row_part _ _ _ _ _ (h0.trans (Nat.zero_add _).symm) k) (fun k => ld_part _ _ (h0.trans (Nat.zero_add _).symm) k) (fun k => rfl)

theorem outB_6 (hc : ¬cond0_0 i) (p : Fin 512) (q : Fin 1024) :
    (out0_B_6 c i a1 h1 a2 h2 a3 h3 a4 h4 a5 h5 a6 h6 a7 h7 a8 h8 a9 h9 hc x0 x1 x2 x3 x4 xo xq (ix2 p q) : EReal) = dx (row x2 x0 x1 p) (fun k => x4 (ix2 p k)) (fun k => x3 (ix2 0 k)) q := by
  frame_out
  canon_tiles x h <;> idx_vars x <;> (obtain rfl : q = _ := Fin.ext h1)
  · rw [at_pay2]; exact dx_congr rfl (fun k => row_part _ _ _ _ _ h0 k) (fun k => ld_part _ _ h0 k) (fun k => rfl)
  · rw [at_pay15]; exact dx_congr rfl (fun k => row_part _ _ _ _ _ (h0.trans (Nat.zero_add _).symm) k) (fun k => ld_part _ _ (h0.trans (Nat.zero_add _).symm) k) (fun k => rfl)

theorem outA_7 (hc : cond0_0 i) (q : Fin 1024) :
    (out0_A_7 c i a1 h1 a2 h2 a3 h3 a4 h4 a5 h5 a6 h6 a7 h7 a8 h8 a9 h9 hc x0 x1 x2 x3 x4 (ix2 0 q) : EReal) = 0 + ∑ p, sqp (row x2 x0 x1 p) (fun k => x4 (ix2 p k)) (fun k => x3 (ix2 0 k)) q := by
  frame_out
  rw [at_pay19, at_pay8, at_pay3, add_assoc, sum_halves]
  refine congrArg _ (add_terms (sum_terms fun i => ?_) (sum_terms fun i => ?_))
  · exact sqp_congr rfl (fun k => row_part _ _ _ _ _ (Nat.zero_add _).symm k) (fun k => ld_part _ _ (Nat.zero_add _).symm k) (fun k => rfl)
  · exact sqp_congr rfl (fun k => row_part _ _ _ _ _ rfl k) (fun k => ld_part _ _ rfl k) (fun k => rfl)

theorem outB_7 (hc : ¬cond0_0 i) (q : Fin 1024) :
    (out0_B_7 c i a1 h1 a2 h2 a3 h3 a4 h4 a5 h5 a6 h6 a7 h7 a8 h8 a9 h9 hc x0 x1 x2 x3 x4 xo xq (ix2 0 q) : EReal) = xo (ix2 0 q) + ∑ p, sqp (row x2 x0 x1 p) (fun k => x4 (ix2 p k)) (fun k => x3 (ix2 0 k)) q := by
  frame_out
  rw [at_pay19, at_pay8, add_assoc, sum_halves]
  refine congrArg _ (add_terms (sum_terms fun i => ?_) (sum_terms fun i => ?_))
  · exact sqp_congr rfl (fun k => row_part _ _ _ _ _ (Nat.zero_add _).symm k) (fun k => ld_part _ _ (Nat.zero_add _).symm k) (fun k => rfl)
  · exact sqp_congr rfl (fun k => row_part _ _ _ _ _ rfl k) (fun k => ld_part _ _ rfl k) (fun k => rfl)

theorem outA_8 (hc : cond0_0 i) (q : Fin 1024) :
    (out0_A_8 c i a1 h1 a2 h2 a3 h3 a4 h4 a5 h5 a6 h6 a7 h7 a8 h8 a9 h9 hc x0 x1 x2 x3 x4 (ix2 0 q) : EReal) = 0 + ∑ p, dgp (row x2 x0 x1 p) (fun k => x4 (ix2 p k)) (fun k => x3 (ix2 0 k)) q := by
  frame_out
  rw [at_pay1, at_pay14, at_pay4, add_assoc, sum_halves]
  refine congrArg _ (add_terms (sum_terms fun i => ?_) (sum_terms fun i => ?_))
  · exact dgp_congr rfl (fun k => row_part _ _ _ _ _ (Nat.zero_add _).symm k) (fun k => ld_part _ _ (Nat.zero_add _).symm k) (fun k => rfl)
  · exact dgp_congr rfl (fun k => row_part _ _ _ _ _ rfl k) (fun k => ld_part _ _ rfl k) (fun k => rfl)

theorem outB_8 (hc : ¬cond0_0 i) (q : Fin 1024) :
    (out0_B_8 c i a1 h1 a2 h2 a3 h3 a4 h4 a5 h5 a6 h6 a7 h7 a8 h8 a9 h9 hc x0 x1 x2 x3 x4 xo xq (ix2 0 q) : EReal) = xq (ix2 0 q) + ∑ p, dgp (row x2 x0 x1 p) (fun k => x4 (ix2 p k)) (fun k => x3 (ix2 0 k)) q := by
  frame_out
  rw [at_pay1, at_pay14, add_assoc, sum_halves]
  refine congrArg _ (add_terms (sum_terms fun i => ?_) (sum_terms fun i => ?_))
  · exact dgp_congr rfl (fun k => row_part _ _ _ _ _ (Nat.zero_add _).symm k) (fun k => ld_part _ _ (Nat.zero_add _).symm k) (fun k => rfl)
  · exact dgp_congr rfl (fun k => row_part _ _ _ _ _ rfl k) (fun k => ld_part _ _ rfl k) (fun k => rfl)

end

theorem places : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![0, 0] := by
  decide +kernel

abbrev argA (c : Dev nD) : FVec Ideal S4096x2816 .f32 := m ((c.tc : Thread nD τ).loc main_arg0)
abbrev argW (c : Dev nD) : FVec Ideal S2816x1024 .f32 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
abbrev argT (c : Dev nD) : FVec Ideal S4096x1024 .f32 := m ((c.tc : Thread nD τ).loc main_arg4)

/-- A row read through other arrays. -/
theorem row_eq {n n' : ℕ} {x : (⟨2, ![n, 1024]⟩ : Shape).Idx → EReal} {x' : (⟨2, ![n', 1024]⟩ : Shape).Idx → EReal} {a : (⟨2, ![n, 2816]⟩ : Shape).Idx → EReal}
    {a' : (⟨2, ![n', 2816]⟩ : Shape).Idx → EReal} {w w' : S2816x1024.Idx → EReal} {i : Fin n} {i' : Fin n'}
    (hx : ∀ k, x (ix2 i k) = x' (ix2 i' k)) (ha : ∀ k, a (ix2 i k) = a' (ix2 i' k)) (hw : ∀ k j, w (ix2 k j) = w' (ix2 k j)) (k : Fin 1024) :
    row x a w i k = row x' a' w' i' k := by
  unfold row
  simp only [hx, ha, hw]

/-- The cotangent of the row after the point's body, in either case. -/
theorem after5 (c : Dev nD) (t : Fin cfg0.N) (p : Fin 512) (q : Fin 1024) :
    ((outsAt0 m c t.val t.isLt).1 (ix2 p q) : EReal) = dx (row (iblk m c 2 t) (iblk m c 0 t) (iblk m c 1 t) p) (fun k => (iblk m c 4 t) (ix2 p k)) (fun k => (iblk m c 3 t) (ix2 0 k)) q := by
  by_cases h : t.val % 8 = 0
  · rw [outsAt0_A m c t h]; dsimp only; rw [outA_5]
  · rw [outsAt0_B m c t h]; dsimp only; rw [outB_5]

theorem result5 (c : Dev nD) : (dats m 0 c).arrAt 5 cfg0.N = (fun j => dx (row (argX m c) (argA m c) (argW m c) (j 0)) (fun k => (argT m c) (ix2 (j 0) k)) (fun k => (argG m c) (ix2 0 k)) (j 1) : FVec Ideal S4096x1024 .f32) := by
  refine (dats m 0 c).arrAt_eq_of_covers 5 _ (by decide +kernel) fun t hf y => ?_
  blk_simp
  rw [after0_5]
  idx_vars y
  refine (after5 m c t _ _).trans ?_
  refine dx_congr (Fin.ext ?_) (row_eq (fun k => ?_) (fun k => ?_) (fun k j => ?_)) (fun k => ?_) (fun k => ?_)
  · blk_simp [places t]
  all_goals blk_ext [iblk, V, places t]

/-- The cotangent of the row after the point's body, in either case. -/
theorem after6 (c : Dev nD) (t : Fin cfg0.N) (p : Fin 512) (q : Fin 1024) :
    ((outsAt0 m c t.val t.isLt).2.1 (ix2 p q) : EReal) = dx (row (iblk m c 2 t) (iblk m c 0 t) (iblk m c 1 t) p) (fun k => (iblk m c 4 t) (ix2 p k)) (fun k => (iblk m c 3 t) (ix2 0 k)) q := by
  by_cases h : t.val % 8 = 0
  · rw [outsAt0_A m c t h]; dsimp only; rw [outA_6]
  · rw [outsAt0_B m c t h]; dsimp only; rw [outB_6]

theorem result6 (c : Dev nD) : (dats m 0 c).arrAt 6 cfg0.N = (fun j => dx (row (argX m c) (argA m c) (argW m c) (j 0)) (fun k => (argT m c) (ix2 (j 0) k)) (fun k => (argG m c) (ix2 0 k)) (j 1) : FVec Ideal S4096x1024 .bf16) := by
  refine (dats m 0 c).arrAt_eq_of_covers 6 _ (by decide +kernel) fun t hf y => ?_
  blk_simp
  rw [after0_6]
  idx_vars y
  refine (after6 m c t _ _).trans ?_
  refine dx_congr (Fin.ext ?_) (row_eq (fun k => ?_) (fun k => ?_) (fun k j => ?_)) (fun k => ?_) (fun k => ?_)
  · blk_simp [places t]
  all_goals blk_ext [iblk, V, places t]

theorem result7 (c : Dev nD) : (dats m 0 c).arrAt 7 cfg0.N = (fun j => ∑ i : Fin 4096, sqp (row (argX m c) (argA m c) (argW m c) i) (fun k => (argT m c) (ix2 i k)) (fun k => (argG m c) (ix2 0 k)) (j 1) : FVec Ideal S1x1024 .f32) := by
  refine (dats m 0 c).arrAt_eq_of_covers 7 _ (by decide +kernel) fun t hf y => ?_
  have hN : cfg0.N = 8 := N_0
  have ht : t.val + 1 = cfg0.N := by have := (flush0_7 t).mp hf; have := t.isLt; omega
  blk_simp
  rw [after0_7]
  idx_vars y
  obtain rfl : y0 = 0 := Subsingleton.elim _ _
  rw [Pipeline.eq_sum_fin_of_reset_step_apply_last (fun n h => fun q : Fin 1024 => ((outsAt0 m c n h).2.2.1 (ix2 0 q) : EReal)) 8 (fun _ => 0)
    (fun t q => ∑ p, sqp (row (iblk m c 2 t) (iblk m c 0 t) (iblk m c 1 t) p) (fun k => (iblk m c 4 t) (ix2 p k)) (fun k => (iblk m c 3 t) (ix2 0 k)) q)
    (fun t h q => by rw [outsAt0_A m c t h]; dsimp only; rw [outA_7])
    (fun t h q => by rw [outsAt0_B m c t h]; dsimp only; rw [outB_7])
    (le_of_eq hN) t ht y1, zero_add]
  refine Fin.sum_mul_add_congr (fun s k hl => ?_) (by rw [hN])
  refine sqp_congr (Fin.ext ?_) (row_eq (fun k => ?_) (fun k => ?_) (fun k j => ?_)) (fun k => ?_) (fun k => ?_)
  · blk_simp [places t]
  all_goals blk_ext [iblk, V, places s]

theorem result8 (c : Dev nD) : (dats m 0 c).arrAt 8 cfg0.N = (fun j => ∑ i : Fin 4096, dgp (row (argX m c) (argA m c) (argW m c) i) (fun k => (argT m c) (ix2 i k)) (fun k => (argG m c) (ix2 0 k)) (j 1) : FVec Ideal S1x1024 .f32) := by
  refine (dats m 0 c).arrAt_eq_of_covers 8 _ (by decide +kernel) fun t hf y => ?_
  have hN : cfg0.N = 8 := N_0
  have ht : t.val + 1 = cfg0.N := by have := (flush0_8 t).mp hf; have := t.isLt; omega
  blk_simp
  rw [after0_8]
  idx_vars y
  obtain rfl : y0 = 0 := Subsingleton.elim _ _
  rw [Pipeline.eq_sum_fin_of_reset_step_apply_last (fun n h => fun q : Fin 1024 => ((outsAt0 m c n h).2.2.2 (ix2 0 q) : EReal)) 8 (fun _ => 0)
    (fun t q => ∑ p, dgp (row (iblk m c 2 t) (iblk m c 0 t) (iblk m c 1 t) p) (fun k => (iblk m c 4 t) (ix2 p k)) (fun k => (iblk m c 3 t) (ix2 0 k)) q)
    (fun t h q => by rw [outsAt0_A m c t h]; dsimp only; rw [outA_8])
    (fun t h q => by rw [outsAt0_B m c t h]; dsimp only; rw [outB_8])
    (le_of_eq hN) t ht y1, zero_add]
  refine Fin.sum_mul_add_congr (fun s k hl => ?_) (by rw [hN])
  refine dgp_congr (Fin.ext ?_) (row_eq (fun k => ?_) (fun k => ?_) (fun k j => ?_)) (fun k => ?_) (fun k => ?_)
  · blk_simp [places t]
  all_goals blk_ext [iblk, V, places s]

/-- The call's four results, and its arguments unchanged. -/
theorem values : θ_run defs (onTc (τ := τ) (main (F := Ideal))) ⟨m, fun _ => 0, ρ⟩ fun r => ∀ c : Dev nD,
      r.2.mem ((c.tc : Thread nD τ).loc main_v2_0) = (fun j => dx (row (argX m c) (argA m c) (argW m c) (j 0)) (fun k => (argT m c) (ix2 (j 0) k)) (fun k => (argG m c) (ix2 0 k)) (j 1) : FVec Ideal S4096x1024 .f32)
      ∧ r.2.mem ((c.tc : Thread nD τ).loc main_v2_1) = (fun j => dx (row (argX m c) (argA m c) (argW m c) (j 0)) (fun k => (argT m c) (ix2 (j 0) k)) (fun k => (argG m c) (ix2 0 k)) (j 1) : FVec Ideal S4096x1024 .bf16)
      ∧ r.2.mem ((c.tc : Thread nD τ).loc main_v2_2) = (fun j => ∑ i : Fin 4096, sqp (row (argX m c) (argA m c) (argW m c) i) (fun k => (argT m c) (ix2 i k)) (fun k => (argG m c) (ix2 0 k)) (j 1) : FVec Ideal S1x1024 .f32)
      ∧ r.2.mem ((c.tc : Thread nD τ).loc main_v2_3) = (fun j => ∑ i : Fin 4096, dgp (row (argX m c) (argA m c) (argW m c) i) (fun k => (argT m c) (ix2 i k)) (fun k => (argG m c) (ix2 0 k)) (j 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result5 m c), (h c).2.1.trans (result6 m c), (h c).2.2.1.trans (result7 m c), (h c).2.2.2.1.trans (result8 m c), (h c).2.2.2.2⟩)
    (Cert.Kernel7Ideal.Value.run_blocks m ρ)

/-- The side conditions of the precondition. -/
theorem preFacts : Cert.Pre_finite_loss.Facts where
  bcast_S_S4096x2816 := by decide +kernel
  bcast_S_S2816x1024 := by decide +kernel
  bcast_S_S4096x1024 := by decide +kernel
  bcast_S_S1x1024 := by decide +kernel

attribute [local instance] preFacts

/-- Every entry of the array is a real number. -/
def AllReal {a b : ℕ} (x : (⟨2, ![a, b]⟩ : Shape).Idx → EReal) : Prop := ∀ i j, IsReal (x (ix2 i j))

/-- What the value claim asks of the reference's arguments. -/
def Real (m : (ℓ : Loc Cert.Reference7Ideal.nD Cert.Reference7Ideal.τ Cert.Reference7Ideal.sig) → Buf (Elt Ideal) ℓ) (c : Dev Cert.Reference7Ideal.nD) : Prop :=
  AllReal (a := 4096) (b := 2816) (m ((c.tc : Thread Cert.Reference7Ideal.nD Cert.Reference7Ideal.τ).loc Cert.Reference7Ideal.main_arg0)) ∧ AllReal (a := 2816) (b := 1024) (m ((c.tc : Thread Cert.Reference7Ideal.nD Cert.Reference7Ideal.τ).loc Cert.Reference7Ideal.main_arg1)) ∧ AllReal (a := 4096) (b := 1024) (m ((c.tc : Thread Cert.Reference7Ideal.nD Cert.Reference7Ideal.τ).loc Cert.Reference7Ideal.main_arg2)) ∧ AllReal (a := 1) (b := 1024) (m ((c.tc : Thread Cert.Reference7Ideal.nD Cert.Reference7Ideal.τ).loc Cert.Reference7Ideal.main_arg3))
    ∧ AllReal (a := 4096) (b := 1024) (m ((c.tc : Thread Cert.Reference7Ideal.nD Cert.Reference7Ideal.τ).loc Cert.Reference7Ideal.main_arg4))

theorem real_of_pre (m : (ℓ : Loc Cert.Reference7Ideal.nD Cert.Reference7Ideal.τ Cert.Reference7Ideal.sig) → Buf (Elt Ideal) ℓ) (c : Dev Cert.Reference7Ideal.nD)
    (h : (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
      ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
      ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
      ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
      ∧ (Cert.Pre_finite_loss.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)) : Real m c := by
  obtain ⟨h1, h2, h3, h4, h5⟩ := h
  exact ⟨fun i j => Cert.Pool.real_of_below _ (congrFun h1 (ix2 i j)), fun i j => Cert.Pool.real_of_below _ (congrFun h2 (ix2 i j)),
    fun i j => Cert.Pool.real_of_below _ (congrFun h3 (ix2 i j)), fun i j => Cert.Pool.real_of_below _ (congrFun h4 (ix2 i j)),
    fun i j => Cert.Pool.real_of_below _ (congrFun h5 (ix2 i j))⟩

/-- The cotangent of an entry of the loss, half of twice the miss over the width. -/
theorem half_twice (e : EReal) : Ideal.div (Ideal.ofBits .f32 0x3F000000#32) (Ideal.ofBits .f32 0x44800000#32) * (Ideal.ofBits .f32 0x40000000#32 * e)
    = e * Ideal.ofBits .f32 0x3A800000#32 := by
  rw [ofBits_half, div_width, ofBits_two, ofBits_inv_width, ← mul_assoc, ← EReal.coe_mul, mul_comm]
  norm_num

theorem real_miss {h t g : Fin 1024 → EReal} (hh : ∀ k, IsReal (h k)) (ht : ∀ k, IsReal (t k)) (hg : ∀ k, IsReal (g k)) (k : Fin 1024) : IsReal (byRow h t g k * g k) := by
  unfold byRow miss
  rw [ofBits_inv_width]
  exact isReal_mul (isReal_mul (isReal_sub (isReal_mul (isReal_mul (hh k) (isReal_root hh)) (hg k)) (ht k)) (isReal_coe _)) (hg k)

theorem real_row {n : ℕ} {x : (⟨2, ![n, 1024]⟩ : Shape).Idx → EReal} {a : (⟨2, ![n, 2816]⟩ : Shape).Idx → EReal} {w : S2816x1024.Idx → EReal}
    (hx : AllReal x) (ha : AllReal a) (hw : AllReal w) (i : Fin n) (j : Fin 1024) : IsReal (row x a w i j) :=
  isReal_add (hx i j) (isReal_sum fun k => isReal_mul (ha i k) (hw k j))

/-- The reference's cotangent of a row. -/
theorem ref_dx {h t g : Fin 1024 → EReal} (hh : ∀ k, IsReal (h k)) (ht : ∀ k, IsReal (t k)) (hg : ∀ k, IsReal (g k)) (j : Fin 1024) :
    byRow h t g j * g j * root h + h j * through h (fun k => byRow h t g k * g k) + through h (fun k => byRow h t g k * g k) * h j = dx h t g j := by
  have e := through_back 0 hh (real_miss hh ht hg) j
  rw [zero_add, zero_add] at e
  exact e

/-- The reference's four results, and its arguments unchanged. -/
theorem reference (m : (ℓ : Loc Cert.Reference7Ideal.nD Cert.Reference7Ideal.τ Cert.Reference7Ideal.sig) → Buf (Elt Ideal) ℓ) (ρ : Dev Cert.Reference7Ideal.nD → PrngReg) (hr : ∀ c, Real m c) :
    θ_run (Cert.Reference7Ideal.defs (F := Ideal)) (onTc (τ := Cert.Reference7Ideal.τ) (Cert.Reference7Ideal.main (F := Ideal))) ⟨m, fun _ => 0, ρ⟩ fun r =>
      ∀ c : Dev Cert.Reference7Ideal.nD,
      r.2.mem ((c.tc : Thread Cert.Reference7Ideal.nD Cert.Reference7Ideal.τ).loc Cert.Reference7Ideal.main_v50) = (fun j => dx (row (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (j 0)) (fun k => (m ((c.tc : Thread Cert.Reference7Ideal.nD Cert.Reference7Ideal.τ).loc Cert.Reference7Ideal.main_arg4)) (ix2 (j 0) k)) (fun k => (m ((c.tc : Thread Cert.Reference7Ideal.nD Cert.Reference7Ideal.τ).loc Cert.Reference7Ideal.main_arg3)) (ix2 0 k)) (j 1) : FVec Ideal S4096x1024 .f32)
      ∧ r.2.mem ((c.tc : Thread Cert.Reference7Ideal.nD Cert.Reference7Ideal.τ).loc Cert.Reference7Ideal.main_v67) = (fun j => dx (row (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (j 0)) (fun k => (m ((c.tc : Thread Cert.Reference7Ideal.nD Cert.Reference7Ideal.τ).loc Cert.Reference7Ideal.main_arg4)) (ix2 (j 0) k)) (fun k => (m ((c.tc : Thread Cert.Reference7Ideal.nD Cert.Reference7Ideal.τ).loc Cert.Reference7Ideal.main_arg3)) (ix2 0 k)) (j 1) : FVec Ideal S4096x1024 .bf16)
      ∧ r.2.mem ((c.tc : Thread Cert.Reference7Ideal.nD Cert.Reference7Ideal.τ).loc Cert.Reference7Ideal.main_v66) = (fun j => ∑ i : Fin 4096, sqp (row (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) i) (fun k => (m ((c.tc : Thread Cert.Reference7Ideal.nD Cert.Reference7Ideal.τ).loc Cert.Reference7Ideal.main_arg4)) (ix2 i k)) (fun k => (m ((c.tc : Thread Cert.Reference7Ideal.nD Cert.Reference7Ideal.τ).loc Cert.Reference7Ideal.main_arg3)) (ix2 0 k)) (j 1) : FVec Ideal S1x1024 .f32)
      ∧ r.2.mem ((c.tc : Thread Cert.Reference7Ideal.nD Cert.Reference7Ideal.τ).loc Cert.Reference7Ideal.main_v34) = (fun j => ∑ i : Fin 4096, dgp (row (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) i) (fun k => (m ((c.tc : Thread Cert.Reference7Ideal.nD Cert.Reference7Ideal.τ).loc Cert.Reference7Ideal.main_arg4)) (ix2 i k)) (fun k => (m ((c.tc : Thread Cert.Reference7Ideal.nD Cert.Reference7Ideal.τ).loc Cert.Reference7Ideal.main_arg3)) (ix2 0 k)) (j 1) : FVec Ideal S1x1024 .f32)
      ∧ r.2.mem ((c.tc : Thread Cert.Reference7Ideal.nD Cert.Reference7Ideal.τ).loc Cert.Reference7Ideal.main_arg0) = (m ((c.tc : Thread Cert.Reference7Ideal.nD Cert.Reference7Ideal.τ).loc Cert.Reference7Ideal.main_arg0))
      ∧ r.2.mem ((c.tc : Thread Cert.Reference7Ideal.nD Cert.Reference7Ideal.τ).loc Cert.Reference7Ideal.main_arg1) = (m ((c.tc : Thread Cert.Reference7Ideal.nD Cert.Reference7Ideal.τ).loc Cert.Reference7Ideal.main_arg1))
      ∧ r.2.mem ((c.tc : Thread Cert.Reference7Ideal.nD Cert.Reference7Ideal.τ).loc Cert.Reference7Ideal.main_arg2) = (m ((c.tc : Thread Cert.Reference7Ideal.nD Cert.Reference7Ideal.τ).loc Cert.Reference7Ideal.main_arg2))
      ∧ r.2.mem ((c.tc : Thread Cert.Reference7Ideal.nD Cert.Reference7Ideal.τ).loc Cert.Reference7Ideal.main_arg3) = (m ((c.tc : Thread Cert.Reference7Ideal.nD Cert.Reference7Ideal.τ).loc Cert.Reference7Ideal.main_arg3))
      ∧ r.2.mem ((c.tc : Thread Cert.Reference7Ideal.nD Cert.Reference7Ideal.τ).loc Cert.Reference7Ideal.main_arg4) = (m ((c.tc : Thread Cert.Reference7Ideal.nD Cert.Reference7Ideal.τ).loc Cert.Reference7Ideal.main_arg4)) :=
  (θ_run _ _ _).mono (fun r h c => by
    obtain ⟨h0, h1, h2, h3, h4⟩ := h c
    clear h
    refine ⟨h0.trans ?_, h1.trans ?_, h2.trans ?_, h3.trans ?_, h4⟩ <;> clear h0 h1 h2 h3 h4 r <;> funext j <;> idx_vars j
    · refine Eq.trans ?_ (ref_dx (real_row (hr c).2.2.1 (hr c).1 (hr c).2.1 j0) ((hr c).2.2.2.2 j0) ((hr c).2.2.2.1 0) j1)
      unfold Cert.Reference7Ideal.Value.res_main_v50 byRow
      simp only [← half_twice]
      unfold miss through root msq row
      pointwise []
      simp only [Fin.sum_univ_one, mul_one]
    · refine Eq.trans ?_ (ref_dx (real_row (hr c).2.2.1 (hr c).1 (hr c).2.1 j0) ((hr c).2.2.2.2 j0) ((hr c).2.2.2.1 0) j1)
      unfold Cert.Reference7Ideal.Value.res_main_v67 byRow
      simp only [← half_twice]
      unfold miss through root msq row
      pointwise []
      simp only [Fin.sum_univ_one, mul_one]
    · unfold sqp miss root msq row
      pointwise []
    · unfold dgp byRow
      simp only [← half_twice]
      unfold miss root msq row
      pointwise []
      exact sum_terms fun i => mul_comm _ _) (Cert.Reference7Ideal.Value.run m ρ)

end Cert.FfnLoss

end
-- ==== Proof.MixGrad.lean ====
/- The gradient of the weights that merge the two branches: the call's two results and the reference's, the same sum over the tokens. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.MixGrad

open Idealize.ShloMosaic Idealize.ShloMosaic.TcCoe Idealize.SL.Sem
open Idealize.ShloMosaic.Pipeline (Dat Cfg Window)
open Cert.Kernel8Ideal Cert.Kernel8Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a block of the gradient. -/
theorem pay_at (a : Vec Ideal S4096x1024 .bf16) (b : Vec Ideal S4096x256 .bf16) (i : Fin 1024) (j : Fin 256) :
    ((k0_pay1 a b : FVec Ideal S1024x256 .f32) (ix2 i j) : EReal) = ∑ k : Fin 4096, (a (ix2 k i) : EReal) * b (ix2 k j) := by
  pointwise [k0_pay1]

theorem pay2_at (a : Vec Ideal S4096x1024 .bf16) (b : Vec Ideal S4096x256 .bf16) (i : Fin 1024) (j : Fin 256) :
    ((k0_pay2 a b : FVec Ideal S1024x256 .bf16) (ix2 i j) : EReal) = ∑ k : Fin 4096, (a (ix2 k i) : EReal) * b (ix2 k j) := by
  pointwise [k0_pay2, k0_pay1]

theorem out_2 (c : Dev nD) (i : grid0.Coords) (a2 : Memref sig .tc .vmem S4096x1024 .bf16) (h2 : a2.IsWhole) (a3 : Memref sig .tc .vmem S4096x256 .bf16)
    (h3 : a3.IsWhole) (a4 : Memref sig .tc .vmem S1024x256 .f32) (h4 : a4.IsWhole) (a5 : Memref sig .tc .vmem S1024x256 .bf16) (h5 : a5.IsWhole)
    (hc : cond0_0 i) (x0 : Vec Ideal S4096x1024 .bf16) (x1 : Vec Ideal S4096x256 .bf16) :
    out0_A_2 c i a2 h2 a3 h3 a4 h4 a5 h5 hc x0 x1 = k0_pay1 x0 x1 := by
  unfold out0_A_2
  rw [View.read_writes_eq_canon _ _ _ (cover0_A_2 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x1024) hz, View.ld_unit_zero (S := S4096x256) hz]

theorem out_3 (c : Dev nD) (i : grid0.Coords) (a2 : Memref sig .tc .vmem S4096x1024 .bf16) (h2 : a2.IsWhole) (a3 : Memref sig .tc .vmem S4096x256 .bf16)
    (h3 : a3.IsWhole) (a4 : Memref sig .tc .vmem S1024x256 .f32) (h4 : a4.IsWhole) (a5 : Memref sig .tc .vmem S1024x256 .bf16) (h5 : a5.IsWhole)
    (hc : cond0_0 i) (x0 : Vec Ideal S4096x1024 .bf16) (x1 : Vec Ideal S4096x256 .bf16) :
    out0_A_3 c i a2 h2 a3 h3 a4 h4 a5 h5 hc x0 x1 = k0_pay2 x0 x1 := by
  unfold out0_A_3
  rw [View.read_writes_eq_canon _ _ _ (cover0_A_3 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x1024) hz, View.ld_unit_zero (S := S4096x256) hz]

theorem places : ∀ t : Fin cfg0.N, win0_0.index t = ![0, 0] ∧ win0_1.index t = ![0, t.val] ∧ win0_2.index t = ![0, t.val]
    ∧ win0_3.index t = ![0, t.val] := by
  decide +kernel

abbrev argA (c : Dev nD) : FVec Ideal S4096x1024 .f32 := m ((c.tc : Thread nD τ).loc main_arg0)
abbrev argB (c : Dev nD) : FVec Ideal S4096x1024 .f32 := m ((c.tc : Thread nD τ).loc main_arg1)

/-- The gradient of the weights of a product, entry by entry. -/
def grad (a : S4096x1024.Idx → EReal) (b : S4096x1024.Idx → EReal) (i : Fin 1024) (j : Fin 1024) : EReal :=
  ∑ k : Fin 4096, a (ix2 k i) * b (ix2 k j)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The first result, the whole array. -/
theorem result2 (c : Dev nD) : (dats m 0 c).arrAt 2 cfg0.N = (fun j => grad (argA m c) (argB m c) (j 0) (j 1) : FVec Ideal S1024x1024 .f32) := by
  refine (dats m 0 c).arrAt_eq_of_covers 2 _ (by decide +kernel) fun t hf y => ?_
  blk_simp
  rw [after0_2]
  unfold outsAt0
  dsimp only
  rw [out_2]
  idx_vars y
  rw [pay_at]
  unfold grad
  refine sum_terms fun k => mul_terms ?_ ?_ <;> blk_ext [iblk, V, places t]

theorem result3 (c : Dev nD) : (dats m 0 c).arrAt 3 cfg0.N = (fun j => grad (argA m c) (argB m c) (j 0) (j 1) : FVec Ideal S1024x1024 .bf16) := by
  refine (dats m 0 c).arrAt_eq_of_covers 3 _ (by decide +kernel) fun t hf y => ?_
  blk_simp
  rw [after0_3]
  unfold outsAt0
  dsimp only
  rw [out_3]
  idx_vars y
  rw [pay2_at]
  unfold grad
  refine sum_terms fun k => mul_terms ?_ ?_ <;> blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v2_0) = (fun j => grad (argA m c) (argB m c) (j 0) (j 1) : FVec Ideal S1024x1024 .f32)
      ∧ r.2.mem ((c.tc : Thread nD τ).loc main_v2_1) = (fun j => grad (argA m c) (argB m c) (j 0) (j 1) : FVec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result2 m c), (h c).2.1.trans (result3 m c), (h c).2.2⟩) (Cert.Kernel8Ideal.Value.run_blocks m ρ)

/-- The reference's first result, entry by entry. -/
theorem ref_at (a : FVec Ideal S4096x1024 .f32) (b : FVec Ideal S4096x1024 .f32) (i : Fin 1024) (j : Fin 1024)
    (h : Cert.Reference8Ideal.S1024x1024.Transposes [1, 0] Cert.Reference8Ideal.S1024x1024) :
    (transpose Cert.Reference8Ideal.S1024x1024 [1, 0] (Host.dotGeneral Cert.Reference8Ideal.dot_S4096x1024_S4096x1024_S1024x1024_0_0_1_1_n_n none b a)
      h (ix2 i j) : EReal) = grad a b i j := by
  unfold grad
  pointwise []
  exact Finset.sum_congr rfl fun k _ => mul_comm _ _

open Cert.Reference8Ideal in
/-- The reference's two results, and its arguments unchanged. -/
theorem reference (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ fun r =>
      ∀ c : Dev Cert.Reference8Ideal.nD,
      r.2.mem ((c.tc : Thread Cert.Reference8Ideal.nD Cert.Reference8Ideal.τ).loc Cert.Reference8Ideal.main_v3)
        = (fun j => grad (m ((c.tc : Thread Cert.Reference8Ideal.nD Cert.Reference8Ideal.τ).loc Cert.Reference8Ideal.main_arg0))
          (m ((c.tc : Thread Cert.Reference8Ideal.nD Cert.Reference8Ideal.τ).loc Cert.Reference8Ideal.main_arg1)) (j 0) (j 1)
            : FVec Ideal Cert.Reference8Ideal.S1024x1024 .f32)
      ∧ r.2.mem ((c.tc : Thread Cert.Reference8Ideal.nD Cert.Reference8Ideal.τ).loc Cert.Reference8Ideal.main_v4)
        = (fun j => grad (m ((c.tc : Thread Cert.Reference8Ideal.nD Cert.Reference8Ideal.τ).loc Cert.Reference8Ideal.main_arg0))
          (m ((c.tc : Thread Cert.Reference8Ideal.nD Cert.Reference8Ideal.τ).loc Cert.Reference8Ideal.main_arg1)) (j 0) (j 1)
            : FVec Ideal Cert.Reference8Ideal.S1024x1024 .bf16)
      ∧ r.2.mem ((c.tc : Thread Cert.Reference8Ideal.nD Cert.Reference8Ideal.τ).loc Cert.Reference8Ideal.main_arg0)
        = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1)
        = m ((c.tc : Thread Cert.Reference8Ideal.nD Cert.Reference8Ideal.τ).loc Cert.Reference8Ideal.main_arg1) :=
  (θ_run _ _ _).mono (fun _ h c => ⟨(h c).1.trans (funext fun j => by idx_vars j; exact ref_at _ _ _ _ _),
    (h c).2.1.trans (funext fun j => by idx_vars j; exact ref_at _ _ _ _ _), (h c).2.2⟩) (Cert.Reference8Ideal.Value.run m ρ)

end Cert.MixGrad

end
-- ==== Proof.PoolOutGrad.lean ====
/- The gradient of the pooling branch's output weights: the call's two results and the reference's, the same sum over the tokens. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.PoolOutGrad

open Idealize.ShloMosaic Idealize.ShloMosaic.TcCoe Idealize.SL.Sem
open Idealize.ShloMosaic.Pipeline (Dat Cfg Window)
open Cert.Kernel9Ideal Cert.Kernel9Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a block of the gradient. -/
theorem pay_at (a : Vec Ideal S4096x512 .bf16) (b : Vec Ideal S4096x256 .bf16) (i : Fin 512) (j : Fin 256) :
    ((k0_pay1 a b : FVec Ideal S512x256 .f32) (ix2 i j) : EReal) = ∑ k : Fin 4096, (a (ix2 k i) : EReal) * b (ix2 k j) := by
  pointwise [k0_pay1]

theorem pay2_at (a : Vec Ideal S4096x512 .bf16) (b : Vec Ideal S4096x256 .bf16) (i : Fin 512) (j : Fin 256) :
    ((k0_pay2 a b : FVec Ideal S512x256 .bf16) (ix2 i j) : EReal) = ∑ k : Fin 4096, (a (ix2 k i) : EReal) * b (ix2 k j) := by
  pointwise [k0_pay2, k0_pay1]

theorem out_2 (c : Dev nD) (i : grid0.Coords) (a2 : Memref sig .tc .vmem S4096x512 .bf16) (h2 : a2.IsWhole) (a3 : Memref sig .tc .vmem S4096x256 .bf16)
    (h3 : a3.IsWhole) (a4 : Memref sig .tc .vmem S512x256 .f32) (h4 : a4.IsWhole) (a5 : Memref sig .tc .vmem S512x256 .bf16) (h5 : a5.IsWhole)
    (hc : cond0_0 i) (x0 : Vec Ideal S4096x512 .bf16) (x1 : Vec Ideal S4096x256 .bf16) :
    out0_A_2 c i a2 h2 a3 h3 a4 h4 a5 h5 hc x0 x1 = k0_pay1 x0 x1 := by
  unfold out0_A_2
  rw [View.read_writes_eq_canon _ _ _ (cover0_A_2 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x512) hz, View.ld_unit_zero (S := S4096x256) hz]

theorem out_3 (c : Dev nD) (i : grid0.Coords) (a2 : Memref sig .tc .vmem S4096x512 .bf16) (h2 : a2.IsWhole) (a3 : Memref sig .tc .vmem S4096x256 .bf16)
    (h3 : a3.IsWhole) (a4 : Memref sig .tc .vmem S512x256 .f32) (h4 : a4.IsWhole) (a5 : Memref sig .tc .vmem S512x256 .bf16) (h5 : a5.IsWhole)
    (hc : cond0_0 i) (x0 : Vec Ideal S4096x512 .bf16) (x1 : Vec Ideal S4096x256 .bf16) :
    out0_A_3 c i a2 h2 a3 h3 a4 h4 a5 h5 hc x0 x1 = k0_pay2 x0 x1 := by
  unfold out0_A_3
  rw [View.read_writes_eq_canon _ _ _ (cover0_A_3 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x512) hz, View.ld_unit_zero (S := S4096x256) hz]

theorem places : ∀ t : Fin cfg0.N, win0_0.index t = ![0, 0] ∧ win0_1.index t = ![0, t.val] ∧ win0_2.index t = ![0, t.val]
    ∧ win0_3.index t = ![0, t.val] := by
  decide +kernel

abbrev argA (c : Dev nD) : FVec Ideal S4096x512 .f32 := m ((c.tc : Thread nD τ).loc main_arg0)
abbrev argB (c : Dev nD) : FVec Ideal S4096x1024 .f32 := m ((c.tc : Thread nD τ).loc main_arg1)

/-- The gradient of the weights of a product, entry by entry. -/
def grad (a : S4096x512.Idx → EReal) (b : S4096x1024.Idx → EReal) (i : Fin 512) (j : Fin 1024) : EReal :=
  ∑ k : Fin 4096, a (ix2 k i) * b (ix2 k j)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The first result, the whole array. -/
theorem result2 (c : Dev nD) : (dats m 0 c).arrAt 2 cfg0.N = (fun j => grad (argA m c) (argB m c) (j 0) (j 1) : FVec Ideal S512x1024 .f32) := by
  refine (dats m 0 c).arrAt_eq_of_covers 2 _ (by decide +kernel) fun t hf y => ?_
  blk_simp
  rw [after0_2]
  unfold outsAt0
  dsimp only
  rw [out_2]
  idx_vars y
  rw [pay_at]
  unfold grad
  refine sum_terms fun k => mul_terms ?_ ?_ <;> blk_ext [iblk, V, places t]

theorem result3 (c : Dev nD) : (dats m 0 c).arrAt 3 cfg0.N = (fun j => grad (argA m c) (argB m c) (j 0) (j 1) : FVec Ideal S512x1024 .bf16) := by
  refine (dats m 0 c).arrAt_eq_of_covers 3 _ (by decide +kernel) fun t hf y => ?_
  blk_simp
  rw [after0_3]
  unfold outsAt0
  dsimp only
  rw [out_3]
  idx_vars y
  rw [pay2_at]
  unfold grad
  refine sum_terms fun k => mul_terms ?_ ?_ <;> blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v2_0) = (fun j => grad (argA m c) (argB m c) (j 0) (j 1) : FVec Ideal S512x1024 .f32)
      ∧ r.2.mem ((c.tc : Thread nD τ).loc main_v2_1) = (fun j => grad (argA m c) (argB m c) (j 0) (j 1) : FVec Ideal S512x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result2 m c), (h c).2.1.trans (result3 m c), (h c).2.2⟩) (Cert.Kernel9Ideal.Value.run_blocks m ρ)

/-- The reference's first result, entry by entry. -/
theorem ref_at (a : FVec Ideal S4096x512 .f32) (b : FVec Ideal S4096x1024 .f32) (i : Fin 512) (j : Fin 1024)
    (h : Cert.Reference9Ideal.S1024x512.Transposes [1, 0] Cert.Reference9Ideal.S512x1024) :
    (transpose Cert.Reference9Ideal.S512x1024 [1, 0] (Host.dotGeneral Cert.Reference9Ideal.dot_S4096x1024_S4096x512_S1024x512_0_0_1_1_n_n none b a)
      h (ix2 i j) : EReal) = grad a b i j := by
  unfold grad
  pointwise []
  exact Finset.sum_congr rfl fun k _ => mul_comm _ _

open Cert.Reference9Ideal in
/-- The reference's two results, and its arguments unchanged. -/
theorem reference (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ fun r =>
      ∀ c : Dev Cert.Reference9Ideal.nD,
      r.2.mem ((c.tc : Thread Cert.Reference9Ideal.nD Cert.Reference9Ideal.τ).loc Cert.Reference9Ideal.main_v3)
        = (fun j => grad (m ((c.tc : Thread Cert.Reference9Ideal.nD Cert.Reference9Ideal.τ).loc Cert.Reference9Ideal.main_arg0))
          (m ((c.tc : Thread Cert.Reference9Ideal.nD Cert.Reference9Ideal.τ).loc Cert.Reference9Ideal.main_arg1)) (j 0) (j 1)
            : FVec Ideal Cert.Reference9Ideal.S512x1024 .f32)
      ∧ r.2.mem ((c.tc : Thread Cert.Reference9Ideal.nD Cert.Reference9Ideal.τ).loc Cert.Reference9Ideal.main_v4)
        = (fun j => grad (m ((c.tc : Thread Cert.Reference9Ideal.nD Cert.Reference9Ideal.τ).loc Cert.Reference9Ideal.main_arg0))
          (m ((c.tc : Thread Cert.Reference9Ideal.nD Cert.Reference9Ideal.τ).loc Cert.Reference9Ideal.main_arg1)) (j 0) (j 1)
            : FVec Ideal Cert.Reference9Ideal.S512x1024 .bf16)
      ∧ r.2.mem ((c.tc : Thread Cert.Reference9Ideal.nD Cert.Reference9Ideal.τ).loc Cert.Reference9Ideal.main_arg0)
        = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1)
        = m ((c.tc : Thread Cert.Reference9Ideal.nD Cert.Reference9Ideal.τ).loc Cert.Reference9Ideal.main_arg1) :=
  (θ_run _ _ _).mono (fun _ h c => ⟨(h c).1.trans (funext fun j => by idx_vars j; exact ref_at _ _ _ _ _),
    (h c).2.1.trans (funext fun j => by idx_vars j; exact ref_at _ _ _ _ _), (h c).2.2⟩) (Cert.Reference9Ideal.Value.run m ρ)

end Cert.PoolOutGrad

end
-- ==== Proof.RnnOutGrad.lean ====
/- The gradient of the recurrent branch's output weights: the call's two results and the reference's, the same sum over the tokens. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.RnnOutGrad

open Idealize.ShloMosaic Idealize.ShloMosaic.TcCoe Idealize.SL.Sem
open Idealize.ShloMosaic.Pipeline (Dat Cfg Window)
open Cert.Kernel10Ideal Cert.Kernel10Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a block of the gradient. -/
theorem pay_at (a : Vec Ideal S4096x1024 .bf16) (b : Vec Ideal S4096x256 .bf16) (i : Fin 1024) (j : Fin 256) :
    ((k0_pay1 a b : FVec Ideal S1024x256 .f32) (ix2 i j) : EReal) = ∑ k : Fin 4096, (a (ix2 k i) : EReal) * b (ix2 k j) := by
  pointwise [k0_pay1]

theorem pay2_at (a : Vec Ideal S4096x1024 .bf16) (b : Vec Ideal S4096x256 .bf16) (i : Fin 1024) (j : Fin 256) :
    ((k0_pay2 a b : FVec Ideal S1024x256 .bf16) (ix2 i j) : EReal) = ∑ k : Fin 4096, (a (ix2 k i) : EReal) * b (ix2 k j) := by
  pointwise [k0_pay2, k0_pay1]

theorem out_2 (c : Dev nD) (i : grid0.Coords) (a2 : Memref sig .tc .vmem S4096x1024 .bf16) (h2 : a2.IsWhole) (a3 : Memref sig .tc .vmem S4096x256 .bf16)
    (h3 : a3.IsWhole) (a4 : Memref sig .tc .vmem S1024x256 .f32) (h4 : a4.IsWhole) (a5 : Memref sig .tc .vmem S1024x256 .bf16) (h5 : a5.IsWhole)
    (hc : cond0_0 i) (x0 : Vec Ideal S4096x1024 .bf16) (x1 : Vec Ideal S4096x256 .bf16) :
    out0_A_2 c i a2 h2 a3 h3 a4 h4 a5 h5 hc x0 x1 = k0_pay1 x0 x1 := by
  unfold out0_A_2
  rw [View.read_writes_eq_canon _ _ _ (cover0_A_2 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x1024) hz, View.ld_unit_zero (S := S4096x256) hz]

theorem out_3 (c : Dev nD) (i : grid0.Coords) (a2 : Memref sig .tc .vmem S4096x1024 .bf16) (h2 : a2.IsWhole) (a3 : Memref sig .tc .vmem S4096x256 .bf16)
    (h3 : a3.IsWhole) (a4 : Memref sig .tc .vmem S1024x256 .f32) (h4 : a4.IsWhole) (a5 : Memref sig .tc .vmem S1024x256 .bf16) (h5 : a5.IsWhole)
    (hc : cond0_0 i) (x0 : Vec Ideal S4096x1024 .bf16) (x1 : Vec Ideal S4096x256 .bf16) :
    out0_A_3 c i a2 h2 a3 h3 a4 h4 a5 h5 hc x0 x1 = k0_pay2 x0 x1 := by
  unfold out0_A_3
  rw [View.read_writes_eq_canon _ _ _ (cover0_A_3 c i a2 h2 a3 h3 a4 h4 a5 h5 hc x0 x1)]
  unfold kernelRun0_A
  dsimp only
  rw [View.canon_unit_zero hz]
  simp only [View.readAt_eq_ld, h2.read_unread, h3.read_unread, View.ld_unit_zero (S := S4096x1024) hz, View.ld_unit_zero (S := S4096x256) hz]

theorem places : ∀ t : Fin cfg0.N, win0_0.index t = ![0, 0] ∧ win0_1.index t = ![0, t.val] ∧ win0_2.index t = ![0, t.val]
    ∧ win0_3.index t = ![0, t.val] := by
  decide +kernel

abbrev argA (c : Dev nD) : FVec Ideal S4096x1024 .f32 := m ((c.tc : Thread nD τ).loc main_arg0)
abbrev argB (c : Dev nD) : FVec Ideal S4096x1024 .f32 := m ((c.tc : Thread nD τ).loc main_arg1)

/-- The gradient of the weights of a product, entry by entry. -/
def grad (a : S4096x1024.Idx → EReal) (b : S4096x1024.Idx → EReal) (i : Fin 1024) (j : Fin 1024) : EReal :=
  ∑ k : Fin 4096, a (ix2 k i) * b (ix2 k j)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The first result, the whole array. -/
theorem result2 (c : Dev nD) : (dats m 0 c).arrAt 2 cfg0.N = (fun j => grad (argA m c) (argB m c) (j 0) (j 1) : FVec Ideal S1024x1024 .f32) := by
  refine (dats m 0 c).arrAt_eq_of_covers 2 _ (by decide +kernel) fun t hf y => ?_
  blk_simp
  rw [after0_2]
  unfold outsAt0
  dsimp only
  rw [out_2]
  idx_vars y
  rw [pay_at]
  unfold grad
  refine sum_terms fun k => mul_terms ?_ ?_ <;> blk_ext [iblk, V, places t]

theorem result3 (c : Dev nD) : (dats m 0 c).arrAt 3 cfg0.N = (fun j => grad (argA m c) (argB m c) (j 0) (j 1) : FVec Ideal S1024x1024 .bf16) := by
  refine (dats m 0 c).arrAt_eq_of_covers 3 _ (by decide +kernel) fun t hf y => ?_
  blk_simp
  rw [after0_3]
  unfold outsAt0
  dsimp only
  rw [out_3]
  idx_vars y
  rw [pay2_at]
  unfold grad
  refine sum_terms fun k => mul_terms ?_ ?_ <;> blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v2_0) = (fun j => grad (argA m c) (argB m c) (j 0) (j 1) : FVec Ideal S1024x1024 .f32)
      ∧ r.2.mem ((c.tc : Thread nD τ).loc main_v2_1) = (fun j => grad (argA m c) (argB m c) (j 0) (j 1) : FVec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result2 m c), (h c).2.1.trans (result3 m c), (h c).2.2⟩) (Cert.Kernel10Ideal.Value.run_blocks m ρ)

/-- The reference's first result, entry by entry. -/
theorem ref_at (a : FVec Ideal S4096x1024 .f32) (b : FVec Ideal S4096x1024 .f32) (i : Fin 1024) (j : Fin 1024)
    (h : Cert.Reference10Ideal.S1024x1024.Transposes [1, 0] Cert.Reference10Ideal.S1024x1024) :
    (transpose Cert.Reference10Ideal.S1024x1024 [1, 0] (Host.dotGeneral Cert.Reference10Ideal.dot_S4096x1024_S4096x1024_S1024x1024_0_0_1_1_n_n none b a)
      h (ix2 i j) : EReal) = grad a b i j := by
  unfold grad
  pointwise []
  exact Finset.sum_congr rfl fun k _ => mul_comm _ _

open Cert.Reference10Ideal in
/-- The reference's two results, and its arguments unchanged. -/
theorem reference (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ fun r =>
      ∀ c : Dev Cert.Reference10Ideal.nD,
      r.2.mem ((c.tc : Thread Cert.Reference10Ideal.nD Cert.Reference10Ideal.τ).loc Cert.Reference10Ideal.main_v3)
        = (fun j => grad (m ((c.tc : Thread Cert.Reference10Ideal.nD Cert.Reference10Ideal.τ).loc Cert.Reference10Ideal.main_arg0))
          (m ((c.tc : Thread Cert.Reference10Ideal.nD Cert.Reference10Ideal.τ).loc Cert.Reference10Ideal.main_arg1)) (j 0) (j 1)
            : FVec Ideal Cert.Reference10Ideal.S1024x1024 .f32)
      ∧ r.2.mem ((c.tc : Thread Cert.Reference10Ideal.nD Cert.Reference10Ideal.τ).loc Cert.Reference10Ideal.main_v4)
        = (fun j => grad (m ((c.tc : Thread Cert.Reference10Ideal.nD Cert.Reference10Ideal.τ).loc Cert.Reference10Ideal.main_arg0))
          (m ((c.tc : Thread Cert.Reference10Ideal.nD Cert.Reference10Ideal.τ).loc Cert.Reference10Ideal.main_arg1)) (j 0) (j 1)
            : FVec Ideal Cert.Reference10Ideal.S1024x1024 .bf16)
      ∧ r.2.mem ((c.tc : Thread Cert.Reference10Ideal.nD Cert.Reference10Ideal.τ).loc Cert.Reference10Ideal.main_arg0)
        = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1)
        = m ((c.tc : Thread Cert.Reference10Ideal.nD Cert.Reference10Ideal.τ).loc Cert.Reference10Ideal.main_arg1) :=
  (θ_run _ _ _).mono (fun _ h c => ⟨(h c).1.trans (funext fun j => by idx_vars j; exact ref_at _ _ _ _ _),
    (h c).2.1.trans (funext fun j => by idx_vars j; exact ref_at _ _ _ _ _), (h c).2.2⟩) (Cert.Reference10Ideal.Value.run m ρ)

end Cert.RnnOutGrad

end
-- ==== Proof.BranchGrad.lean ====
/- The derivative of the two branches' output products by their inputs: the call's two results and the reference's. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.BranchGrad

open Idealize.ShloMosaic Idealize.ShloMosaic.TcCoe Idealize.SL.Sem
open Idealize.ShloMosaic.Pipeline (Dat Cfg Window)
open Cert.Kernel11Ideal Cert.Kernel11Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a product with a transposed matrix. -/
def back {R C : Nat} (a : (⟨2, ![R, 1024]⟩ : Shape).Idx → EReal) (b : (⟨2, ![C, 1024]⟩ : Shape).Idx → EReal) (i : Fin R) (j : Fin C) : EReal :=
  ∑ k : Fin 1024, a (ix2 i k) * b (ix2 j k)

theorem pay1_at (a : Vec Ideal S1024x1024 .bf16) (b : Vec Ideal S512x1024 .bf16) (i : Fin 1024) (j : Fin 512) :
    ((k0_pay1 a b : FVec Ideal S1024x512 .f32) (ix2 i j) : EReal) = back a b i j := by
  unfold back
  pointwise [k0_pay1]

theorem pay2_at (a b : Vec Ideal S1024x1024 .bf16) (i j : Fin 1024) :
    ((k0_pay2 a b : FVec Ideal S1024x1024 .f32) (ix2 i j) : EReal) = back a b i j := by
  unfold back
  pointwise [k0_pay2]

theorem out_4 (x0 x1 : Vec Ideal S1024x1024 .bf16) (x2 : Vec Ideal S512x1024 .bf16) (x3 : Vec Ideal S1024x1024 .bf16) :
    out0_4 x0 x1 x2 x3 = k0_pay1 x0 x2 := by
  unfold out0_4
  rw [View.canon_unit_zero hz]
  simp only [View.ld_unit_zero (S := S1024x1024) hz, View.ld_unit_zero (S := S512x1024) hz]

theorem out_5 (x0 x1 : Vec Ideal S1024x1024 .bf16) (x2 : Vec Ideal S512x1024 .bf16) (x3 : Vec Ideal S1024x1024 .bf16) :
    out0_5 x0 x1 x2 x3 = k0_pay2 x1 x3 := by
  unfold out0_5
  rw [View.canon_unit_zero hz]
  simp only [View.ld_unit_zero (S := S1024x1024) hz]

theorem places : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

abbrev argP (c : Dev nD) : FVec Ideal S4096x1024 .f32 := m ((c.tc : Thread nD τ).loc main_arg0)
abbrev argR (c : Dev nD) : FVec Ideal S4096x1024 .f32 := m ((c.tc : Thread nD τ).loc main_arg1)
abbrev argWp (c : Dev nD) : FVec Ideal S512x1024 .f32 := m ((c.tc : Thread nD τ).loc main_arg2)
abbrev argWr (c : Dev nD) : FVec Ideal S1024x1024 .f32 := m ((c.tc : Thread nD τ).loc main_arg3)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The pooling branch's cotangent, the whole array. -/
theorem result4 (c : Dev nD) : (dats m 0 c).arrAt 4 cfg0.N = (fun j => back (argP m c) (argWp m c) (j 0) (j 1) : FVec Ideal S4096x512 .f32) := by
  refine (dats m 0 c).arrAt_eq_of_covers 4 _ (by decide +kernel) fun t hf y => ?_
  blk_simp
  rw [after0_4, out_4]
  idx_vars y
  rw [pay1_at]
  unfold back
  refine sum_terms fun k => mul_terms ?_ ?_ <;> blk_ext [iblk, V, places t]

/-- The recurrent branch's cotangent, the whole array. -/
theorem result5 (c : Dev nD) : (dats m 0 c).arrAt 5 cfg0.N = (fun j => back (argR m c) (argWr m c) (j 0) (j 1) : FVec Ideal S4096x1024 .f32) := by
  refine (dats m 0 c).arrAt_eq_of_covers 5 _ (by decide +kernel) fun t hf y => ?_
  blk_simp
  rw [after0_5, out_5]
  idx_vars y
  rw [pay2_at]
  unfold back
  refine sum_terms fun k => mul_terms ?_ ?_ <;> blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v4_0) = (fun j => back (argP m c) (argWp m c) (j 0) (j 1) : FVec Ideal S4096x512 .f32)
      ∧ r.2.mem ((c.tc : Thread nD τ).loc main_v4_1) = (fun j => back (argR m c) (argWr m c) (j 0) (j 1) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result4 m c), (h c).2.1.trans (result5 m c), (h c).2.2⟩) (Cert.Kernel11Ideal.Value.run_blocks m ρ)

theorem ref_pool (a : FVec Ideal S4096x1024 .f32) (b : FVec Ideal S512x1024 .f32) (i : Fin 4096) (j : Fin 512) :
    (Host.dotGeneral Cert.Reference11Ideal.dot_S4096x1024_S512x1024_S4096x512_1_1_0_0_n_n none a b (ix2 i j) : EReal) = back a b i j := by
  unfold back
  pointwise []

theorem ref_rnn (a : FVec Ideal S4096x1024 .f32) (b : FVec Ideal S1024x1024 .f32) (i : Fin 4096) (j : Fin 1024) :
    (Host.dotGeneral Cert.Reference11Ideal.dot_S4096x1024_S1024x1024_S4096x1024_1_1_0_0_n_n none a b (ix2 i j) : EReal) = back a b i j := by
  unfold back
  pointwise []

/-- The reference's two results, and its arguments unchanged. -/
theorem reference (m : (ℓ : Loc Cert.Reference11Ideal.nD Cert.Reference11Ideal.τ Cert.Reference11Ideal.sig) → Buf (Elt Ideal) ℓ)
    (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ fun r =>
      ∀ c : Dev Cert.Reference11Ideal.nD,
      r.2.mem ((c.tc : Thread Cert.Reference11Ideal.nD Cert.Reference11Ideal.τ).loc Cert.Reference11Ideal.main_v5) = (fun j => back (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg2)) (j 0) (j 1) : FVec Ideal Cert.Reference11Ideal.S4096x512 .f32)
      ∧ r.2.mem ((c.tc : Thread Cert.Reference11Ideal.nD Cert.Reference11Ideal.τ).loc Cert.Reference11Ideal.main_v4) = (fun j => back (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg3)) (j 0) (j 1) : FVec Ideal Cert.Reference11Ideal.S4096x1024 .f32)
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3) :=
  (θ_run _ _ _).mono (fun _ h c => ⟨(h c).1.trans (funext fun j => by idx_vars j; exact ref_pool _ _ _ _),
    (h c).2.1.trans (funext fun j => by idx_vars j; exact ref_rnn _ _ _ _), (h c).2.2⟩) (Cert.Reference11Ideal.Value.run m ρ)

end Cert.BranchGrad

end
-- ==== Proof.InProjBwd.lean ====
/- The derivative of the first normalisation and of the input projection: the call's two results and the reference's. -/
module

public import proofs.«01_k».proof.Defs
public import proofs.«01_k».proof.Proof.Gen.Kernel12Ideal.Value
public import proofs.«01_k».proof.Proof.Gen.Reference12Ideal.Run
public import proofs.«01_k».proof.Proof.Norm
public import Idealize.ShloMosaic.Lib.Pointwise
public import Idealize.ShloMosaic.Lib.Pipeline.Value
public import Idealize.ShloMosaic.Lib.Pipeline.ValueKit

@[expose] public section

set_option maxRecDepth 16384

noncomputable section

namespace Cert.InProjBwd

open Idealize.ShloMosaic Idealize.ShloMosaic.TcCoe Idealize.SL.Sem
open Idealize.ShloMosaic.Pipeline (Dat Cfg Window)
open Cert.Kernel12Ideal Cert.Kernel12Ideal.Gen
open Cert.Ffn

variable (m : (ℓ : Loc nD τ sig) → Buf (Elt Ideal) ℓ) (ρ : Dev nD → PrngReg)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

theorem add_terms {a b a' b' : EReal} (h : a = a') (h' : b = b') : a + b = a' + b' := congrArg₂ _ h h'

/-- A row of the product with the transposed weight. -/
def dotT {a b k : ℕ} (x : (⟨2, ![a, k]⟩ : Shape).Idx → EReal) (w : (⟨2, ![b, k]⟩ : Shape).Idx → EReal) (i : Fin a) (j : Fin b) : EReal :=
  ∑ k, x (ix2 i k) * w (ix2 j k)

section
variable (s : Vec Ideal S512x512 .bf16) (s1 s2 s3 s4 : Vec Ideal S512x1024 .bf16) (w : Vec Ideal S1024x512 .bf16) (w1 w2 w3 w4 : Vec Ideal S1024x1024 .bf16)
variable (x d p q : Vec Ideal S512x1024 .f32) (g acc : Vec Ideal S1x1024 .f32)
variable (i : Fin 512) (j : Fin 1024)

theorem pay7_at : ((k0_pay7 s w s1 w1 s2 w2 s3 w3 : FVec Ideal S512x1024 .f32) (ix2 i j) : EReal)
    = dotT s w i j + dotT s1 w1 i j + dotT s2 w2 i j + dotT s3 w3 i j := by
  unfold dotT
  pointwise [k0_pay7]

theorem pay8_at : ((k0_pay8 s4 w4 : FVec Ideal S512x1024 .f32) (ix2 i j) : EReal) = dotT s4 w4 i j := by
  unfold dotT
  pointwise [k0_pay8]

theorem pay5_at : ((k0_pay5 p q x g d : FVec Ideal S512x1024 .f32) (ix2 i j) : EReal)
    = d (ix2 i j) + root (fun k => x (ix2 i k)) * ((p (ix2 i j) + q (ix2 i j)) * g (ix2 0 j) - x (ix2 i j) * root (fun k => x (ix2 i k))
        * Ideal.div (∑ k, (p (ix2 i k) + q (ix2 i k)) * g (ix2 0 k) * (x (ix2 i k) * root (fun k => x (ix2 i k)))) (Ideal.ofBits .f32 0x44800000#32)) := by
  unfold root msq
  pointwise [k0_pay5, k0_pay3, k0_pay2, k0_pay1]

theorem pay4_at (z : Fin 1) : ((k0_pay4 p q x acc : FVec Ideal S1x1024 .f32) (ix2 z j) : EReal)
    = acc (ix2 z j) + ∑ i : Fin 512, (p (ix2 i j) + q (ix2 i j)) * (x (ix2 i j) * root fun k => x (ix2 i k)) := by
  unfold root msq
  pointwise [k0_pay4, k0_pay3, k0_pay2, k0_pay1]

theorem pay6_at (z : Fin 1) : ((k0_pay6 : FVec Ideal S1x1024 .f32) (ix2 z j) : EReal) = 0 := by
  pointwise [k0_pay6]
end

/-- The cotangent of the normalised row: the projection's cotangent times the transposed weight. -/
def full {n : ℕ} (p : (⟨2, ![n, 4608]⟩ : Shape).Idx → EReal) (w : S1024x4608.Idx → EReal) (i : Fin n) (j : Fin 1024) : EReal :=
  ∑ k : Fin 4608, p (ix2 i k) * w (ix2 j k)

/-- The same from the five segments of the cotangent. -/
def seg (s0 : S512x512.Idx → EReal) (s1 s2 s3 s4 : S512x1024.Idx → EReal) (w : S1024x4608.Idx → EReal) (i : Fin 512) (j : Fin 1024) : EReal :=
  ∑ k : Fin 512, s0 (ix2 i k) * w (ix2 j ⟨k.val, by omega⟩) + ∑ k : Fin 1024, s1 (ix2 i k) * w (ix2 j ⟨512 + k.val, by omega⟩)
    + ∑ k : Fin 1024, s2 (ix2 i k) * w (ix2 j ⟨1536 + k.val, by omega⟩) + ∑ k : Fin 1024, s3 (ix2 i k) * w (ix2 j ⟨2560 + k.val, by omega⟩)
    + ∑ k : Fin 1024, s4 (ix2 i k) * w (ix2 j ⟨3584 + k.val, by omega⟩)

/-- A sum over the projection's columns, segment by segment. -/
theorem sum_segments (f : Fin 4608 → EReal) : ∑ k, f k = ∑ k : Fin 512, f ⟨k.val, by omega⟩ + ∑ k : Fin 1024, f ⟨512 + k.val, by omega⟩
    + ∑ k : Fin 1024, f ⟨1536 + k.val, by omega⟩ + ∑ k : Fin 1024, f ⟨2560 + k.val, by omega⟩ + ∑ k : Fin 1024, f ⟨3584 + k.val, by omega⟩ :=
  (Fin.sum_univ_add (a := 3584) (b := 1024) f).trans (add_terms ((Fin.sum_univ_add (a := 2560) (b := 1024) _).trans (add_terms
    ((Fin.sum_univ_add (a := 1536) (b := 1024) _).trans (add_terms (Fin.sum_univ_add (a := 512) (b := 1024) _) rfl)) rfl)) rfl)

theorem seg_full {n : ℕ} {s0 : S512x512.Idx → EReal} {s1 s2 s3 s4 : S512x1024.Idx → EReal} {w w' : S1024x4608.Idx → EReal}
    {p : (⟨2, ![n, 4608]⟩ : Shape).Idx → EReal} {i : Fin 512} {i' : Fin n}
    (h0 : ∀ k : Fin 512, s0 (ix2 i k) = p (ix2 i' ⟨k.val, by omega⟩)) (h1 : ∀ k : Fin 1024, s1 (ix2 i k) = p (ix2 i' ⟨512 + k.val, by omega⟩))
    (h2 : ∀ k : Fin 1024, s2 (ix2 i k) = p (ix2 i' ⟨1536 + k.val, by omega⟩)) (h3 : ∀ k : Fin 1024, s3 (ix2 i k) = p (ix2 i' ⟨2560 + k.val, by omega⟩))
    (h4 : ∀ k : Fin 1024, s4 (ix2 i k) = p (ix2 i' ⟨3584 + k.val, by omega⟩)) (hw : ∀ j k, w (ix2 j k) = w' (ix2 j k)) (j : Fin 1024) :
    seg s0 s1 s2 s3 s4 w i j = full p w' i' j := by
  unfold full
  rw [sum_segments]
  unfold seg
  simp only [h0, h1, h2, h3, h4, hw]

/-- The cotangent of an entry of the row, the incoming one added. -/
def dx (h : Fin 1024 → EReal) (d : EReal) (x g : Fin 1024 → EReal) (j : Fin 1024) : EReal := d + back x (fun k => h k * g k) j

/-- What one row gives to the scale's gradient. -/
def part (h x : Fin 1024 → EReal) (j : Fin 1024) : EReal := h j * (x j * root x)

theorem dx_congr {h h' : Fin 1024 → EReal} {d d' : EReal} {x x' g g' : Fin 1024 → EReal} {j j' : Fin 1024} (hj : j = j') (hh : ∀ k, h k = h' k) (hd : d = d')
    (hx : ∀ k, x k = x' k) (hg : ∀ k, g k = g' k) : dx h d x g j = dx h' d' x' g' j' := by
  rw [hj, hd, funext hh, funext hx, funext hg]

theorem part_congr {h h' x x' : Fin 1024 → EReal} {j j' : Fin 1024} (hj : j = j') (hh : ∀ k, h k = h' k) (hx : ∀ k, x k = x' k) :
    part h x j = part h' x' j' := by
  rw [hj, funext hh, funext hx]

section
variable (x0 : Vec Ideal S512x512 .bf16) (x1 x2 x3 x4 : Vec Ideal S512x1024 .bf16) (x5 : Vec Ideal S1024x4608 .bf16) (x6 x7 : Vec Ideal S512x1024 .f32)
  (x8 xo : Vec Ideal S1x1024 .f32)

theorem segs (b0 : ∀ a, (![0, 0] : Fin 2 → ℕ) a + S1024x512.size a ≤ S1024x4608.size a) (b1 : ∀ a, (![0, 512] : Fin 2 → ℕ) a + S1024x1024.size a ≤ S1024x4608.size a)
    (b2 : ∀ a, (![0, 1536] : Fin 2 → ℕ) a + S1024x1024.size a ≤ S1024x4608.size a) (b3 : ∀ a, (![0, 2560] : Fin 2 → ℕ) a + S1024x1024.size a ≤ S1024x4608.size a)
    (b4 : ∀ a, (![0, 3584] : Fin 2 → ℕ) a + S1024x1024.size a ≤ S1024x4608.size a) (i : Fin 512) (j : Fin 1024) :
    dotT x0 (View.ld x5 (Rect.unit (s := S1024x4608) ![0, 0] S1024x512.size b0)) i j + dotT x1 (View.ld x5 (Rect.unit (s := S1024x4608) ![0, 512] S1024x1024.size b1)) i j
      + dotT x2 (View.ld x5 (Rect.unit (s := S1024x4608) ![0, 1536] S1024x1024.size b2)) i j + dotT x3 (View.ld x5 (Rect.unit (s := S1024x4608) ![0, 2560] S1024x1024.size b3)) i j
      + dotT x4 (View.ld x5 (Rect.unit (s := S1024x4608) ![0, 3584] S1024x1024.size b4)) i j
      = seg x0 x1 x2 x3 x4 x5 i j := by
  unfold dotT seg
  refine add_terms (add_terms (add_terms (add_terms (sum_terms fun k => mul_terms rfl ?_) (sum_terms fun k => mul_terms rfl ?_)) (sum_terms fun k => mul_terms rfl ?_))
    (sum_terms fun k => mul_terms rfl ?_)) (sum_terms fun k => mul_terms rfl ?_)
  all_goals exact View.ld_unit_apply_of _ _ _ _ _ _ (fun a => by fin_cases a <;> simp)

variable (c : Dev nD) (i : grid0.Coords) (a1 : Memref sig .tc .vmem S512x512 .bf16) (h1 : a1.IsWhole) (a2 : Memref sig .tc .vmem S512x1024 .bf16) (h2 : a2.IsWhole) (a3 : Memref sig .tc .vmem S512x1024 .bf16) (h3 : a3.IsWhole)
   (a4 : Memref sig .tc .vmem S512x1024 .bf16) (h4 : a4.IsWhole) (a5 : Memref sig .tc .vmem S512x1024 .bf16) (h5 : a5.IsWhole) (a6 : Memref sig .tc .vmem S1024x4608 .bf16) (h6 : a6.IsWhole)
   (a7 : Memref sig .tc .vmem S512x1024 .f32) (h7 : a7.IsWhole) (a8 : Memref sig .tc .vmem S512x1024 .f32) (h8 : a8.IsWhole) (a9 : Memref sig .tc .vmem S1x1024 .f32) (h9 : a9.IsWhole)
   (a10 : Memref sig .tc .vmem S512x1024 .f32) (h10 : a10.IsWhole) (a11 : Memref sig .tc .vmem S1x1024 .f32) (h11 : a11.IsWhole)

theorem outA_9 (hc : cond0_0 i) (p : Fin 512) (q : Fin 1024) :
    (out0_A_9 c i a1 h1 a2 h2 a3 h3 a4 h4 a5 h5 a6 h6 a7 h7 a8 h8 a9 h9 a10 h10 a11 h11 hc x0 x1 x2 x3 x4 x5 x6 x7 x8 (ix2 p q) : EReal) = dx (fun j => seg x0 x1 x2 x3 x4 x5 p j) (x6 (ix2 p q)) (fun k => x7 (ix2 p k)) (fun k => x8 (ix2 0 k)) q := by
  frame_out
  rw [pay5_at]
  simp only [pay7_at, pay8_at, segs]
  rfl

theorem outB_9 (hc : ¬cond0_0 i) (p : Fin 512) (q : Fin 1024) :
    (out0_B_9 c i a1 h1 a2 h2 a3 h3 a4 h4 a5 h5 a6 h6 a7 h7 a8 h8 a9 h9 a10 h10 a11 h11 hc x0 x1 x2 x3 x4 x5 x6 x7 x8 xo (ix2 p q) : EReal) = dx (fun j => seg x0 x1 x2 x3 x4 x5 p j) (x6 (ix2 p q)) (fun k => x7 (ix2 p k)) (fun k => x8 (ix2 0 k)) q := by
  frame_out
  rw [pay5_at]
  simp only [pay7_at, pay8_at, segs]
  rfl

theorem outA_10 (hc : cond0_0 i) (q : Fin 1024) :
    (out0_A_10 c i a1 h1 a2 h2 a3 h3 a4 h4 a5 h5 a6 h6 a7 h7 a8 h8 a9 h9 a10 h10 a11 h11 hc x0 x1 x2 x3 x4 x5 x6 x7 x8 (ix2 0 q) : EReal) = 0 + ∑ p, part (fun j => seg x0 x1 x2 x3 x4 x5 p j) (fun k => x7 (ix2 p k)) q := by
  frame_out
  rw [pay4_at, pay6_at]
  simp only [pay7_at, pay8_at, segs]
  rfl

theorem outB_10 (hc : ¬cond0_0 i) (q : Fin 1024) :
    (out0_B_10 c i a1 h1 a2 h2 a3 h3 a4 h4 a5 h5 a6 h6 a7 h7 a8 h8 a9 h9 a10 h10 a11 h11 hc x0 x1 x2 x3 x4 x5 x6 x7 x8 xo (ix2 0 q) : EReal) = xo (ix2 0 q) + ∑ p, part (fun j => seg x0 x1 x2 x3 x4 x5 p j) (fun k => x7 (ix2 p k)) q := by
  frame_out
  rw [pay4_at]
  simp only [pay7_at, pay8_at, segs]
  rfl
end

theorem places : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0]
    ∧ win0_6.index t = ![t.val, 0] ∧ win0_7.index t = ![t.val, 0] ∧ win0_8.index t = ![0, 0] ∧ win0_9.index t = ![t.val, 0] ∧ win0_10.index t = ![0, 0] := by
  decide +kernel

abbrev argP (c : Dev nD) : FVec Ideal S4096x4608 .f32 := m ((c.tc : Thread nD τ).loc main_arg0)
abbrev argW (c : Dev nD) : FVec Ideal S1024x4608 .f32 := m ((c.tc : Thread nD τ).loc main_arg1)
abbrev argD (c : Dev nD) : FVec Ideal S4096x1024 .f32 := m ((c.tc : Thread nD τ).loc main_arg2)
abbrev argX (c : Dev nD) : FVec Ideal S4096x1024 .f32 := m ((c.tc : Thread nD τ).loc main_arg3)
abbrev argG (c : Dev nD) : FVec Ideal S1x1024 .f32 := m ((c.tc : Thread nD τ).loc main_arg4)

/-- The cotangent's segments, which the host cuts out. -/
theorem cut0 (c : Dev nD) (y : S4096x512.Idx) : (V m c main_v1 : S4096x512.Idx → EReal) y = argP m c (ix2 (y 0) ⟨(y 1).val, lt_of_lt_of_le (y 1).isLt (by decide)⟩) := by
  idx_vars y
  show StableHlo.after hostOps0 (fun b => m (c, b)) main_v1 (ix2 y0 y1) = _
  simp only [hostOps0, StableHlo.TRef.unary, StableHlo.TRef.toBuf, StableHlo.TRef.ofBuf, cast_eq]
  after_results
  pointwise []

theorem cut1 (c : Dev nD) (y : S4096x1024.Idx) : (V m c main_v3 : S4096x1024.Idx → EReal) y = argP m c (ix2 (y 0) ⟨512 + (y 1).val, lt_of_lt_of_le (Nat.add_lt_add_left (y 1).isLt 512) (by decide)⟩) := by
  idx_vars y
  show StableHlo.after hostOps0 (fun b => m (c, b)) main_v3 (ix2 y0 y1) = _
  simp only [hostOps0, StableHlo.TRef.unary, StableHlo.TRef.toBuf, StableHlo.TRef.ofBuf, cast_eq]
  after_results
  pointwise []

theorem cut2 (c : Dev nD) (y : S4096x1024.Idx) : (V m c main_v5 : S4096x1024.Idx → EReal) y = argP m c (ix2 (y 0) ⟨1536 + (y 1).val, lt_of_lt_of_le (Nat.add_lt_add_left (y 1).isLt 1536) (by decide)⟩) := by
  idx_vars y
  show StableHlo.after hostOps0 (fun b => m (c, b)) main_v5 (ix2 y0 y1) = _
  simp only [hostOps0, StableHlo.TRef.unary, StableHlo.TRef.toBuf, StableHlo.TRef.ofBuf, cast_eq]
  after_results
  pointwise []

theorem cut3 (c : Dev nD) (y : S4096x1024.Idx) : (V m c main_v7 : S4096x1024.Idx → EReal) y = argP m c (ix2 (y 0) ⟨2560 + (y 1).val, lt_of_lt_of_le (Nat.add_lt_add_left (y 1).isLt 2560) (by decide)⟩) := by
  idx_vars y
  show StableHlo.after hostOps0 (fun b => m (c, b)) main_v7 (ix2 y0 y1) = _
  simp only [hostOps0, StableHlo.TRef.unary, StableHlo.TRef.toBuf, StableHlo.TRef.ofBuf, cast_eq]
  after_results
  pointwise []

theorem cut4 (c : Dev nD) (y : S4096x1024.Idx) : (V m c main_v9 : S4096x1024.Idx → EReal) y = argP m c (ix2 (y 0) ⟨3584 + (y 1).val, lt_of_lt_of_le (Nat.add_lt_add_left (y 1).isLt 3584) (by decide)⟩) := by
  idx_vars y
  show StableHlo.after hostOps0 (fun b => m (c, b)) main_v9 (ix2 y0 y1) = _
  simp only [hostOps0, StableHlo.TRef.unary, StableHlo.TRef.toBuf, StableHlo.TRef.ofBuf, cast_eq]
  after_results
  pointwise []

/-- The cotangent of the input after the point's body, in either case. -/
theorem after9 (c : Dev nD) (t : Fin cfg0.N) (p : Fin 512) (q : Fin 1024) :
    ((outsAt0 m c t.val t.isLt).1 (ix2 p q) : EReal) = dx (fun j => seg (iblk m c 0 t) (iblk m c 1 t) (iblk m c 2 t) (iblk m c 3 t) (iblk m c 4 t) (iblk m c 5 t) p j) ((iblk m c 6 t) (ix2 p q)) (fun k => (iblk m c 7 t) (ix2 p k)) (fun k => (iblk m c 8 t) (ix2 0 k)) q := by
  by_cases h : t.val % 8 = 0
  · rw [outsAt0_A m c t h]; dsimp only; rw [outA_9]
  · rw [outsAt0_B m c t h]; dsimp only; rw [outB_9]

set_option maxHeartbeats 2000000 in
theorem result9 (c : Dev nD) : (dats m 0 c).arrAt 9 cfg0.N = (fun j => dx (full (argP m c) (argW m c) (j 0)) (argD m c (ix2 (j 0) (j 1))) (fun k => argX m c (ix2 (j 0) k)) (fun k => argG m c (ix2 0 k)) (j 1) : FVec Ideal S4096x1024 .f32) := by
  refine (dats m 0 c).arrAt_eq_of_covers 9 _ (by decide +kernel) fun t hf y => ?_
  blk_simp
  rw [after0_9]
  idx_vars y
  refine (after9 m c t _ _).trans ?_
  refine dx_congr (Fin.ext ?_) (fun k => seg_full (fun k => ?_) (fun k => ?_) (fun k => ?_) (fun k => ?_) (fun k => ?_) (fun j k => ?_) k) ?_ (fun k => ?_) (fun k => ?_)
  · blk_simp [places t]
  · exact (cut0 m c _).trans (by blk_ext [places t])
  · exact (cut1 m c _).trans (by blk_ext [places t])
  · exact (cut2 m c _).trans (by blk_ext [places t])
  · exact (cut3 m c _).trans (by blk_ext [places t])
  · exact (cut4 m c _).trans (by blk_ext [places t])
  all_goals blk_ext [iblk, V, places t]

set_option maxHeartbeats 2000000 in
theorem result10 (c : Dev nD) : (dats m 0 c).arrAt 10 cfg0.N = (fun j => ∑ i : Fin 4096, part (full (argP m c) (argW m c) i) (fun k => argX m c (ix2 i k)) (j 1) : FVec Ideal S1x1024 .f32) := by
  refine (dats m 0 c).arrAt_eq_of_covers 10 _ (by decide +kernel) fun t hf y => ?_
  have hN : cfg0.N = 8 := N_0
  have ht : t.val + 1 = cfg0.N := by have := (flush0_10 t).mp hf; have := t.isLt; omega
  blk_simp
  rw [after0_10]
  idx_vars y
  obtain rfl : y0 = 0 := Subsingleton.elim _ _
  rw [Pipeline.eq_sum_fin_of_reset_step_apply_last (fun n h => fun q : Fin 1024 => ((outsAt0 m c n h).2 (ix2 0 q) : EReal)) 8 (fun _ => 0)
    (fun t q => ∑ p, part (fun j => seg (iblk m c 0 t) (iblk m c 1 t) (iblk m c 2 t) (iblk m c 3 t) (iblk m c 4 t) (iblk m c 5 t) p j) (fun k => (iblk m c 7 t) (ix2 p k)) q)
    (fun t h q => by rw [outsAt0_A m c t h]; dsimp only; rw [outA_10])
    (fun t h q => by rw [outsAt0_B m c t h]; dsimp only; rw [outB_10])
    (le_of_eq hN) t ht y1, zero_add]
  refine Fin.sum_mul_add_congr (fun s k hl => ?_) (by rw [hN])
  refine part_congr (Fin.ext ?_) (fun k => seg_full (fun k => ?_) (fun k => ?_) (fun k => ?_) (fun k => ?_) (fun k => ?_) (fun j k => ?_) k) (fun k => ?_)
  · blk_simp [places t]
  · exact (cut0 m c _).trans (by blk_ext [places s])
  · exact (cut1 m c _).trans (by blk_ext [places s])
  · exact (cut2 m c _).trans (by blk_ext [places s])
  · exact (cut3 m c _).trans (by blk_ext [places s])
  · exact (cut4 m c _).trans (by blk_ext [places s])
  all_goals blk_ext [iblk, V, places s]

/-- The call's two results, and its arguments unchanged. -/
theorem values : θ_run defs (onTc (τ := τ) (main (F := Ideal))) ⟨m, fun _ => 0, ρ⟩ fun r => ∀ c : Dev nD,
      r.2.mem ((c.tc : Thread nD τ).loc main_v11_0) = (fun j => dx (full (argP m c) (argW m c) (j 0)) (argD m c (ix2 (j 0) (j 1))) (fun k => argX m c (ix2 (j 0) k)) (fun k => argG m c (ix2 0 k)) (j 1) : FVec Ideal S4096x1024 .f32)
      ∧ r.2.mem ((c.tc : Thread nD τ).loc main_v11_1) = (fun j => ∑ i : Fin 4096, part (full (argP m c) (argW m c) i) (fun k => argX m c (ix2 i k)) (j 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result9 m c), (h c).2.1.trans (result10 m c), (h c).2.2⟩) (Cert.Kernel12Ideal.Value.run_blocks m ρ)

/-- The side conditions of the precondition. -/
theorem preFacts : Cert.Pre_finite_in_proj.Facts where
  bcast_S_S4096x4608 := by decide +kernel
  bcast_S_S1024x4608 := by decide +kernel
  bcast_S_S4096x1024 := by decide +kernel
  bcast_S_S1x1024 := by decide +kernel

attribute [local instance] preFacts

/-- Every entry of the array is a real number. -/
def AllReal {a b : ℕ} (x : (⟨2, ![a, b]⟩ : Shape).Idx → EReal) : Prop := ∀ i j, IsReal (x (ix2 i j))

/-- What the value claim asks of the reference's arguments. -/
def Real (m : (ℓ : Loc Cert.Reference12Ideal.nD Cert.Reference12Ideal.τ Cert.Reference12Ideal.sig) → Buf (Elt Ideal) ℓ) (c : Dev Cert.Reference12Ideal.nD) : Prop :=
  AllReal (a := 4096) (b := 4608) (m ((c.tc : Thread Cert.Reference12Ideal.nD Cert.Reference12Ideal.τ).loc Cert.Reference12Ideal.main_arg0)) ∧ AllReal (a := 1024) (b := 4608) (m ((c.tc : Thread Cert.Reference12Ideal.nD Cert.Reference12Ideal.τ).loc Cert.Reference12Ideal.main_arg1)) ∧ AllReal (a := 4096) (b := 1024) (m ((c.tc : Thread Cert.Reference12Ideal.nD Cert.Reference12Ideal.τ).loc Cert.Reference12Ideal.main_arg3)) ∧ AllReal (a := 1) (b := 1024) (m ((c.tc : Thread Cert.Reference12Ideal.nD Cert.Reference12Ideal.τ).loc Cert.Reference12Ideal.main_arg4))

theorem real_of_pre (m : (ℓ : Loc Cert.Reference12Ideal.nD Cert.Reference12Ideal.τ Cert.Reference12Ideal.sig) → Buf (Elt Ideal) ℓ) (c : Dev Cert.Reference12Ideal.nD)
    (h : (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
      ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
      ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
      ∧ (Cert.Pre_finite_in_proj.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2 = (fun _ => 1#1)) : Real m c := by
  obtain ⟨h1, h2, h3, h4⟩ := h
  exact ⟨fun i j => Cert.Pool.real_of_below _ (congrFun h1 (ix2 i j)), fun i j => Cert.Pool.real_of_below _ (congrFun h2 (ix2 i j)),
    fun i j => Cert.Pool.real_of_below _ (congrFun h3 (ix2 i j)), fun i j => Cert.Pool.real_of_below _ (congrFun h4 (ix2 i j))⟩

section
variable (p : FVec Ideal S4096x4608 .f32) (w : FVec Ideal S1024x4608 .f32) (d x : FVec Ideal S4096x1024 .f32) (g : FVec Ideal S1x1024 .f32)

/-- The reference's first result, entry by entry. -/
theorem ref_dx (hp : AllReal p) (hw : AllReal w) (hx : AllReal x) (hg : AllReal g) (i : Fin 4096) (j : Fin 1024) :
    d (ix2 i j) + full p w i j * g (ix2 0 j) * root (fun k => x (ix2 i k))
      + x (ix2 i j) * through (fun k => x (ix2 i k)) (fun k => full p w i k * g (ix2 0 k))
      + through (fun k => x (ix2 i k)) (fun k => full p w i k * g (ix2 0 k)) * x (ix2 i j) = dx (full p w i) (d (ix2 i j)) (fun k => x (ix2 i k)) (fun k => g (ix2 0 k)) j :=
  through_back (d (ix2 i j)) (x := fun k => x (ix2 i k)) (y := fun k => full p w i k * g (ix2 0 k)) (fun k => hx i k)
    (fun k => isReal_mul (isReal_sum fun q => isReal_mul (hp i q) (hw k q)) (hg 0 k)) j

theorem ref_part (i : Fin 4096) (j : Fin 1024) :
    x (ix2 i j) * root (fun k => x (ix2 i k)) * full p w i j = part (full p w i) (fun k => x (ix2 i k)) j := mul_comm _ _
end

open Cert.Reference12Ideal in
/-- The reference's two results, and its arguments unchanged. -/
theorem reference (m : (ℓ : Loc Cert.Reference12Ideal.nD Cert.Reference12Ideal.τ Cert.Reference12Ideal.sig) → Buf (Elt Ideal) ℓ) (ρ : Dev Cert.Reference12Ideal.nD → PrngReg) (hr : ∀ c, Real m c) :
    θ_run (Cert.Reference12Ideal.defs (F := Ideal)) (onTc (τ := Cert.Reference12Ideal.τ) (Cert.Reference12Ideal.main (F := Ideal))) ⟨m, fun _ => 0, ρ⟩ fun r =>
      ∀ c : Dev Cert.Reference12Ideal.nD,
      r.2.mem ((c.tc : Thread Cert.Reference12Ideal.nD Cert.Reference12Ideal.τ).loc Cert.Reference12Ideal.main_v36)
        = (fun j => dx (full (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (j 0)) ((m ((c.tc : Thread Cert.Reference12Ideal.nD Cert.Reference12Ideal.τ).loc Cert.Reference12Ideal.main_arg2)) (ix2 (j 0) (j 1))) (fun k => (m ((c.tc : Thread Cert.Reference12Ideal.nD Cert.Reference12Ideal.τ).loc Cert.Reference12Ideal.main_arg3)) (ix2 (j 0) k)) (fun k => (m ((c.tc : Thread Cert.Reference12Ideal.nD Cert.Reference12Ideal.τ).loc Cert.Reference12Ideal.main_arg4)) (ix2 0 k)) (j 1) : FVec Ideal Cert.Reference12Ideal.S4096x1024 .f32)
      ∧ r.2.mem ((c.tc : Thread Cert.Reference12Ideal.nD Cert.Reference12Ideal.τ).loc Cert.Reference12Ideal.main_v19)
        = (fun j => ∑ i : Fin 4096, part (full (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) i) (fun k => (m ((c.tc : Thread Cert.Reference12Ideal.nD Cert.Reference12Ideal.τ).loc Cert.Reference12Ideal.main_arg3)) (ix2 i k)) (j 1) : FVec Ideal Cert.Reference12Ideal.S1x1024 .f32)
      ∧ r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4) :=
  (θ_run _ _ _).mono (fun _ h c => ⟨(h c).1.trans (funext fun j => by
      idx_vars j
      refine Eq.trans ?_ (ref_dx _ _ _ _ _ (hr c).1 (hr c).2.1 (hr c).2.2.1 (hr c).2.2.2 j0 j1)
      unfold Cert.Reference12Ideal.Value.res_main_v36 through root msq full
      pointwise []
      simp only [Fin.sum_univ_one]),
    (h c).2.1.trans (funext fun j => by
      idx_vars j
      refine Eq.trans ?_ (sum_terms fun i => ref_part _ _ _ i j1)
      unfold root msq full
      pointwise []), (h c).2.2⟩) (Cert.Reference12Ideal.Value.run m ρ)

end Cert.InProjBwd

end
-- ==== Proof.ProjGrad.lean ====
/- The gradient of the input projection's weight: the call's result, from five segments, and the reference's. -/
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.Pipeline.Value
public import Idealize.ShloMosaic.Lib.Pipeline.ValueKit

@[expose] public section

set_option maxRecDepth 16384

noncomputable section

namespace Cert.ProjGrad

open Idealize.ShloMosaic Idealize.ShloMosaic.TcCoe Idealize.SL.Sem
open Idealize.ShloMosaic.Pipeline (Dat Cfg Window)
open Cert.Kernel13Ideal Cert.Kernel13Ideal.Gen

variable (m : (ℓ : Loc nD τ sig) → Buf (Elt Ideal) ℓ) (ρ : Dev nD → PrngReg)

theorem hz : (![0, 0] : Fin 2 → Nat) = fun _ => 0 := funext fun a => by fin_cases a <;> rfl

theorem pay1_at (a : Vec Ideal S4096x1024 .bf16) (b : Vec Ideal S4096x256 .bf16) (i : Fin 1024) (j : Fin 256) :
    ((k0_pay1 a b : FVec Ideal S1024x256 .f32) (ix2 i j) : EReal) = ∑ k : Fin 4096, (a (ix2 k i) : EReal) * b (ix2 k j) := by
  pointwise [k0_pay1]

theorem pay2_at (a : Vec Ideal S4096x1024 .bf16) (b : Vec Ideal S4096x256 .bf16) (i : Fin 1024) (j : Fin 256) :
    ((k0_pay2 a b : FVec Ideal S1024x256 .f32) (ix2 i j) : EReal) = ∑ k : Fin 4096, (a (ix2 k i) : EReal) * b (ix2 k j) := by
  pointwise [k0_pay2]

theorem pay3_at (a : Vec Ideal S4096x1024 .bf16) (b : Vec Ideal S4096x256 .bf16) (i : Fin 1024) (j : Fin 256) :
    ((k0_pay3 a b : FVec Ideal S1024x256 .f32) (ix2 i j) : EReal) = ∑ k : Fin 4096, (a (ix2 k i) : EReal) * b (ix2 k j) := by
  pointwise [k0_pay3]

theorem pay4_at (a : Vec Ideal S4096x1024 .bf16) (b : Vec Ideal S4096x256 .bf16) (i : Fin 1024) (j : Fin 256) :
    ((k0_pay4 a b : FVec Ideal S1024x256 .f32) (ix2 i j) : EReal) = ∑ k : Fin 4096, (a (ix2 k i) : EReal) * b (ix2 k j) := by
  pointwise [k0_pay4]

theorem pay5_at (a : Vec Ideal S4096x1024 .bf16) (b : Vec Ideal S4096x256 .bf16) (i : Fin 1024) (j : Fin 256) :
    ((k0_pay5 a b : FVec Ideal S1024x256 .f32) (ix2 i j) : EReal) = ∑ k : Fin 4096, (a (ix2 k i) : EReal) * b (ix2 k j) := by
  pointwise [k0_pay5]

section
variable (c : Dev nD) (i : grid0.Coords) (a2 : Memref sig .tc .vmem S4096x1024 .bf16) (h2 : a2.IsWhole) (a3 : Memref sig .tc .vmem S4096x256 .bf16) (h3 : a3.IsWhole) (a4 : Memref sig .tc .vmem S4096x256 .bf16) (h4 : a4.IsWhole)
   (a5 : Memref sig .tc .vmem S4096x256 .bf16) (h5 : a5.IsWhole) (a6 : Memref sig .tc .vmem S4096x256 .bf16) (h6 : a6.IsWhole) (a7 : Memref sig .tc .vmem S4096x256 .bf16) (h7 : a7.IsWhole)
   (a8 : Memref sig .tc .vmem S1024x256 .f32) (h8 : a8.IsWhole)
  (x0 : Vec Ideal S4096x1024 .bf16) (x1 x2 x3 x4 x5 : Vec Ideal S4096x256 .bf16)

theorem out_0 (hc0 : cond0_0 i) (hc1 : ¬cond0_1 i) (hc2 : ¬cond0_2 i) (hc3 : ¬cond0_3 i) (hc4 : ¬cond0_4 i) :
    out0_A_6 c i a2 h2 a3 h3 a4 h4 a5 h5 a6 h6 a7 h7 a8 h8 hc0 hc1 hc2 hc3 hc4 x0 x1 x2 x3 x4 x5 = k0_pay1 x0 x1 := by
  unfold out0_A_6
  rw [View.read_writes_eq_canon _ _ _ (cover0_A_6 c i a2 h2 a3 h3 a4 h4 a5 h5 a6 h6 a7 h7 a8 h8 hc0 hc1 hc2 hc3 hc4 x0 x1 x2 x3 x4 x5)]
  unfold kernelRun0_A
  dsimp only
  rw [View.canon_unit_zero hz]
  simp only [View.readAt_eq_ld, h2.read_unread, h3.read_unread, View.ld_unit_zero (S := S4096x256) hz, View.ld_unit_zero (S := S4096x1024) hz]

theorem out_1 (hc0 : ¬cond0_0 i) (hc1 : cond0_1 i) (hc2 : ¬cond0_2 i) (hc3 : ¬cond0_3 i) (hc4 : ¬cond0_4 i) :
    out0_B_6 c i a2 h2 a3 h3 a4 h4 a5 h5 a6 h6 a7 h7 a8 h8 hc0 hc1 hc2 hc3 hc4 x0 x1 x2 x3 x4 x5 = k0_pay2 x0 x2 := by
  unfold out0_B_6
  rw [View.read_writes_eq_canon _ _ _ (cover0_B_6 c i a2 h2 a3 h3 a4 h4 a5 h5 a6 h6 a7 h7 a8 h8 hc0 hc1 hc2 hc3 hc4 x0 x1 x2 x3 x4 x5)]
  unfold kernelRun0_B
  dsimp only
  rw [View.canon_unit_zero hz]
  simp only [View.readAt_eq_ld, h2.read_unread, h4.read_unread, View.ld_unit_zero (S := S4096x256) hz, View.ld_unit_zero (S := S4096x1024) hz]

theorem out_2 (hc0 : ¬cond0_0 i) (hc1 : ¬cond0_1 i) (hc2 : cond0_2 i) (hc3 : ¬cond0_3 i) (hc4 : ¬cond0_4 i) :
    out0_C_6 c i a2 h2 a3 h3 a4 h4 a5 h5 a6 h6 a7 h7 a8 h8 hc0 hc1 hc2 hc3 hc4 x0 x1 x2 x3 x4 x5 = k0_pay3 x0 x3 := by
  unfold out0_C_6
  rw [View.read_writes_eq_canon _ _ _ (cover0_C_6 c i a2 h2 a3 h3 a4 h4 a5 h5 a6 h6 a7 h7 a8 h8 hc0 hc1 hc2 hc3 hc4 x0 x1 x2 x3 x4 x5)]
  unfold kernelRun0_C
  dsimp only
  rw [View.canon_unit_zero hz]
  simp only [View.readAt_eq_ld, h2.read_unread, h5.read_unread, View.ld_unit_zero (S := S4096x256) hz, View.ld_unit_zero (S := S4096x1024) hz]

theorem out_3 (hc0 : ¬cond0_0 i) (hc1 : ¬cond0_1 i) (hc2 : ¬cond0_2 i) (hc3 : cond0_3 i) (hc4 : ¬cond0_4 i) :
    out0_D_6 c i a2 h2 a3 h3 a4 h4 a5 h5 a6 h6 a7 h7 a8 h8 hc0 hc1 hc2 hc3 hc4 x0 x1 x2 x3 x4 x5 = k0_pay4 x0 x4 := by
  unfold out0_D_6
  rw [View.read_writes_eq_canon _ _ _ (cover0_D_6 c i a2 h2 a3 h3 a4 h4 a5 h5 a6 h6 a7 h7 a8 h8 hc0 hc1 hc2 hc3 hc4 x0 x1 x2 x3 x4 x5)]
  unfold kernelRun0_D
  dsimp only
  rw [View.canon_unit_zero hz]
  simp only [View.readAt_eq_ld, h2.read_unread, h6.read_unread, View.ld_unit_zero (S := S4096x256) hz, View.ld_unit_zero (S := S4096x1024) hz]

theorem out_4 (hc0 : ¬cond0_0 i) (hc1 : ¬cond0_1 i) (hc2 : ¬cond0_2 i) (hc3 : ¬cond0_3 i) (hc4 : cond0_4 i) :
    out0_E_6 c i a2 h2 a3 h3 a4 h4 a5 h5 a6 h6 a7 h7 a8 h8 hc0 hc1 hc2 hc3 hc4 x0 x1 x2 x3 x4 x5 = k0_pay5 x0 x5 := by
  unfold out0_E_6
  rw [View.read_writes_eq_canon _ _ _ (cover0_E_6 c i a2 h2 a3 h3 a4 h4 a5 h5 a6 h6 a7 h7 a8 h8 hc0 hc1 hc2 hc3 hc4 x0 x1 x2 x3 x4 x5)]
  unfold kernelRun0_E
  dsimp only
  rw [View.canon_unit_zero hz]
  simp only [View.readAt_eq_ld, h2.read_unread, h7.read_unread, View.ld_unit_zero (S := S4096x256) hz, View.ld_unit_zero (S := S4096x1024) hz]

end

theorem places : ∀ t : Fin cfg0.N, win0_0.index t = ![0, 0] ∧ (t.val < 2 → win0_1.index t = ![0, t.val])
    ∧ (2 ≤ t.val → t.val < 6 → win0_2.index t = ![0, t.val - 2])
    ∧ (6 ≤ t.val → t.val < 10 → win0_3.index t = ![0, t.val - 6])
    ∧ (10 ≤ t.val → t.val < 14 → win0_4.index t = ![0, t.val - 10])
    ∧ (14 ≤ t.val → t.val < 18 → win0_5.index t = ![0, t.val - 14])
    ∧ win0_6.index t = ![0, t.val] := by
  decide +kernel

abbrev argH (c : Dev nD) : FVec Ideal S4096x1024 .f32 := m ((c.tc : Thread nD τ).loc main_arg0)
abbrev argP (c : Dev nD) : FVec Ideal S4096x4608 .f32 := m ((c.tc : Thread nD τ).loc main_arg1)

/-- The gradient of the weights of a product, entry by entry. -/
def grad (x : S4096x1024.Idx → EReal) (p : S4096x4608.Idx → EReal) (i : Fin 1024) (j : Fin 4608) : EReal := ∑ k : Fin 4096, x (ix2 k i) * p (ix2 k j)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The cotangent's segments, which the host cuts out. -/
theorem cut0 (c : Dev nD) (y : S4096x512.Idx) : (V m c main_v1 : S4096x512.Idx → EReal) y = argP m c (ix2 (y 0) ⟨(y 1).val, lt_of_lt_of_le (y 1).isLt (by decide)⟩) := by
  idx_vars y
  show StableHlo.after hostOps0 (fun b => m (c, b)) main_v1 (ix2 y0 y1) = _
  simp only [hostOps0, StableHlo.TRef.unary, StableHlo.TRef.toBuf, StableHlo.TRef.ofBuf, cast_eq]
  after_results
  pointwise []

theorem cut1 (c : Dev nD) (y : S4096x1024.Idx) : (V m c main_v3 : S4096x1024.Idx → EReal) y = argP m c (ix2 (y 0) ⟨512 + (y 1).val, lt_of_lt_of_le (Nat.add_lt_add_left (y 1).isLt 512) (by decide)⟩) := by
  idx_vars y
  show StableHlo.after hostOps0 (fun b => m (c, b)) main_v3 (ix2 y0 y1) = _
  simp only [hostOps0, StableHlo.TRef.unary, StableHlo.TRef.toBuf, StableHlo.TRef.ofBuf, cast_eq]
  after_results
  pointwise []

theorem cut2 (c : Dev nD) (y : S4096x1024.Idx) : (V m c main_v5 : S4096x1024.Idx → EReal) y = argP m c (ix2 (y 0) ⟨1536 + (y 1).val, lt_of_lt_of_le (Nat.add_lt_add_left (y 1).isLt 1536) (by decide)⟩) := by
  idx_vars y
  show StableHlo.after hostOps0 (fun b => m (c, b)) main_v5 (ix2 y0 y1) = _
  simp only [hostOps0, StableHlo.TRef.unary, StableHlo.TRef.toBuf, StableHlo.TRef.ofBuf, cast_eq]
  after_results
  pointwise []

theorem cut3 (c : Dev nD) (y : S4096x1024.Idx) : (V m c main_v7 : S4096x1024.Idx → EReal) y = argP m c (ix2 (y 0) ⟨2560 + (y 1).val, lt_of_lt_of_le (Nat.add_lt_add_left (y 1).isLt 2560) (by decide)⟩) := by
  idx_vars y
  show StableHlo.after hostOps0 (fun b => m (c, b)) main_v7 (ix2 y0 y1) = _
  simp only [hostOps0, StableHlo.TRef.unary, StableHlo.TRef.toBuf, StableHlo.TRef.ofBuf, cast_eq]
  after_results
  pointwise []

theorem cut4 (c : Dev nD) (y : S4096x1024.Idx) : (V m c main_v9 : S4096x1024.Idx → EReal) y = argP m c (ix2 (y 0) ⟨3584 + (y 1).val, lt_of_lt_of_le (Nat.add_lt_add_left (y 1).isLt 3584) (by decide)⟩) := by
  idx_vars y
  show StableHlo.after hostOps0 (fun b => m (c, b)) main_v9 (ix2 y0 y1) = _
  simp only [hostOps0, StableHlo.TRef.unary, StableHlo.TRef.toBuf, StableHlo.TRef.ofBuf, cast_eq]
  after_results
  pointwise []

set_option maxHeartbeats 2000000 in
/-- The result, the whole array. -/
theorem result (c : Dev nD) : (dats m 0 c).arrAt 6 cfg0.N
    = (fun j => grad (argH m c) (argP m c) (j 0) (j 1) : FVec Ideal S1024x4608 .f32) := by
  refine (dats m 0 c).arrAt_eq_of_covers 6 _ (by decide +kernel) fun t hf y => ?_
  have p := places t
  have ht : t.val < 18 := lt_of_lt_of_eq t.isLt N_0
  blk_simp
  rw [after0_6]
  idx_vars y
  unfold grad
  by_cases h1 : t.val < 2
  · rw [outsAt0_A m c t (by omega) (by omega) (by omega) (by omega) (by omega), out_0, pay1_at]
    exact sum_terms fun k => mul_terms (by blk_ext [iblk, V, p.1, p.2.2.2.2.2.2]) ((cut0 m c _).trans (by blk_ext [p.2.1 (by omega), p.2.2.2.2.2.2]))
  by_cases h2 : t.val < 6
  · rw [outsAt0_B m c t (by omega) (by omega) (by omega) (by omega) (by omega), out_1, pay2_at]
    exact sum_terms fun k => mul_terms (by blk_ext [iblk, V, p.1, p.2.2.2.2.2.2]) ((cut1 m c _).trans (by blk_ext [p.2.2.1 (by omega) (by omega), p.2.2.2.2.2.2]))
  by_cases h3 : t.val < 10
  · rw [outsAt0_C m c t (by omega) (by omega) (by omega) (by omega) (by omega), out_2, pay3_at]
    exact sum_terms fun k => mul_terms (by blk_ext [iblk, V, p.1, p.2.2.2.2.2.2]) ((cut2 m c _).trans (by blk_ext [p.2.2.2.1 (by omega) (by omega), p.2.2.2.2.2.2]))
  by_cases h4 : t.val < 14
  · rw [outsAt0_D m c t (by omega) (by omega) (by omega) (by omega) (by omega), out_3, pay4_at]
    exact sum_terms fun k => mul_terms (by blk_ext [iblk, V, p.1, p.2.2.2.2.2.2]) ((cut3 m c _).trans (by blk_ext [p.2.2.2.2.1 (by omega) (by omega), p.2.2.2.2.2.2]))
  · rw [outsAt0_E m c t (by omega) (by omega) (by omega) (by omega) (by omega), out_4, pay5_at]
    exact sum_terms fun k => mul_terms (by blk_ext [iblk, V, p.1, p.2.2.2.2.2.2]) ((cut4 m c _).trans (by blk_ext [p.2.2.2.2.2.1 (by omega) (by omega), p.2.2.2.2.2.2]))

theorem ref_at (x : FVec Ideal S4096x1024 .f32) (p : FVec Ideal S4096x4608 .f32) (i : Fin 1024) (j : Fin 4608)
    (h : Cert.Reference13Ideal.S4608x1024.Transposes [1, 0] Cert.Reference13Ideal.S1024x4608) :
    (transpose Cert.Reference13Ideal.S1024x4608 [1, 0] (Host.dotGeneral Cert.Reference13Ideal.dot_S4096x4608_S4096x1024_S4608x1024_0_0_1_1_n_n none p x) h (ix2 i j) : EReal) = grad x p i j := by
  unfold grad
  pointwise []
  exact sum_terms fun k => mul_comm _ _

/-- The call's result, and its arguments unchanged. -/
theorem values : θ_run defs (onTc (τ := τ) (main (F := Ideal))) ⟨m, fun _ => 0, ρ⟩ fun r => ∀ c : Dev nD,
      r.2.mem ((c.tc : Thread nD τ).loc main_v11) = (fun j => grad (argH m c) (argP m c) (j 0) (j 1) : FVec Ideal S1024x4608 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result m c), (h c).2⟩) (Cert.Kernel13Ideal.Value.run_blocks m ρ)

/-- The reference's result, and its arguments unchanged. -/
theorem reference (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ fun r =>
      ∀ c : Dev Cert.Reference13Ideal.nD,
      r.2.mem ((c.tc : Thread Cert.Reference13Ideal.nD Cert.Reference13Ideal.τ).loc Cert.Reference13Ideal.main_v3)
        = (fun j => grad (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (j 0) (j 1) : FVec Ideal Cert.Reference13Ideal.S1024x4608 .f32)
      ∧ r.2.mem ((c.tc : Thread Cert.Reference13Ideal.nD Cert.Reference13Ideal.τ).loc Cert.Reference13Ideal.main_arg0) = (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_arg1) = (m ((c.tc : Thread Cert.Reference13Ideal.nD Cert.Reference13Ideal.τ).loc Cert.Reference13Ideal.main_arg1)) :=
  (θ_run _ _ _).mono (fun _ h c => ⟨(h c).1.trans (funext fun j => by idx_vars j; exact ref_at _ _ _ _ _), (h c).2⟩)
    (Cert.Reference13Ideal.Value.run m ρ)

end Cert.ProjGrad

end
-- ==== Proof.MergeBwd.lean ====
/- The gradient of the merged branches and of the product behind them: the call's four results and the reference's. -/
module

public import proofs.«01_k».proof.Defs
public import proofs.«01_k».proof.Proof.Gen.Kernel14Ideal.Value
public import proofs.«01_k».proof.Proof.Gen.Reference14Ideal.Run
public import proofs.«01_k».proof.Proof.Reals
public import Idealize.ShloMosaic.Lib.Pointwise
public import Idealize.ShloMosaic.Lib.Pipeline.Value
public import Idealize.ShloMosaic.Lib.Pipeline.ValueKit

@[expose] public section

set_option maxRecDepth 16384

noncomputable section

namespace Cert.MergeBwd

open Idealize.ShloMosaic Idealize.ShloMosaic.TcCoe Idealize.SL.Sem
open Idealize.ShloMosaic.Pipeline (Dat Cfg Window)
open Cert.Kernel14Ideal Cert.Kernel14Ideal.Gen Cert.Ffn

variable (m : (ℓ : Loc nD τ sig) → Buf (Elt Ideal) ℓ) (ρ : Dev nD → PrngReg)

theorem hz : (![0, 0] : Fin 2 → Nat) = fun _ => 0 := funext fun a => by fin_cases a <;> rfl

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The cotangent of the merged branches: rows against rows. -/
def dot {a b : ℕ} (x : (⟨2, ![a, 1024]⟩ : Shape).Idx → EReal) (w : (⟨2, ![b, 1024]⟩ : Shape).Idx → EReal) (i : Fin a) (j : Fin b) : EReal :=
  ∑ k : Fin 1024, x (ix2 i k) * w (ix2 j k)

theorem out_6 (x0 x1 : Vec Ideal S512x1024 .bf16) (x2 x3 x4 x5 : Vec Ideal S512x512 .f32) (i j : Fin 512) :
    (out0_6 x0 x1 x2 x3 x4 x5 (ix2 i j) : EReal) = dot x0 x1 i j * x4 (ix2 i j) * sg (x2 (ix2 i j)) * (1 - sg (x2 (ix2 i j))) := by
  unfold out0_6
  rw [View.canon_unit_zero hz]
  simp only [View.ld_unit_zero (S := S512x512) hz, View.ld_unit_zero (S := S512x1024) hz]
  rw [← sg_tanh, ← ofBits_half]
  unfold dot
  pointwise [k0_pay7, k0_pay5, k0_pay4]

theorem out_7 (x0 x1 : Vec Ideal S512x1024 .bf16) (x2 x3 x4 x5 : Vec Ideal S512x512 .f32) (i j : Fin 512) :
    (out0_7 x0 x1 x2 x3 x4 x5 (ix2 i j) : EReal) = dot x0 x1 i j * x5 (ix2 i j) * sg (x3 (ix2 i j)) * (1 - sg (x3 (ix2 i j))) := by
  unfold out0_7
  rw [View.canon_unit_zero hz]
  simp only [View.ld_unit_zero (S := S512x512) hz, View.ld_unit_zero (S := S512x1024) hz]
  rw [← sg_tanh, ← ofBits_half]
  unfold dot
  pointwise [k0_pay1, k0_pay8, k0_pay9, k0_pay6, k0_pay4]

theorem out_8 (x0 x1 : Vec Ideal S512x1024 .bf16) (x2 x3 x4 x5 : Vec Ideal S512x512 .f32) (i j : Fin 512) :
    (out0_8 x0 x1 x2 x3 x4 x5 (ix2 i j) : EReal) = dot x0 x1 i j * sg (x2 (ix2 i j)) := by
  unfold out0_8 k0_pay10
  rw [View.canon_unit_zero hz]
  simp only [View.ld_unit_zero (S := S512x512) hz, View.ld_unit_zero (S := S512x1024) hz]
  rw [← sg_tanh, ← ofBits_half]
  unfold dot
  pointwise [k0_pay2, k0_pay5, k0_pay4]

theorem out_9 (x0 x1 : Vec Ideal S512x1024 .bf16) (x2 x3 x4 x5 : Vec Ideal S512x512 .f32) (i j : Fin 512) :
    (out0_9 x0 x1 x2 x3 x4 x5 (ix2 i j) : EReal) = dot x0 x1 i j * sg (x3 (ix2 i j)) := by
  unfold out0_9 k0_pay10
  rw [View.canon_unit_zero hz]
  simp only [View.ld_unit_zero (S := S512x512) hz, View.ld_unit_zero (S := S512x1024) hz]
  rw [← sg_tanh, ← ofBits_half]
  unfold dot
  pointwise [k0_pay3, k0_pay6, k0_pay4]

theorem places : ∀ t : Fin cfg0.N, win0_0.index t = ![(grid0.coords t 0).val, 0]
    ∧ win0_1.index t = ![(grid0.coords t 1).val, 0]
    ∧ win0_2.index t = ![(grid0.coords t 0).val, (grid0.coords t 1).val + 5]
    ∧ win0_3.index t = ![(grid0.coords t 0).val, (grid0.coords t 1).val + 7]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val]
    ∧ win0_8.index t = ![(grid0.coords t 0).val, (grid0.coords t 1).val]
    ∧ win0_9.index t = ![(grid0.coords t 0).val, (grid0.coords t 1).val] := by
  decide +kernel

abbrev argD (c : Dev nD) : FVec Ideal S4096x1024 .f32 := m ((c.tc : Thread nD τ).loc main_arg0)
abbrev argW (c : Dev nD) : FVec Ideal S1024x1024 .f32 := m ((c.tc : Thread nD τ).loc main_arg1)
abbrev argP (c : Dev nD) : FVec Ideal S4096x4608 .f32 := m ((c.tc : Thread nD τ).loc main_arg2)
abbrev argY (c : Dev nD) : FVec Ideal S4096x1024 .f32 := m ((c.tc : Thread nD τ).loc main_arg3)
abbrev argZ (c : Dev nD) : FVec Ideal S4096x1024 .f32 := m ((c.tc : Thread nD τ).loc main_arg4)

/-- The gate's column of the projection. -/
def col (o : ℕ) (h : o + 1024 ≤ 4608) (j : Fin 1024) : Fin 4608 := ⟨o + j.val, by omega⟩

/-- The gradient of a gate, from the branch it gates. -/
def byGate (d : S4096x1024.Idx → EReal) (w : S1024x1024.Idx → EReal) (p : S4096x4608.Idx → EReal) (y : S4096x1024.Idx → EReal) (o : ℕ) (h : o + 1024 ≤ 4608)
    (i : Fin 4096) (j : Fin 1024) : EReal :=
  dot d w i j * y (ix2 i j) * sg (p (ix2 i (col o h j))) * (1 - sg (p (ix2 i (col o h j))))

/-- The gradient of a branch, from its gate. -/
def bySide (d : S4096x1024.Idx → EReal) (w : S1024x1024.Idx → EReal) (p : S4096x4608.Idx → EReal) (o : ℕ) (h : o + 1024 ≤ 4608) (i : Fin 4096) (j : Fin 1024) : EReal :=
  dot d w i j * sg (p (ix2 i (col o h j)))

theorem result6 (c : Dev nD) : (dats m 0 c).arrAt 6 cfg0.N = (fun j => byGate (argD m c) (argW m c) (argP m c) (argY m c) 2560 (by decide) (j 0) (j 1) : FVec Ideal S4096x1024 .bf16) := by
  refine (dats m 0 c).arrAt_eq_of_covers 6 _ (by decide +kernel) fun t hf y => ?_
  blk_simp
  rw [after0_6]
  idx_vars y
  refine (out_6 _ _ _ _ _ _ _ _).trans ?_
  unfold byGate dot col
  refine mul_terms (mul_terms (mul_terms ?_ ?_) (congrArg sg ?_)) (congrArg (fun z => 1 - sg z) ?_)
  · exact sum_terms fun k => mul_terms (by blk_ext [iblk, V, places t]) (by blk_ext [iblk, V, places t])
  all_goals blk_ext [iblk, V, places t]

theorem result7 (c : Dev nD) : (dats m 0 c).arrAt 7 cfg0.N = (fun j => byGate (argD m c) (argW m c) (argP m c) (argZ m c) 3584 (by decide) (j 0) (j 1) : FVec Ideal S4096x1024 .bf16) := by
  refine (dats m 0 c).arrAt_eq_of_covers 7 _ (by decide +kernel) fun t hf y => ?_
  blk_simp
  rw [after0_7]
  idx_vars y
  refine (out_7 _ _ _ _ _ _ _ _).trans ?_
  unfold byGate dot col
  refine mul_terms (mul_terms (mul_terms ?_ ?_) (congrArg sg ?_)) (congrArg (fun z => 1 - sg z) ?_)
  · exact sum_terms fun k => mul_terms (by blk_ext [iblk, V, places t]) (by blk_ext [iblk, V, places t])
  all_goals blk_ext [iblk, V, places t]

theorem result8 (c : Dev nD) : (dats m 0 c).arrAt 8 cfg0.N = (fun j => bySide (argD m c) (argW m c) (argP m c) 2560 (by decide) (j 0) (j 1) : FVec Ideal S4096x1024 .bf16) := by
  refine (dats m 0 c).arrAt_eq_of_covers 8 _ (by decide +kernel) fun t hf y => ?_
  blk_simp
  rw [after0_8]
  idx_vars y
  refine (out_8 _ _ _ _ _ _ _ _).trans ?_
  unfold bySide dot col
  refine mul_terms ?_ (congrArg sg ?_)
  · exact sum_terms fun k => mul_terms (by blk_ext [iblk, V, places t]) (by blk_ext [iblk, V, places t])
  all_goals blk_ext [iblk, V, places t]

theorem result9 (c : Dev nD) : (dats m 0 c).arrAt 9 cfg0.N = (fun j => bySide (argD m c) (argW m c) (argP m c) 3584 (by decide) (j 0) (j 1) : FVec Ideal S4096x1024 .bf16) := by
  refine (dats m 0 c).arrAt_eq_of_covers 9 _ (by decide +kernel) fun t hf y => ?_
  blk_simp
  rw [after0_9]
  idx_vars y
  refine (out_9 _ _ _ _ _ _ _ _).trans ?_
  unfold bySide dot col
  refine mul_terms ?_ (congrArg sg ?_)
  · exact sum_terms fun k => mul_terms (by blk_ext [iblk, V, places t]) (by blk_ext [iblk, V, places t])
  all_goals blk_ext [iblk, V, places t]

/-- The call's four results, and its arguments unchanged. -/
theorem values : θ_run defs (onTc (τ := τ) (main (F := Ideal))) ⟨m, fun _ => 0, ρ⟩ fun r => ∀ c : Dev nD,
      r.2.mem ((c.tc : Thread nD τ).loc main_v2_0) = (fun j => byGate (argD m c) (argW m c) (argP m c) (argY m c) 2560 (by decide) (j 0) (j 1) : FVec Ideal S4096x1024 .bf16)
      ∧ r.2.mem ((c.tc : Thread nD τ).loc main_v2_1) = (fun j => byGate (argD m c) (argW m c) (argP m c) (argZ m c) 3584 (by decide) (j 0) (j 1) : FVec Ideal S4096x1024 .bf16)
      ∧ r.2.mem ((c.tc : Thread nD τ).loc main_v2_2) = (fun j => bySide (argD m c) (argW m c) (argP m c) 2560 (by decide) (j 0) (j 1) : FVec Ideal S4096x1024 .bf16)
      ∧ r.2.mem ((c.tc : Thread nD τ).loc main_v2_3) = (fun j => bySide (argD m c) (argW m c) (argP m c) 3584 (by decide) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result6 m c), (h c).2.1.trans (result7 m c), (h c).2.2.1.trans (result8 m c), (h c).2.2.2.1.trans (result9 m c), (h c).2.2.2.2⟩)
    (Cert.Kernel14Ideal.Value.run_blocks m ρ)

/-- The reference's four results, and its arguments unchanged. -/
theorem reference (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ fun r =>
      ∀ c : Dev Cert.Reference14Ideal.nD,
      r.2.mem ((c.tc : Thread Cert.Reference14Ideal.nD Cert.Reference14Ideal.τ).loc Cert.Reference14Ideal.main_v31) = (fun j => byGate (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) 2560 (by decide) (j 0) (j 1) : FVec Ideal Cert.Reference14Ideal.S4096x1024 .bf16)
      ∧ r.2.mem ((c.tc : Thread Cert.Reference14Ideal.nD Cert.Reference14Ideal.τ).loc Cert.Reference14Ideal.main_v32) = (fun j => byGate (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg4)) 3584 (by decide) (j 0) (j 1) : FVec Ideal Cert.Reference14Ideal.S4096x1024 .bf16)
      ∧ r.2.mem ((c.tc : Thread Cert.Reference14Ideal.nD Cert.Reference14Ideal.τ).loc Cert.Reference14Ideal.main_v33) = (fun j => bySide (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) 2560 (by decide) (j 0) (j 1) : FVec Ideal Cert.Reference14Ideal.S4096x1024 .bf16)
      ∧ r.2.mem ((c.tc : Thread Cert.Reference14Ideal.nD Cert.Reference14Ideal.τ).loc Cert.Reference14Ideal.main_v34) = (fun j => bySide (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) 3584 (by decide) (j 0) (j 1) : FVec Ideal Cert.Reference14Ideal.S4096x1024 .bf16)
      ∧ r.2.mem ((c.tc : Thread Cert.Reference14Ideal.nD Cert.Reference14Ideal.τ).loc Cert.Reference14Ideal.main_arg0) = (m ((c.tc : Thread Cert.Reference14Ideal.nD Cert.Reference14Ideal.τ).loc Cert.Reference14Ideal.main_arg0))
      ∧ r.2.mem ((c.tc : Thread Cert.Reference14Ideal.nD Cert.Reference14Ideal.τ).loc Cert.Reference14Ideal.main_arg1) = (m ((c.tc : Thread Cert.Reference14Ideal.nD Cert.Reference14Ideal.τ).loc Cert.Reference14Ideal.main_arg1))
      ∧ r.2.mem ((c.tc : Thread Cert.Reference14Ideal.nD Cert.Reference14Ideal.τ).loc Cert.Reference14Ideal.main_arg2) = (m ((c.tc : Thread Cert.Reference14Ideal.nD Cert.Reference14Ideal.τ).loc Cert.Reference14Ideal.main_arg2))
      ∧ r.2.mem ((c.tc : Thread Cert.Reference14Ideal.nD Cert.Reference14Ideal.τ).loc Cert.Reference14Ideal.main_arg3) = (m ((c.tc : Thread Cert.Reference14Ideal.nD Cert.Reference14Ideal.τ).loc Cert.Reference14Ideal.main_arg3))
      ∧ r.2.mem ((c.tc : Thread Cert.Reference14Ideal.nD Cert.Reference14Ideal.τ).loc Cert.Reference14Ideal.main_arg4) = (m ((c.tc : Thread Cert.Reference14Ideal.nD Cert.Reference14Ideal.τ).loc Cert.Reference14Ideal.main_arg4)) :=
  (θ_run _ _ _).mono (fun _ h c => ⟨(h c).1.trans (funext fun j => by
      clear h
      idx_vars j
      unfold byGate dot sg
      pointwise []
      (simp only [mul_assoc]; rfl)), (h c).2.1.trans (funext fun j => by
      clear h
      idx_vars j
      unfold byGate dot sg
      pointwise []
      (simp only [mul_assoc]; rfl)), (h c).2.2.1.trans (funext fun j => by
      clear h
      idx_vars j
      unfold bySide dot sg
      pointwise []
      exact mul_comm _ _), (h c).2.2.2.1.trans (funext fun j => by
      clear h
      idx_vars j
      unfold bySide dot sg
      pointwise []
      exact mul_comm _ _), (h c).2.2.2.2⟩)
    (Cert.Reference14Ideal.Value.run m ρ)

end Cert.MergeBwd

end
-- ==== Proof.InProjFrame.lean ====
/- The input projection's printed kernel at any float instance: it ends, leaves its arguments as they were and its counters at zero. Nothing is
   said of its two results. -/
module

public import proofs.«01_k».proof.Proof.Gen.Kernel15.Frame
public import proofs.«01_k».proof.Proof.Gen.Kernel15.Skeleton
public import Idealize.ShloMosaic.Lib.Claim
public import Idealize.ShloMosaic.Lib.Pipeline.Frame

@[expose] public section

set_option maxRecDepth 16384

noncomputable section

namespace Cert.InProj.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15 Cert.Kernel15.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body keeps its inputs' blocks, whatever its outputs hold. -/
theorem runs (c : Dev nD) (i : grid0.Coords)
    (a2 : Memref sig .tc .vmem S512x1024 .f32) (h2 : a2.IsWhole) (a3 : Memref sig .tc .vmem S1x1024 .f32) (h3 : a3.IsWhole)
    (a4 : Memref sig .tc .vmem S1024x1536 .bf16) (h4 : a4.IsWhole) (a5 : Memref sig .tc .vmem S512x1536 .f32) (h5 : a5.IsWhole)
    (a6 : Memref sig .tc .vmem S512x1024 .bf16) (h6 : a6.IsWhole)
    (x0 : Vec F S512x1024 .f32) (x1 : Vec F S1x1024 .f32) (x2 : Vec F S1024x1536 .bf16) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d)) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  by_cases hc : k0_cond1 i = 1#1
  all_goals
    iintro ⟨⟨%f0, %hf0, H0⟩, ⟨%f1, %hf1, H1⟩, ⟨%f2, %hf2, H2⟩, ⟨%d3, %f3, -, H3⟩, ⟨%d4, %f4, -, H4⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; swap; · iexact H0
      ipureintro; exact h2.read_unread _
    isplitl [H1]
    · iexists _; isplitr; swap; · iexact H1
      ipureintro; exact h3.read_unread _
    isplitl [H2]
    · iexists _; isplitr; swap; · iexact H2
      ipureintro; exact h4.read_unread _
    isplitl [H3]
    · iexists _, _; isplitr; swap; · iexact H3
      ipureintro; rfl
    iexists _, _; isplitr; swap; · iexact H4
    ipureintro; rfl

/-- The windows whose contents are not named: the two outputs. -/
def open2 : Fin 5 → Bool := fun w => match w with
  | 3 => true
  | 4 => true
  | _ => false

/-- The pipeline's data: the arrays as launched, the inputs' blocks in place after the body. -/
def adat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem adat_A (c : Dev nD) (w : Fin cfg0.W) : (adat m 0 c).A w = V m c (Pipeline.arrRef spec0 w) := by dsimp only [adat]

theorem stays0 (c : Dev nD) (t : Fin cfg0.N) : (adat m 0 c).after 0 t = iblk m c 0 t := by dsimp only [adat]
theorem stays1 (c : Dev nD) (t : Fin cfg0.N) : (adat m 0 c).after 1 t = iblk m c 1 t := by dsimp only [adat]
theorem stays2 (c : Dev nD) (t : Fin cfg0.N) : (adat m 0 c).after 2 t = iblk m c 2 t := by dsimp only [adat]

theorem holds0 (c : Dev nD) (t : Fin cfg0.N) (d) : (adat m 0 c).before 0 t d = iblk m c 0 t := before0_0_of m (adat m 0 c) (adat_A m c 0) (stays0 m c) t d
theorem holds1 (c : Dev nD) (t : Fin cfg0.N) (d) : (adat m 0 c).before 1 t d = iblk m c 1 t := before0_1_of m (adat m 0 c) (adat_A m c 1) (stays1 m c) t d
theorem holds2 (c : Dev nD) (t : Fin cfg0.N) (d) : (adat m 0 c).before 2 t d = iblk m c 2 t := before0_2_of m (adat m 0 c) (adat_A m c 2) (stays2 m c) t d

/-- What the body is called with at a point. -/
def called (c : Dev nD) (t : Fin cfg0.N) : sProp 𝕄 :=
  iprop((adat m 0 c).Φ t.castSucc ∗ (adat m 0 c).owesAt () t.castSucc
    ∗ (∃ d, owns (c : Thread nD τ) (st0_0 t) fullShare ((adat m 0 c).before 0 t d))
    ∗ (∃ d, owns (c : Thread nD τ) (st0_1 t) fullShare ((adat m 0 c).before 1 t d))
    ∗ (∃ d, owns (c : Thread nD τ) (st0_2 t) fullShare ((adat m 0 c).before 2 t d))
    ∗ (∃ d, owns (c : Thread nD τ) (st0_3 t) fullShare d)
    ∗ (∃ d, owns (c : Thread nD τ) (st0_4 t) fullShare d))

/-- What it gives back. -/
def handed (c : Dev nD) (t : Fin cfg0.N) : sProp 𝕄 :=
  iprop((adat m 0 c).Φ t.succ ∗ (adat m 0 c).owesAt () t.succ
    ∗ owns (c : Thread nD τ) (st0_0 t) fullShare ((adat m 0 c).after 0 t)
    ∗ owns (c : Thread nD τ) (st0_1 t) fullShare ((adat m 0 c).after 1 t)
    ∗ owns (c : Thread nD τ) (st0_2 t) fullShare ((adat m 0 c).after 2 t)
    ∗ (∃ d, owns (c : Thread nD τ) (st0_3 t) fullShare d)
    ∗ (∃ d, owns (c : Thread nD τ) (st0_4 t) fullShare d))

set_option maxHeartbeats 800000 in
/-- The body at any point. -/
theorem sound (c : Dev nD) (t : Fin cfg0.N) :
    called m c t ⊢ wp frame (wpE (defs₀ (F := F)) Variants.none c none) Set.univ (bodyAt0 t) (fun _ => handed m c t) := by
  unfold called handed bodyAt0
  simp only [holds0, holds1, holds2]
  rw [show (adat m 0 c).Φ t.succ = (adat m 0 c).Φ t.castSucc from rfl,
    show (adat m 0 c).owesAt () t.succ = (adat m 0 c).owesAt () t.castSucc from rfl, stays0, stays1, stays2]
  iintro ⟨HΦ, Ho, ⟨%d0, H0⟩, ⟨%d1, H1⟩, ⟨%d2, H2⟩, H3, H4⟩
  iapply (runs c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row_of_table (t : Fin cfg0.N) : defs₀ (F := F) .tc cfg0.body (cfg0.bodyArgs t (cfg0.slots t)) = bodyAt0 t := by
  unfold defs₀; rw [Defs.onTc_tc]

theorem owed_body (c : Dev nD) : BodyObligation (adat m 0 c) (defs₀ (F := F)) Variants.none () Set.univ open2 := fun t => by
  rw [bigSep_W0, bigSep_W0, row_of_table]
  exact triple_restated (sound m c t) rfl .rfl fun _ => .rfl

set_option backward.isDefEq.respectTransparency.types false in
/-- The launch. -/
theorem launched : θ_run defs (onTc (τ := τ) (main (F := F))) (s₀ m ρ)
    (fun r => Pipeline.RDat.FramePost cfg0 (fun c => (adat m 0 c).toRForget open2) (V m) r ∧ r.2.sem = fun _ => 0) :=
  Pipeline.θ_run_frame_forget (Q' := _) cfgs (adat m) (0 : Fin 1) launch0 defs₀ Variants.none open2 m ρ main
    (hbody := fun c => (owed_body m c).loose) (hshare := fun c => (adat m 0 c).share_full fun _ => rfl)
    (howed := fun _ _ => rfl) (V := V m) (hmain := hmain m Variants.none) (hA := adat_A m) (hΦ := fun _ _ => rfl)

/-- The frame. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 0 rfl).trans ((adat_A m c 0).trans (V_main_arg0 m c)),
      (h.1.arr_in c 1 rfl).trans ((adat_A m c 1).trans (V_main_arg1 m c)),
      ((h.1 c).2 main_arg2 (Pipeline.mem_restRefs_of main_arg2 (by decide) (by decide))).trans (V_main_arg2 m c)⟩, h.2⟩) (launched m ρ)

end Cert.InProj.Any

end
-- ==== Proof.InProjRun.lean ====
/- The input projection's run: the normalised rows are stored at the first point of a block of rows and read at the two that follow, so the block
   holds them at every point, and the product of every point is the product of them. -/
module

public import proofs.«01_k».proof.Proof.Gen.Kernel15Ideal.Frame
public import proofs.«01_k».proof.Proof.Gen.Kernel15Ideal.Skeleton
public import Idealize.ShloMosaic.Lib.Claim
public import Idealize.ShloMosaic.Lib.Pipeline.Frame
public import Idealize.ShloMosaic.Lib.Pipeline.TableIdle
public import Idealize.ShloMosaic.Lib.Pipeline.ValueKit
public import Idealize.ShloMosaic.Lib.VecWindow

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal Cert.Kernel15Ideal.Gen

local notation "𝕄" => MT nD τ sig Unit (Elt Ideal) ℕ (UR sig nD τ) ℕ

variable (m : (ℓ : Loc nD τ sig) → Buf (Elt Ideal) ℓ) (ρ : Dev nD → PrngReg)

section
variable (c : Dev nD) (i : grid0.Coords)
    (a2 : Memref sig .tc .vmem S512x1024 .f32) (h2 : a2.IsWhole) (a3 : Memref sig .tc .vmem S1x1024 .f32) (h3 : a3.IsWhole)
    (a4 : Memref sig .tc .vmem S1024x1536 .bf16) (h4 : a4.IsWhole) (a5 : Memref sig .tc .vmem S512x1536 .f32) (h5 : a5.IsWhole)
    (a6 : Memref sig .tc .vmem S512x1024 .bf16) (h6 : a6.IsWhole)
    (x0 : Vec Ideal S512x1024 .f32) (x1 : Vec Ideal S1x1024 .f32) (x2 : Vec Ideal S1024x1536 .bf16) (E : Set ℕ) (K : PUnit → sProp 𝕄)

set_option maxHeartbeats 1000000 in
/-- The first point of a block of rows: the rows are normalised and multiplied. -/
theorem first (hc : k0_cond1 i = 1#1) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay2 (k0_pay1 x0 x1) x2) ∗ owns (c : Thread nD τ) a6 fullShare (k0_pay1 x0 x1)) -∗ K ⟨⟩))
      ⊢ wp frame (wpE (defs₀ (F := Ideal)) Variants.none c none) E (cc0_in_proj i a2 h2 a3 h3 a4 h4 a5 h5 a6 h6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; swap; · iexact H0
    ipureintro; exact h2.read_unread _
  isplitl [H1]
  · iexists _; isplitr; swap; · iexact H1
    ipureintro; exact h3.read_unread _
  isplitl [H2]
  · iexists _; isplitr; swap; · iexact H2
    ipureintro; exact h4.read_unread _
  isplitl [H3]
  · iexists _; isplitr; swap; · iexact H3
    ipureintro
    rw [View.read_writes_full]
    refine congrArg₂ (k0_pay2 (F := Ideal)) ((View.readCov_full a6.view _ _ _ []).trans ?_) ?_
    · rw [View.readAt_full, View.readAt_full, h2.read_unread, h3.read_unread]
    · rw [View.readAt_full, h4.read_unread]
  iexists _; isplitr; swap; · iexact H4
  ipureintro
  refine (View.read_writes_full a6.view f4 inb_S512x1024_S512x1024_0_0 _ []).trans ?_
  rw [View.readAt_full, View.readAt_full, h2.read_unread, h3.read_unread]

set_option maxHeartbeats 1000000 in
/-- A later point: the rows stay, and are multiplied by the next columns. -/
theorem later (x4 : Vec Ideal S512x1024 .bf16) (hc : ¬ k0_cond1 i = 1#1) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare x4
        ∗ (iprop(owns (c : Thread nD τ) a2 fullShare x0 ∗ owns (c : Thread nD τ) a3 fullShare x1 ∗ owns (c : Thread nD τ) a4 fullShare x2
            ∗ owns (c : Thread nD τ) a5 fullShare (k0_pay2 x4 x2) ∗ owns (c : Thread nD τ) a6 fullShare x4) -∗ K ⟨⟩))
      ⊢ wp frame (wpE (defs₀ (F := Ideal)) Variants.none c none) E (cc0_in_proj i a2 h2 a3 h3 a4 h4 a5 h5 a6 h6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := h2.eq_unread hf0; obtain rfl := h3.eq_unread hf1; obtain rfl := h4.eq_unread hf2; obtain rfl := h6.eq_unread hf4
  sl_exec (disch := first | sl_exact hc)
  sl_step
  iapply Hk
  isplitl [H0]
  · iexists _; isplitr; swap; · iexact H0
    ipureintro; exact h2.read_unread _
  isplitl [H1]
  · iexists _; isplitr; swap; · iexact H1
    ipureintro; exact h3.read_unread _
  isplitl [H2]
  · iexists _; isplitr; swap; · iexact H2
    ipureintro; exact h4.read_unread _
  isplitl [H3]
  · iexists _; isplitr; swap; · iexact H3
    ipureintro
    rw [View.read_writes_full, View.readAt_full, View.readAt_full, h6.read_unread, h4.read_unread]
  iexists _; isplitr; swap; · iexact H4
  ipureintro; exact h6.read_unread _
end

/-- The pipeline's data: the arrays as launched; after the body the inputs' blocks in place, the normalised rows and their product. -/
def pdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (F := Ideal) (k0_pay1 (iblk m c 0 t) (iblk m c 1 t)) (iblk m c 2 t)
    | ⟨4, _⟩ => k0_pay1 (F := Ideal) (iblk m c 0 t) (iblk m c 1 t)
  Φ _ := Pipeline.ΦA spec0 c
  q _ := fullShare
  owed _ := 0

theorem pdat_A (c : Dev nD) (w : Fin cfg0.W) : (pdat m 0 c).A w = V m c (Pipeline.arrRef spec0 w) := by dsimp only [pdat]

theorem left0 (c : Dev nD) (t : Fin cfg0.N) : (pdat m 0 c).after 0 t = iblk m c 0 t := by dsimp only [pdat]
theorem left1 (c : Dev nD) (t : Fin cfg0.N) : (pdat m 0 c).after 1 t = iblk m c 1 t := by dsimp only [pdat]
theorem left2 (c : Dev nD) (t : Fin cfg0.N) : (pdat m 0 c).after 2 t = iblk m c 2 t := by dsimp only [pdat]
theorem left3 (c : Dev nD) (t : Fin cfg0.N) :
    (pdat m 0 c).after 3 t = k0_pay2 (F := Ideal) (k0_pay1 (iblk m c 0 t) (iblk m c 1 t)) (iblk m c 2 t) := by dsimp only [pdat]
theorem left4 (c : Dev nD) (t : Fin cfg0.N) : (pdat m 0 c).after 4 t = k0_pay1 (F := Ideal) (iblk m c 0 t) (iblk m c 1 t) := by dsimp only [pdat]

theorem found0 (c : Dev nD) (t : Fin cfg0.N) (d) : (pdat m 0 c).before 0 t d = iblk m c 0 t := before0_0_of m (pdat m 0 c) (pdat_A m c 0) (left0 m c) t d
theorem found1 (c : Dev nD) (t : Fin cfg0.N) (d) : (pdat m 0 c).before 1 t d = iblk m c 1 t := before0_1_of m (pdat m 0 c) (pdat_A m c 1) (left1 m c) t d
theorem found2 (c : Dev nD) (t : Fin cfg0.N) (d) : (pdat m 0 c).before 2 t d = iblk m c 2 t := before0_2_of m (pdat m 0 c) (pdat_A m c 2) (left2 m c) t d

/-- The points where the rows are normalised. -/
theorem starts : ∀ t : Fin cfg0.N, k0_cond1 (grid0.coords t) = 1#1 ↔ t.val % 3 = 0 :=
  (by decide +kernel : ∀ t : Fin grid0.N, k0_cond1 (grid0.coords t) = 1#1 ↔ t.val % 3 = 0)

theorem rests : ∀ t : Fin cfg0.N, cfg0.idle 4 (cfg0.grid.coords t) = !decide (t.val % 3 = 0) :=
  (by decide +kernel : ∀ t : Fin grid0.N, idle0 4 (grid0.coords t) = !decide (t.val % 3 = 0))

/-- The windows' blocks by the grid point. -/
theorem places : ∀ t : Fin cfg0.N, win0_0.index t = ![t.val / 3, 0] ∧ win0_1.index t = ![0, 0] ∧ win0_2.index t = ![0, t.val % 3]
    ∧ win0_3.index t = ![t.val / 3, t.val % 3] ∧ win0_4.index t = ![t.val / 3, 0] := by
  decide +kernel

/-- The rows' buffer is fresh at the points where they are normalised. -/
theorem fresh4 : ∀ n, n ≤ cfg0.N → cfg0.fresh 4 n = decide (n % 3 = 0) :=
  cfg0.fresh_tab 4 (fun n => decide (n % 3 = 0)) rfl fun t => by
    have hf : (cfg0.win 4).flush t = decide (t.val % 3 = 2) := by
      rw [Bool.eq_iff_iff, decide_eq_true_iff]; exact flush0_4 t
    rw [hf, rests t]
    have := Nat.mod_lt t.val (show 0 < 3 by omega)
    by_cases h2 : t.val % 3 = 2
    · simp [h2]; omega
    · by_cases h0 : t.val % 3 = 0 <;> simp [h0, h2] <;> omega

theorem same_block (c : Dev nD) (t : Fin cfg0.N) (ht : ¬ t.val % 3 = 0) :
    (pdat m 0 c).after 4 t = (pdat m 0 c).after 4 ⟨t.val - 1, by omega⟩ := by
  have e : win0_0.index t = win0_0.index (⟨t.val - 1, by omega⟩ : Fin cfg0.N) := by
    rw [(places t).1, (places _).1]
    show ![t.val / 3, 0] = ![(t.val - 1) / 3, 0]
    rw [show (t.val - 1) / 3 = t.val / 3 by omega]
  have e1 : win0_1.index t = win0_1.index (⟨t.val - 1, by omega⟩ : Fin cfg0.N) := by
    rw [(places t).2.1, (places _).2.1]
  have b0 : iblk m c 0 t = iblk m c 0 ⟨t.val - 1, by omega⟩ := by
    funext y; blk_ext [iblk, V, e]
  have b1 : iblk m c 1 t = iblk m c 1 ⟨t.val - 1, by omega⟩ := by
    funext y; blk_ext [iblk, V, e1]
  rw [left4, left4, b0, b1]

/-- Where the rows are not normalised, the buffer holds them already. -/
theorem found4 (c : Dev nD) (t : Fin cfg0.N) (ht : ¬ t.val % 3 = 0) (d) : (pdat m 0 c).before 4 t d = (pdat m 0 c).after 4 t := by
  rw [(pdat m 0 c).before_out_traj 4 rfl (fun _ _ => rfl) (fun s _ hi hf => same_block m c s (by
      rw [fresh4 _ s.isLt.le, decide_eq_false_iff_not] at hf; exact hf)) t.val t rfl d,
    fresh4 _ t.isLt.le, decide_eq_false ht, if_neg Bool.false_ne_true]
  exact (same_block m c t ht).symm

/-- The rows' buffer as the pipeline takes it back. -/
theorem kept4 (c : Dev nD) (t : Fin cfg0.N) :
    owns (c : Thread nD τ) (st0_4 t) fullShare ((pdat m 0 c).after 4 t) ⊢ ((pdat m 0 c).leavesExact 4 t : sProp 𝕄) := by
  unfold Dat.leavesExact
  rw [rests t]
  by_cases h : t.val % 3 = 0
  · rw [decide_eq_true h]; exact .rfl
  · rw [decide_eq_false h]
    cases (cfg0.win 4).flush t
    · show _ ⊢ iprop(∃ d, owns (c : Thread nD τ) (st0_4 t) fullShare ((pdat m 0 c).before 4 t d))
      simp only [found4 m c t h]
      iintro H; iexists (pdat m 0 c).after 4 t; iexact H
    · exact .rfl

/-- What the body is called with at a point, the windows one by one. -/
def given (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d)))

/-- What it returns. -/
def returned (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ (pdat m 0 c).leavesExact 4 t)

set_option maxHeartbeats 800000 in
/-- The body at any point. -/
theorem body_sound (c : Dev nD) (t : Fin cfg0.N) :
    given m c t ⊢ wp frame (wpE (defs₀ (F := Ideal)) Variants.none c none) Set.univ (bodyAt0 t) (fun _ => returned m c t) := by
  unfold given returned bodyAt0
  simp only [found0, found1, found2]
  rw [show (pdat m 0 c).Φ t.succ = (pdat m 0 c).Φ t.castSucc from rfl,
    show (pdat m 0 c).owesAt () t.succ = (pdat m 0 c).owesAt () t.castSucc from rfl, left0, left1, left2, left3]
  by_cases h : t.val % 3 = 0
  · iintro ⟨HΦ, Ho, ⟨%d0, H0⟩, ⟨%d1, H1⟩, ⟨%d2, H2⟩, ⟨%d3, H3⟩, ⟨%d4, H4⟩⟩
    iapply (first c (grid0.coords t) _ _ _ _ _ _ _ _ _ _ (iblk m c 0 t) (iblk m c 1 t) (iblk m c 2 t) Set.univ _ ((starts t).mpr h))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (kept4 m c t)
    rw [left4]
    iexact H4
  · simp only [found4 m c t h, left4]
    iintro ⟨HΦ, Ho, ⟨%d0, H0⟩, ⟨%d1, H1⟩, ⟨%d2, H2⟩, ⟨%d3, H3⟩, ⟨%d4, H4⟩⟩
    iapply (later c (grid0.coords t) _ _ _ _ _ _ _ _ _ _ (iblk m c 0 t) (iblk m c 1 t) (iblk m c 2 t) Set.univ _
      (k0_pay1 (iblk m c 0 t) (iblk m c 1 t)) (fun e => h ((starts t).mp e)))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (kept4 m c t)
    rw [left4]
    iexact H4

theorem table_row (t : Fin cfg0.N) : defs₀ (F := Ideal) .tc cfg0.body (cfg0.bodyArgs t (cfg0.slots t)) = bodyAt0 t := by
  unfold defs₀; rw [Defs.onTc_tc]

theorem obliged (c : Dev nD) : BodyObligation (pdat m 0 c) (defs₀ (F := Ideal)) Variants.none () Set.univ := fun t => by
  rw [bigSep_W0, bigSep_W0, table_row]
  exact triple_restated (body_sound m c t) rfl .rfl fun _ => .rfl

set_option backward.isDefEq.respectTransparency.types false in
/-- The launch: every array at what the pipeline's data say, and every counter at zero. -/
theorem launched : θ_run defs (onTc (τ := τ) (main (F := Ideal))) (s₀ m ρ)
    (fun r => (Pipeline.FramePost cfgs (pdat m) 0 (V m)) r ∧ r.2.sem = fun _ => 0) :=
  Pipeline.θ_run_frame (Q' := _) cfgs (pdat m) (0 : Fin 1) launch0 defs₀ Variants.none m ρ main
    (hbody := fun c => (obliged m c).loose) (hshare := fun c => (pdat m 0 c).share_full fun _ => rfl)
    (howed := fun _ _ => rfl) (V := V m) (hmain := hmain m Variants.none) (hA := pdat_A m) (hΦ := fun _ _ => rfl)

theorem launched_post : θ_run defs (onTc (τ := τ) (main (F := Ideal))) (s₀ m ρ) (Pipeline.FramePost cfgs (pdat m) 0 (V m)) :=
  (θ_run defs _ _).mono (fun _ h => h.1) (launched m ρ)

/-- The kernel ends, leaves its arguments as they were and its counters at zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (pdat m) (pdat_A m) (launched_post m ρ)) ((θ_run defs _ _).mono (fun _ h => h.2) (launched m ρ))

end Cert.InProj

end
-- ==== Proof.InProj.lean ====
/- The input projection: a sequence of rows normalised by the root of their mean square and scaled, and the product of that with the weights. -/
module

public import proofs.«01_k».proof.Proof.InProjRun
public import proofs.«01_k».proof.Proof.InProjFrame
public import proofs.«01_k».proof.Proof.Norm
public import proofs.«01_k».proof.Proof.Gen.Reference15Ideal.Run
public import Idealize.ShloMosaic.Lib.Pointwise

@[expose] public section

set_option maxRecDepth 16384

noncomputable section

namespace Cert.InProj

open Idealize.ShloMosaic Idealize.ShloMosaic.TcCoe Idealize.SL.Sem
open Cert.Kernel15Ideal Cert.Kernel15Ideal.Gen

variable (m : (ℓ : Loc nD τ sig) → Buf (Elt Ideal) ℓ) (ρ : Dev nD → PrngReg)

abbrev argX (c : Dev nD) : FVec Ideal S4096x1024 .f32 := m ((c.tc : Thread nD τ).loc main_arg0)
abbrev argG (c : Dev nD) : FVec Ideal S1x1024 .f32 := m ((c.tc : Thread nD τ).loc main_arg1)
abbrev argW (c : Dev nD) : FVec Ideal S1024x4608 .f32 := m ((c.tc : Thread nD τ).loc main_arg2)

/-- The normalised and scaled rows, entry by entry. -/
def row (x : S4096x1024.Idx → EReal) (g : S1x1024.Idx → EReal) (i : Fin 4096) (j : Fin 1024) : EReal :=
  x (ix2 i j) * Cert.Ffn.root (fun k => x (ix2 i k)) * g (ix2 0 j)

/-- Their product with the weights. -/
def proj (x : S4096x1024.Idx → EReal) (g : S1x1024.Idx → EReal) (w : S1024x4608.Idx → EReal) (i : Fin 4096) (j : Fin 4608) : EReal :=
  ∑ k : Fin 1024, row x g i k * w (ix2 k j)

theorem rows_at (x : FVec Ideal S512x1024 .f32) (g : FVec Ideal S1x1024 .f32) (i : Fin 512) (j : Fin 1024) :
    ((k0_pay1 x g : FVec Ideal S512x1024 .bf16) (ix2 i j) : EReal) = x (ix2 i j) * Cert.Ffn.root (fun k => x (ix2 i k)) * g (ix2 0 j) := by
  unfold Cert.Ffn.root Cert.Ffn.msq
  pointwise [k0_pay1]

theorem prod_at (h : FVec Ideal S512x1024 .bf16) (w : FVec Ideal S1024x1536 .bf16) (i : Fin 512) (j : Fin 1536) :
    ((k0_pay2 h w : FVec Ideal S512x1536 .f32) (ix2 i j) : EReal) = ∑ k : Fin 1024, h (ix2 i k) * w (ix2 k j) := by
  pointwise [k0_pay2]

theorem row_terms {x x' : Fin 1024 → EReal} {g g' a a' : EReal} (h : ∀ k, x k = x' k) (ha : a = a') (e : g = g') :
    a * Cert.Ffn.root x * g = a' * Cert.Ffn.root x' * g' := by
  obtain rfl : x = x' := funext h
  rw [ha, e]

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

/-- The normalised rows, the whole array. -/
theorem result4 (c : Dev nD) : (pdat m 0 c).arrAt 4 cfg0.N = (fun j => row (argX m c) (argG m c) (j 0) (j 1) : FVec Ideal S4096x1024 .bf16) := by
  refine (pdat m 0 c).arrAt_eq_of_covers 4 _ (by decide +kernel) fun t hf y => ?_
  blk_simp
  rw [left4]
  idx_vars y
  rw [rows_at]
  unfold row
  refine row_terms (fun k => ?_) ?_ ?_ <;> blk_ext [iblk, V, places t]

/-- Their product with the weights, the whole array. -/
theorem result3 (c : Dev nD) :
    (pdat m 0 c).arrAt 3 cfg0.N = (fun j => proj (argX m c) (argG m c) (argW m c) (j 0) (j 1) : FVec Ideal S4096x4608 .f32) := by
  refine (pdat m 0 c).arrAt_eq_of_covers 3 _ (by decide +kernel) fun t hf y => ?_
  blk_simp
  rw [left3]
  idx_vars y
  rw [prod_at]
  unfold proj
  refine sum_terms fun k => mul_terms ?_ ?_
  · rw [rows_at]
    unfold row
    refine row_terms (fun k => ?_) ?_ ?_ <;> blk_ext [iblk, V, places t]
  · blk_ext [iblk, V, places t]

/-- The call's two results, and its arguments unchanged. -/
theorem values : θ_run defs (onTc (τ := τ) (main (F := Ideal))) ⟨m, fun _ => 0, ρ⟩ fun r => ∀ c : Dev nD,
      r.2.mem ((c.tc : Thread nD τ).loc main_v1_0) = (fun j => proj (argX m c) (argG m c) (argW m c) (j 0) (j 1) : FVec Ideal S4096x4608 .f32)
      ∧ r.2.mem ((c.tc : Thread nD τ).loc main_v1_1) = (fun j => row (argX m c) (argG m c) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (result3 m c), ((h.1 c).1 4).trans (result4 m c), h.2.1 c⟩)
    (θ_run_and (launched_post m ρ) (quiet m ρ))

open Cert.Reference15Ideal in
/-- The reference's two results, and its arguments unchanged. -/
theorem reference (m : (ℓ : Loc Cert.Reference15Ideal.nD Cert.Reference15Ideal.τ Cert.Reference15Ideal.sig) → Buf (Elt Ideal) ℓ)
    (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ fun r =>
      ∀ c : Dev Cert.Reference15Ideal.nD,
      r.2.mem ((c.tc : Thread Cert.Reference15Ideal.nD Cert.Reference15Ideal.τ).loc Cert.Reference15Ideal.main_v12)
        = (fun j => proj (m ((c.tc : Thread Cert.Reference15Ideal.nD Cert.Reference15Ideal.τ).loc Cert.Reference15Ideal.main_arg0))
          (m ((c.tc : Thread Cert.Reference15Ideal.nD Cert.Reference15Ideal.τ).loc Cert.Reference15Ideal.main_arg1))
          (m ((c.tc : Thread Cert.Reference15Ideal.nD Cert.Reference15Ideal.τ).loc Cert.Reference15Ideal.main_arg2)) (j 0) (j 1)
            : FVec Ideal Cert.Reference15Ideal.S4096x4608 .f32)
      ∧ r.2.mem ((c.tc : Thread Cert.Reference15Ideal.nD Cert.Reference15Ideal.τ).loc Cert.Reference15Ideal.main_v13)
        = (fun j => row (m ((c.tc : Thread Cert.Reference15Ideal.nD Cert.Reference15Ideal.τ).loc Cert.Reference15Ideal.main_arg0))
          (m ((c.tc : Thread Cert.Reference15Ideal.nD Cert.Reference15Ideal.τ).loc Cert.Reference15Ideal.main_arg1)) (j 0) (j 1)
            : FVec Ideal Cert.Reference15Ideal.S4096x1024 .bf16)
      ∧ r.2.mem ((c.tc : Thread Cert.Reference15Ideal.nD Cert.Reference15Ideal.τ).loc Cert.Reference15Ideal.main_arg0)
        = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1)
        = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2)
        = m ((c.tc : Thread Cert.Reference15Ideal.nD Cert.Reference15Ideal.τ).loc Cert.Reference15Ideal.main_arg2) :=
  (θ_run _ _ _).mono (fun _ h c => ⟨(h c).1.trans (funext fun j => by
      idx_vars j
      unfold proj row Cert.Ffn.root Cert.Ffn.msq
      pointwise []), (h c).2.1.trans (funext fun j => by
      idx_vars j
      unfold row Cert.Ffn.root Cert.Ffn.msq
      pointwise []), (h c).2.2⟩) (Cert.Reference15Ideal.Value.run m ρ)

end Cert.InProj

end
-- ==== Proof.BranchMix.lean ====
/- The gated merge of the two branches and the product behind it: the call's six results and the reference's. -/
module

public import proofs.«01_k».proof.Defs
public import proofs.«01_k».proof.Proof.Gen.Kernel16Ideal.Value
public import proofs.«01_k».proof.Proof.Gen.Reference16Ideal.Run
public import proofs.«01_k».proof.Proof.Reals
public import Idealize.ShloMosaic.Lib.Pointwise
public import Idealize.ShloMosaic.Lib.Pipeline.Value
public import Idealize.ShloMosaic.Lib.Pipeline.ValueKit
public import Idealize.ShloMosaic.Lib.Pipeline.RowLoads

@[expose] public section

set_option maxRecDepth 16384

noncomputable section

namespace Cert.BranchMix

open Idealize.ShloMosaic Idealize.ShloMosaic.TcCoe Idealize.SL.Sem
open Idealize.ShloMosaic.Pipeline (Dat Cfg Window)
open Cert.Kernel16Ideal Cert.Kernel16Ideal.Gen
open Cert.Ffn

variable (m : (ℓ : Loc nD τ sig) → Buf (Elt Ideal) ℓ) (ρ : Dev nD → PrngReg)

theorem sum_terms {n : Nat} {f g : Fin n → EReal} (h : ∀ k, f k = g k) : ∑ k, f k = ∑ k, g k := Finset.sum_congr rfl fun k _ => h k

theorem mul_terms {a b a' b' : EReal} (h : a = a') (h' : b = b') : a * b = a' * b' := congrArg₂ _ h h'

theorem add_terms {a b a' b' : EReal} (h : a = a') (h' : b = b') : a + b = a' + b' := congrArg₂ _ h h'

/-- A branch's output: an entry of its product. -/
def dot {a k b : ℕ} (x : (⟨2, ![a, k]⟩ : Shape).Idx → EReal) (w : (⟨2, ![k, b]⟩ : Shape).Idx → EReal) (i : Fin a) (j : Fin b) : EReal :=
  ∑ q, x (ix2 i q) * w (ix2 q j)

/-- The derivative of a gated branch with respect to its gate. -/
def slope (y g : EReal) : EReal := y * sg g * (1 - sg g)

/-- The two gated branches merged. -/
def merged (yp yr gp gr : EReal) : EReal := sg gp * yp + sg gr * yr

section
variable (wp : Vec Ideal S512x256 .bf16) (wr : Vec Ideal S1024x256 .bf16) (wo : Vec Ideal S256x1024 .bf16) (xp : Vec Ideal S512x512 .bf16) (xr : Vec Ideal S512x1024 .bf16)
  (gp gr : Vec Ideal S512x256 .f32) (acc : Vec Ideal S512x1024 .f32) (i : Fin 512) (j : Fin 256) (q : Fin 1024)

theorem at_pay5 : ((k0_pay5 wp xp : FVec Ideal S512x256 .f32) (ix2 i j) : EReal) = dot xp wp i j := by
  unfold dot
  pointwise [k0_pay5, k0_pay2]

theorem at_pay6 : ((k0_pay6 wr xr : FVec Ideal S512x256 .f32) (ix2 i j) : EReal) = dot xr wr i j := by
  unfold dot
  pointwise [k0_pay6, k0_pay3]

theorem at_pay16 : ((k0_pay16 (k0_pay2 wp) xp : FVec Ideal S512x256 .f32) (ix2 i j) : EReal) = dot xp wp i j := at_pay5 wp xp i j

theorem at_pay17 : ((k0_pay17 (k0_pay3 wr) xr : FVec Ideal S512x256 .f32) (ix2 i j) : EReal) = dot xr wr i j := at_pay6 wr xr i j

theorem at_pay7 : ((k0_pay7 gp : FVec Ideal S512x256 .f32) (ix2 i j) : EReal) = sg (gp (ix2 i j)) := by
  rw [← sg_tanh, ← ofBits_half]
  pointwise [k0_pay7]

theorem at_pay8 : ((k0_pay8 gr : FVec Ideal S512x256 .f32) (ix2 i j) : EReal) = sg (gr (ix2 i j)) := at_pay7 gr i j
theorem at_pay18 : ((k0_pay18 gp : FVec Ideal S512x256 .f32) (ix2 i j) : EReal) = sg (gp (ix2 i j)) := at_pay7 gp i j
theorem at_pay19 : ((k0_pay19 gr : FVec Ideal S512x256 .f32) (ix2 i j) : EReal) = sg (gr (ix2 i j)) := at_pay7 gr i j

theorem at_pay10 : ((k0_pay10 (k0_pay7 gp) (k0_pay9 wp xp gp) (Scalar.ofBits .f32 0x3F800000#32) : FVec Ideal S512x256 .bf16) (ix2 i j) : EReal) = slope (dot xp wp i j) (gp (ix2 i j)) := by
  unfold slope
  rw [← at_pay5, ← at_pay7]
  pointwise [k0_pay10, k0_pay9]

theorem at_pay11 : ((k0_pay11 (k0_pay6 wr xr) (k0_pay8 gr) : FVec Ideal S512x256 .bf16) (ix2 i j) : EReal) = slope (dot xr wr i j) (gr (ix2 i j)) := by
  unfold slope
  rw [← at_pay6, ← at_pay8]
  pointwise [k0_pay11]

theorem at_pay12 : ((k0_pay12 (k0_pay7 gp) : FVec Ideal S512x256 .bf16) (ix2 i j) : EReal) = sg (gp (ix2 i j)) := at_pay7 gp i j
theorem at_pay13 : ((k0_pay13 (k0_pay8 gr) : FVec Ideal S512x256 .bf16) (ix2 i j) : EReal) = sg (gr (ix2 i j)) := at_pay7 gr i j

theorem at_pay14 : ((k0_pay14 (k0_pay5 wp xp) (k0_pay6 wr xr) (k0_pay7 gp) (k0_pay8 gr) : FVec Ideal S512x256 .bf16) (ix2 i j) : EReal)
    = merged (dot xp wp i j) (dot xr wr i j) (gp (ix2 i j)) (gr (ix2 i j)) := by
  unfold merged
  rw [← at_pay5, ← at_pay6, ← at_pay7, ← at_pay8]
  pointwise [k0_pay14]

theorem at_pay15 : ((k0_pay15 (k0_pay4 wo) (k0_pay5 wp xp) (k0_pay6 wr xr) (k0_pay7 gp) (k0_pay8 gr) acc : FVec Ideal S512x1024 .f32) (ix2 i q) : EReal)
    = acc (ix2 i q) + ∑ k : Fin 256, merged (dot xp wp i k) (dot xr wr i k) (gp (ix2 i k)) (gr (ix2 i k)) * wo (ix2 k q) := by
  simp only [← at_pay14]
  pointwise [k0_pay15, k0_pay4]

theorem at_pay20 : ((k0_pay20 (k0_pay16 (k0_pay2 wp) xp) gp : FVec Ideal S512x256 .bf16) (ix2 i j) : EReal) = slope (dot xp wp i j) (gp (ix2 i j)) := by
  unfold slope
  rw [← at_pay16, ← at_pay18]
  pointwise [k0_pay20]

theorem at_pay21 : ((k0_pay21 (k0_pay17 (k0_pay3 wr) xr) gr : FVec Ideal S512x256 .bf16) (ix2 i j) : EReal) = slope (dot xr wr i j) (gr (ix2 i j)) := by
  unfold slope
  rw [← at_pay17, ← at_pay19]
  pointwise [k0_pay21]

theorem at_pay22 : ((k0_pay22 gp : FVec Ideal S512x256 .bf16) (ix2 i j) : EReal) = sg (gp (ix2 i j)) := at_pay7 gp i j
theorem at_pay23 : ((k0_pay23 gr : FVec Ideal S512x256 .bf16) (ix2 i j) : EReal) = sg (gr (ix2 i j)) := at_pay7 gr i j

theorem at_pay24 : ((k0_pay24 (k0_pay16 (k0_pay2 wp) xp) (k0_pay17 (k0_pay3 wr) xr) gp gr : FVec Ideal S512x256 .bf16) (ix2 i j) : EReal)
    = merged (dot xp wp i j) (dot xr wr i j) (gp (ix2 i j)) (gr (ix2 i j)) := by
  unfold merged
  rw [← at_pay16, ← at_pay17, ← at_pay18, ← at_pay19]
  pointwise [k0_pay24]

theorem at_pay1 : ((k0_pay1 (k0_pay4 wo) (k0_pay24 (k0_pay16 (k0_pay2 wp) xp) (k0_pay17 (k0_pay3 wr) xr) gp gr) acc : FVec Ideal S512x1024 .f32) (ix2 i q) : EReal)
    = acc (ix2 i q) + ∑ k : Fin 256, merged (dot xp wp i k) (dot xr wr i k) (gp (ix2 i k)) (gr (ix2 i k)) * wo (ix2 k q) := by
  simp only [← at_pay24]
  pointwise [k0_pay1, k0_pay4]
end

/-- A stretch of a block's rows, read at an entry. -/
theorem ld_rows {a n s : ℕ} {e : EltTy} (x : Vec Ideal (⟨2, ![a, n]⟩ : Shape) e) (o : ℕ) (inb) (r : Fin s) (q : Fin n) (p : Fin a) (h : p.val = o + r.val) :
    View.ld x (Rect.unit (s := (⟨2, ![a, n]⟩ : Shape)) ![o, 0] ![s, n] inb) (ix2 r q) = x (ix2 p q) :=
  View.ld_unit_apply_of _ _ _ _ _ _ (fun a => by fin_cases a <;> simp [h])

theorem dot_rows {a n s b : ℕ} (x : Vec Ideal (⟨2, ![a, n]⟩ : Shape) .bf16) (w : Vec Ideal (⟨2, ![n, b]⟩ : Shape) .bf16) (o : ℕ) (inb) (r : Fin s) (q : Fin b) (p : Fin a) (h : p.val = o + r.val) :
    dot (View.ld x (Rect.unit (s := (⟨2, ![a, n]⟩ : Shape)) ![o, 0] ![s, n] inb) : (⟨2, ![s, n]⟩ : Shape).Idx → EReal) w r q = dot x w p q :=
  sum_terms fun k => mul_terms (ld_rows x o inb r k p h) rfl

theorem merged_congr {a b c d a' b' c' d' : EReal} (h1 : a = a') (h2 : b = b') (h3 : c = c') (h4 : d = d') : merged a b c d = merged a' b' c' d' := by
  rw [h1, h2, h3, h4]

/-- A block written in two stretches of rows over earlier contents, read at an entry. -/
theorem canon_two (hi lo : Vec Ideal S512x1024 .f32) (L : List (View.Piece (Elt Ideal) S1024x1024 .f32)) (inb) (inb') (p q : Fin 1024) {v : EReal}
    (hh : ∀ r : Fin 512, p.val = 512 + r.val → (hi (ix2 r q) : EReal) = v) (hl : ∀ r : Fin 512, p.val = 0 + r.val → (lo (ix2 r q) : EReal) = v) :
    (View.canon ((⟨Rect.unit (s := S1024x1024) ![512, 0] ![512, 1024] inb, hi⟩ : View.Piece (Elt Ideal) S1024x1024 .f32)
      :: (⟨Rect.unit (s := S1024x1024) ![0, 0] ![512, 1024] inb', lo⟩ : View.Piece (Elt Ideal) S1024x1024 .f32) :: L) (ix2 p q) : EReal) = v := by
  by_cases h : p.val < 512
  · rw [View.canon_cons_of_not_mem _ _ (fun hm => by
      obtain ⟨x, hx⟩ := (Rect.unit (s := S1024x1024) ![512, 0] ![512, 1024] inb).exists_idx_of_mem hm
      have hx0 : 512 + 1 * (x 0).val = p.val := congrArg (fun z : S1024x1024.Idx => (z 0).val) hx
      omega)]
    have e : (ix2 p q : S1024x1024.Idx) = (Rect.unit (s := S1024x1024) ![0, 0] ![512, 1024] inb').emb (ix2 (⟨p.val, h⟩ : Fin 512) q) := by
      funext a
      refine Fin.ext ?_
      fin_cases a
      · show p.val = 0 + 1 * p.val
        omega
      · show q.val = 0 + 1 * q.val
        omega
    rw [e]
    exact (View.canon_cons_emb _ _ _ _).trans (hl ⟨p.val, h⟩ (Nat.zero_add _).symm)
  · have hp := p.isLt
    have e : (ix2 p q : S1024x1024.Idx) = (Rect.unit (s := S1024x1024) ![512, 0] ![512, 1024] inb).emb (ix2 (⟨p.val - 512, by omega⟩ : Fin 512) q) := by
      funext a
      refine Fin.ext ?_
      fin_cases a
      · show p.val = 512 + 1 * (p.val - 512)
        omega
      · show q.val = 0 + 1 * q.val
        omega
    rw [e]
    exact (View.canon_cons_emb _ _ _ _).trans (hh ⟨p.val - 512, by omega⟩ (by show p.val = 512 + (p.val - 512); omega))

/-- A stretch of rows read from a block written whole. -/
theorem at_first (x7 : Vec Ideal S1024x1024 .f32) (v : View sig .tc .vmem S1024x1024 .f32) (inb) (o : ℕ) (inb') (r : Fin 512) (q : Fin 1024) (p : Fin 1024) (h : p.val = o + r.val) :
    v.readCov [(⟨Rect.unit (s := S1024x1024) ![0, 0] ![1024, 1024] inb, x7⟩ : View.Piece (Elt Ideal) S1024x1024 .f32)] (Rect.unit (s := S1024x1024) ![o, 0] ![512, 1024] inb').toLoadRect (ix2 r q) = x7 (ix2 p q) := by
  rw [View.readCov_eq_canon', View.canon_cons_unit_lit inb _ _ (fun a => by fin_cases a <;> rfl)]
  refine congrArg x7 ?_
  funext a
  refine Fin.ext ?_
  fin_cases a
  · show o + 1 * r.val = p.val
    omega
  · show 0 + 1 * q.val = q.val
    omega

section
variable (x0 : Vec Ideal S1024x512 .bf16) (x1 : Vec Ideal S1024x1024 .bf16) (x2 : Vec Ideal S512x256 .bf16) (x3 : Vec Ideal S1024x256 .bf16) (x4 x5 : Vec Ideal S1024x256 .f32)
  (x6 : Vec Ideal S256x1024 .bf16) (x7 xo : Vec Ideal S1024x1024 .f32)
variable (c : Dev nD) (i : grid0.Coords) (a2 : Memref sig .tc .vmem S1024x512 .bf16) (h2 : a2.IsWhole) (a3 : Memref sig .tc .vmem S1024x1024 .bf16) (h3 : a3.IsWhole) (a4 : Memref sig .tc .vmem S512x256 .bf16) (h4 : a4.IsWhole)
   (a5 : Memref sig .tc .vmem S1024x256 .bf16) (h5 : a5.IsWhole) (a6 : Memref sig .tc .vmem S1024x256 .f32) (h6 : a6.IsWhole) (a7 : Memref sig .tc .vmem S1024x256 .f32) (h7 : a7.IsWhole)
   (a8 : Memref sig .tc .vmem S256x1024 .bf16) (h8 : a8.IsWhole) (a9 : Memref sig .tc .vmem S1024x1024 .f32) (h9 : a9.IsWhole) (a10 : Memref sig .tc .vmem S1024x256 .bf16) (h10 : a10.IsWhole)
   (a11 : Memref sig .tc .vmem S1024x256 .bf16) (h11 : a11.IsWhole) (a12 : Memref sig .tc .vmem S1024x256 .bf16) (h12 : a12.IsWhole) (a13 : Memref sig .tc .vmem S1024x256 .bf16) (h13 : a13.IsWhole)
   (a14 : Memref sig .tc .vmem S1024x256 .bf16) (h14 : a14.IsWhole) (a15 : Memref sig .tc .vmem S1024x1024 .f32) (h15 : a15.IsWhole)

theorem outA_8 (hc : cond0_0 i) (p : Fin 1024) (q : Fin 256) :
    (out0_A_8 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = slope (dot x0 x2 p q) (x4 (ix2 p q)) := by
  frame_out
  canon_tiles y h <;> idx_vars y <;> (obtain rfl : q = _ := Fin.ext h1)
  · exact (at_pay20 _ _ _ _ _).trans (congrArg₂ slope (dot_rows x0 x2 512 _ _ _ p h0) (ld_rows x4 512 _ _ _ p h0))
  · have e := h0.trans (Nat.zero_add _).symm
    exact (at_pay10 _ _ _ _ _).trans (congrArg₂ slope (dot_rows x0 x2 0 _ _ _ p e) (ld_rows x4 0 _ _ _ p e))

theorem outB_8 (hc : ¬cond0_0 i) (p : Fin 1024) (q : Fin 256) :
    (out0_B_8 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = slope (dot x0 x2 p q) (x4 (ix2 p q)) := by
  frame_out
  canon_tiles y h <;> idx_vars y <;> (obtain rfl : q = _ := Fin.ext h1)
  · exact (at_pay20 _ _ _ _ _).trans (congrArg₂ slope (dot_rows x0 x2 512 _ _ _ p h0) (ld_rows x4 512 _ _ _ p h0))
  · have e := h0.trans (Nat.zero_add _).symm
    exact (at_pay10 _ _ _ _ _).trans (congrArg₂ slope (dot_rows x0 x2 0 _ _ _ p e) (ld_rows x4 0 _ _ _ p e))

theorem outA_9 (hc : cond0_0 i) (p : Fin 1024) (q : Fin 256) :
    (out0_A_9 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = slope (dot x1 x3 p q) (x5 (ix2 p q)) := by
  frame_out
  canon_tiles y h <;> idx_vars y <;> (obtain rfl : q = _ := Fin.ext h1)
  · exact (at_pay21 _ _ _ _ _).trans (congrArg₂ slope (dot_rows x1 x3 512 _ _ _ p h0) (ld_rows x5 512 _ _ _ p h0))
  · have e := h0.trans (Nat.zero_add _).symm
    exact (at_pay11 _ _ _ _ _).trans (congrArg₂ slope (dot_rows x1 x3 0 _ _ _ p e) (ld_rows x5 0 _ _ _ p e))

theorem outB_9 (hc : ¬cond0_0 i) (p : Fin 1024) (q : Fin 256) :
    (out0_B_9 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = slope (dot x1 x3 p q) (x5 (ix2 p q)) := by
  frame_out
  canon_tiles y h <;> idx_vars y <;> (obtain rfl : q = _ := Fin.ext h1)
  · exact (at_pay21 _ _ _ _ _).trans (congrArg₂ slope (dot_rows x1 x3 512 _ _ _ p h0) (ld_rows x5 512 _ _ _ p h0))
  · have e := h0.trans (Nat.zero_add _).symm
    exact (at_pay11 _ _ _ _ _).trans (congrArg₂ slope (dot_rows x1 x3 0 _ _ _ p e) (ld_rows x5 0 _ _ _ p e))

theorem outA_10 (hc : cond0_0 i) (p : Fin 1024) (q : Fin 256) :
    (out0_A_10 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = sg (x4 (ix2 p q)) := by
  frame_out
  canon_tiles y h <;> idx_vars y <;> (obtain rfl : q = _ := Fin.ext h1)
  · exact (at_pay22 _ _ _).trans (congrArg sg (ld_rows x4 512 _ _ _ p h0))
  · have e := h0.trans (Nat.zero_add _).symm
    exact (at_pay12 _ _ _).trans (congrArg sg (ld_rows x4 0 _ _ _ p e))

theorem outB_10 (hc : ¬cond0_0 i) (p : Fin 1024) (q : Fin 256) :
    (out0_B_10 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = sg (x4 (ix2 p q)) := by
  frame_out
  canon_tiles y h <;> idx_vars y <;> (obtain rfl : q = _ := Fin.ext h1)
  · exact (at_pay22 _ _ _).trans (congrArg sg (ld_rows x4 512 _ _ _ p h0))
  · have e := h0.trans (Nat.zero_add _).symm
    exact (at_pay12 _ _ _).trans (congrArg sg (ld_rows x4 0 _ _ _ p e))

theorem outA_11 (hc : cond0_0 i) (p : Fin 1024) (q : Fin 256) :
    (out0_A_11 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = sg (x5 (ix2 p q)) := by
  frame_out
  canon_tiles y h <;> idx_vars y <;> (obtain rfl : q = _ := Fin.ext h1)
  · exact (at_pay23 _ _ _).trans (congrArg sg (ld_rows x5 512 _ _ _ p h0))
  · have e := h0.trans (Nat.zero_add _).symm
    exact (at_pay13 _ _ _).trans (congrArg sg (ld_rows x5 0 _ _ _ p e))

theorem outB_11 (hc : ¬cond0_0 i) (p : Fin 1024) (q : Fin 256) :
    (out0_B_11 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = sg (x5 (ix2 p q)) := by
  frame_out
  canon_tiles y h <;> idx_vars y <;> (obtain rfl : q = _ := Fin.ext h1)
  · exact (at_pay23 _ _ _).trans (congrArg sg (ld_rows x5 512 _ _ _ p h0))
  · have e := h0.trans (Nat.zero_add _).symm
    exact (at_pay13 _ _ _).trans (congrArg sg (ld_rows x5 0 _ _ _ p e))

theorem outA_12 (hc : cond0_0 i) (p : Fin 1024) (q : Fin 256) :
    (out0_A_12 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = merged (dot x0 x2 p q) (dot x1 x3 p q) (x4 (ix2 p q)) (x5 (ix2 p q)) := by
  frame_out
  canon_tiles y h <;> idx_vars y <;> (obtain rfl : q = _ := Fin.ext h1)
  · exact (at_pay24 _ _ _ _ _ _ _ _).trans (merged_congr (dot_rows x0 x2 512 _ _ _ p h0) (dot_rows x1 x3 512 _ _ _ p h0) (ld_rows x4 512 _ _ _ p h0) (ld_rows x5 512 _ _ _ p h0))
  · have e := h0.trans (Nat.zero_add _).symm
    exact (at_pay14 _ _ _ _ _ _ _ _).trans (merged_congr (dot_rows x0 x2 0 _ _ _ p e) (dot_rows x1 x3 0 _ _ _ p e) (ld_rows x4 0 _ _ _ p e) (ld_rows x5 0 _ _ _ p e))

theorem outB_12 (hc : ¬cond0_0 i) (p : Fin 1024) (q : Fin 256) :
    (out0_B_12 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = merged (dot x0 x2 p q) (dot x1 x3 p q) (x4 (ix2 p q)) (x5 (ix2 p q)) := by
  frame_out
  canon_tiles y h <;> idx_vars y <;> (obtain rfl : q = _ := Fin.ext h1)
  · exact (at_pay24 _ _ _ _ _ _ _ _).trans (merged_congr (dot_rows x0 x2 512 _ _ _ p h0) (dot_rows x1 x3 512 _ _ _ p h0) (ld_rows x4 512 _ _ _ p h0) (ld_rows x5 512 _ _ _ p h0))
  · have e := h0.trans (Nat.zero_add _).symm
    exact (at_pay14 _ _ _ _ _ _ _ _).trans (merged_congr (dot_rows x0 x2 0 _ _ _ p e) (dot_rows x1 x3 0 _ _ _ p e) (ld_rows x4 0 _ _ _ p e) (ld_rows x5 0 _ _ _ p e))

theorem outA_13 (hc : cond0_0 i) (p q : Fin 1024) :
    (out0_A_13 c i a2 h2 a3 h3 a4 h4 a5 h5 a6 h6 a7 h7 a8 h8 a9 h9 a10 h10 a11 h11 a12 h12 a13 h13 a14 h14 a15 h15 hc x0 x1 x2 x3 x4 x5 x6 x7 (ix2 p q) : EReal) = x7 (ix2 p q) + ∑ k : Fin 256, merged (dot x0 x2 p k) (dot x1 x3 p k) (x4 (ix2 p k)) (x5 (ix2 p k)) * x6 (ix2 k q) := by
  frame_out
  refine canon_two _ _ _ _ _ p q (fun y0 h0 => ?_) (fun y0 e => ?_)
  · exact (at_pay1 _ _ _ _ _ _ _ _ _ _).trans (add_terms ((congrFun (View.readCov_cons_of_rows_disjoint _ 0 512 (Or.inl (le_refl _)) _ _ _ _) _).trans (at_first x7 _ _ _ _ _ _ p h0)) (sum_terms fun k => mul_terms (merged_congr (dot_rows x0 x2 512 _ _ _ p h0) (dot_rows x1 x3 512 _ _ _ p h0) (ld_rows x4 512 _ _ _ p h0) (ld_rows x5 512 _ _ _ p h0)) rfl))
  · exact (at_pay15 _ _ _ _ _ _ _ _ _ _).trans (add_terms (at_first x7 _ _ _ _ _ _ p e) (sum_terms fun k => mul_terms (merged_congr (dot_rows x0 x2 0 _ _ _ p e) (dot_rows x1 x3 0 _ _ _ p e) (ld_rows x4 0 _ _ _ p e) (ld_rows x5 0 _ _ _ p e)) rfl))

theorem outB_13 (hc : ¬cond0_0 i) (p q : Fin 1024) :
    (out0_B_13 c i a2 h2 a3 h3 a4 h4 a5 h5 a6 h6 a7 h7 a8 h8 a9 h9 a10 h10 a11 h11 a12 h12 a13 h13 a14 h14 a15 h15 hc x0 x1 x2 x3 x4 x5 x6 x7 xo (ix2 p q) : EReal) = xo (ix2 p q) + ∑ k : Fin 256, merged (dot x0 x2 p k) (dot x1 x3 p k) (x4 (ix2 p k)) (x5 (ix2 p k)) * x6 (ix2 k q) := by
  frame_out
  canon_tiles y h <;> idx_vars y <;> (obtain rfl : q = _ := Fin.ext h1)
  · exact (at_pay1 _ _ _ _ _ _ _ _ _ _).trans (add_terms (ld_rows xo 512 _ _ _ p h0) (sum_terms fun k => mul_terms (merged_congr (dot_rows x0 x2 512 _ _ _ p h0) (dot_rows x1 x3 512 _ _ _ p h0) (ld_rows x4 512 _ _ _ p h0) (ld_rows x5 512 _ _ _ p h0)) rfl))
  · have e := h0.trans (Nat.zero_add _).symm
    exact (at_pay15 _ _ _ _ _ _ _ _ _ _).trans (add_terms (ld_rows xo 0 _ _ _ p e) (sum_terms fun k => mul_terms (merged_congr (dot_rows x0 x2 0 _ _ _ p e) (dot_rows x1 x3 0 _ _ _ p e) (ld_rows x4 0 _ _ _ p e) (ld_rows x5 0 _ _ _ p e)) rfl))

end

/-- The product behind the merge, added to the block's input. -/
def behind (x : EReal) (f w : Fin 1024 → EReal) : EReal := x + ∑ k, f k * w k

theorem places : ∀ t : Fin cfg0.N, win0_0.index t = ![t.val / 4, 0]
    ∧ win0_1.index t = ![t.val / 4, 0]
    ∧ win0_2.index t = ![0, t.val % 4]
    ∧ win0_3.index t = ![0, t.val % 4]
    ∧ win0_4.index t = ![t.val / 4, t.val % 4 + 10]
    ∧ win0_5.index t = ![t.val / 4, t.val % 4 + 14]
    ∧ win0_6.index t = ![t.val % 4, 0]
    ∧ win0_7.index t = ![t.val / 4, 0]
    ∧ win0_8.index t = ![t.val / 4, t.val % 4]
    ∧ win0_9.index t = ![t.val / 4, t.val % 4]
    ∧ win0_10.index t = ![t.val / 4, t.val % 4]
    ∧ win0_11.index t = ![t.val / 4, t.val % 4]
    ∧ win0_12.index t = ![t.val / 4, t.val % 4]
    ∧ win0_13.index t = ![t.val / 4, 0] := by
  decide +kernel

abbrev argA (c : Dev nD) : FVec Ideal S4096x512 .f32 := m ((c.tc : Thread nD τ).loc main_arg0)
abbrev argZ (c : Dev nD) : FVec Ideal S4096x1024 .f32 := m ((c.tc : Thread nD τ).loc main_arg1)
abbrev argU (c : Dev nD) : FVec Ideal S512x1024 .f32 := m ((c.tc : Thread nD τ).loc main_arg2)
abbrev argR (c : Dev nD) : FVec Ideal S1024x1024 .f32 := m ((c.tc : Thread nD τ).loc main_arg3)
abbrev argP (c : Dev nD) : FVec Ideal S4096x4608 .f32 := m ((c.tc : Thread nD τ).loc main_arg4)
abbrev argO (c : Dev nD) : FVec Ideal S1024x1024 .f32 := m ((c.tc : Thread nD τ).loc main_arg5)
abbrev argX (c : Dev nD) : FVec Ideal S4096x1024 .f32 := m ((c.tc : Thread nD τ).loc main_arg6)

/-- The gate's column of the projection. -/
def col (o : ℕ) (h : o + 1024 ≤ 4608) (j : Fin 1024) : Fin 4608 := ⟨o + j.val, by omega⟩

theorem after8 (c : Dev nD) (t : Fin cfg0.N) (p : Fin 1024) (q : Fin 256) :
    ((outsAt0 m c t.val t.isLt).1 (ix2 p q) : EReal) = slope (dot (iblk m c 0 t) (iblk m c 2 t) p q) ((iblk m c 4 t) (ix2 p q)) := by
  by_cases h : t.val % 4 = 0
  · rw [outsAt0_A m c t h]; dsimp only; rw [outA_8]
  · rw [outsAt0_B m c t h]; dsimp only; rw [outB_8]

theorem after9 (c : Dev nD) (t : Fin cfg0.N) (p : Fin 1024) (q : Fin 256) :
    ((outsAt0 m c t.val t.isLt).2.1 (ix2 p q) : EReal) = slope (dot (iblk m c 1 t) (iblk m c 3 t) p q) ((iblk m c 5 t) (ix2 p q)) := by
  by_cases h : t.val % 4 = 0
  · rw [outsAt0_A m c t h]; dsimp only; rw [outA_9]
  · rw [outsAt0_B m c t h]; dsimp only; rw [outB_9]

theorem after10 (c : Dev nD) (t : Fin cfg0.N) (p : Fin 1024) (q : Fin 256) :
    ((outsAt0 m c t.val t.isLt).2.2.1 (ix2 p q) : EReal) = sg ((iblk m c 4 t) (ix2 p q)) := by
  by_cases h : t.val % 4 = 0
  · rw [outsAt0_A m c t h]; dsimp only; rw [outA_10]
  · rw [outsAt0_B m c t h]; dsimp only; rw [outB_10]

theorem after11 (c : Dev nD) (t : Fin cfg0.N) (p : Fin 1024) (q : Fin 256) :
    ((outsAt0 m c t.val t.isLt).2.2.2.1 (ix2 p q) : EReal) = sg ((iblk m c 5 t) (ix2 p q)) := by
  by_cases h : t.val % 4 = 0
  · rw [outsAt0_A m c t h]; dsimp only; rw [outA_11]
  · rw [outsAt0_B m c t h]; dsimp only; rw [outB_11]

theorem after12 (c : Dev nD) (t : Fin cfg0.N) (p : Fin 1024) (q : Fin 256) :
    ((outsAt0 m c t.val t.isLt).2.2.2.2.1 (ix2 p q) : EReal) = merged (dot (iblk m c 0 t) (iblk m c 2 t) p q) (dot (iblk m c 1 t) (iblk m c 3 t) p q) ((iblk m c 4 t) (ix2 p q)) ((iblk m c 5 t) (ix2 p q)) := by
  by_cases h : t.val % 4 = 0
  · rw [outsAt0_A m c t h]; dsimp only; rw [outA_12]
  · rw [outsAt0_B m c t h]; dsimp only; rw [outB_12]

set_option maxHeartbeats 1000000 in
theorem result8 (c : Dev nD) : (dats m 0 c).arrAt 8 cfg0.N = (fun j => slope (dot (argA m c) (argU m c) (j 0) (j 1)) ((argP m c) (ix2 (j 0) (col 2560 (by decide) (j 1)))) : FVec Ideal S4096x1024 .bf16) := by
  refine (dats m 0 c).arrAt_eq_of_covers 8 _ (by decide +kernel) fun t hf y => ?_
  blk_simp
  rw [after0_8]
  idx_vars y
  refine (after8 m c t _ _).trans ?_
  unfold dot col
  exact congrArg₂ slope (sum_terms fun k => mul_terms (by blk_ext [iblk, V, places t]) (by blk_ext [iblk, V, places t])) (by blk_ext [iblk, V, places t])

set_option maxHeartbeats 1000000 in
theorem result9 (c : Dev nD) : (dats m 0 c).arrAt 9 cfg0.N = (fun j => slope (dot (argZ m c) (argR m c) (j 0) (j 1)) ((argP m c) (ix2 (j 0) (col 3584 (by decide) (j 1)))) : FVec Ideal S4096x1024 .bf16) := by
  refine (dats m 0 c).arrAt_eq_of_covers 9 _ (by decide +kernel) fun t hf y => ?_
  blk_simp
  rw [after0_9]
  idx_vars y
  refine (after9 m c t _ _).trans ?_
  unfold dot col
  exact congrArg₂ slope (sum_terms fun k => mul_terms (by blk_ext [iblk, V, places t]) (by blk_ext [iblk, V, places t])) (by blk_ext [iblk, V, places t])

set_option maxHeartbeats 1000000 in
theorem result10 (c : Dev nD) : (dats m 0 c).arrAt 10 cfg0.N = (fun j => sg ((argP m c) (ix2 (j 0) (col 2560 (by decide) (j 1)))) : FVec Ideal S4096x1024 .bf16) := by
  refine (dats m 0 c).arrAt_eq_of_covers 10 _ (by decide +kernel) fun t hf y => ?_
  blk_simp
  rw [after0_10]
  idx_vars y
  refine (after10 m c t _ _).trans ?_
  unfold col
  exact congrArg sg (by blk_ext [iblk, V, places t])

set_option maxHeartbeats 1000000 in
theorem result11 (c : Dev nD) : (dats m 0 c).arrAt 11 cfg0.N = (fun j => sg ((argP m c) (ix2 (j 0) (col 3584 (by decide) (j 1)))) : FVec Ideal S4096x1024 .bf16) := by
  refine (dats m 0 c).arrAt_eq_of_covers 11 _ (by decide +kernel) fun t hf y => ?_
  blk_simp
  rw [after0_11]
  idx_vars y
  refine (after11 m c t _ _).trans ?_
  unfold col
  exact congrArg sg (by blk_ext [iblk, V, places t])

set_option maxHeartbeats 1000000 in
theorem result12 (c : Dev nD) : (dats m 0 c).arrAt 12 cfg0.N = (fun j => merged (dot (argA m c) (argU m c) (j 0) (j 1)) (dot (argZ m c) (argR m c) (j 0) (j 1)) ((argP m c) (ix2 (j 0) (col 2560 (by decide) (j 1)))) ((argP m c) (ix2 (j 0) (col 3584 (by decide) (j 1)))) : FVec Ideal S4096x1024 .bf16) := by
  refine (dats m 0 c).arrAt_eq_of_covers 12 _ (by decide +kernel) fun t hf y => ?_
  blk_simp
  rw [after0_12]
  idx_vars y
  refine (after12 m c t _ _).trans ?_
  unfold dot col
  exact merged_congr (sum_terms fun k => mul_terms (by blk_ext [iblk, V, places t]) (by blk_ext [iblk, V, places t])) (sum_terms fun k => mul_terms (by blk_ext [iblk, V, places t]) (by blk_ext [iblk, V, places t])) (by blk_ext [iblk, V, places t]) (by blk_ext [iblk, V, places t])

/-- A quantity accumulated over runs of four points, at a run's last point. -/
theorem four_steps {N : ℕ} (f : (n : ℕ) → n < N → EReal) (init term : Fin N → EReal) (h0 : ∀ t : Fin N, t.val % 4 = 0 → f t.val t.isLt = init t + term t)
    (hs : ∀ t : Fin N, ¬t.val % 4 = 0 → f t.val t.isLt = f (t.val - 1) (Nat.lt_of_le_of_lt (Nat.sub_le _ _) t.isLt) + term t) (t : Fin N) (ht : t.val % 4 = 3) :
    f t.val t.isLt = init ⟨4 * (t.val / 4), by omega⟩ + ∑ s : Fin 4, term ⟨4 * (t.val / 4) + s.val, by omega⟩ := by
  obtain ⟨t, hN⟩ := t
  obtain ⟨n, rfl⟩ : ∃ n, t = 4 * n + 3 := ⟨t / 4, by simp only at ht; omega⟩
  have e : (4 * n + 3) / 4 = n := by omega
  simp only [e]
  have a0 := h0 ⟨4 * n, by omega⟩ (by simp only; omega)
  have a1 := hs ⟨4 * n + 1, by omega⟩ (by simp only; omega)
  have a2 := hs ⟨4 * n + 2, by omega⟩ (by simp only; omega)
  have a3 := hs ⟨4 * n + 3, hN⟩ (by simp only; omega)
  simp only [Nat.add_sub_cancel, Nat.add_succ_sub_one] at a0 a1 a2 a3
  rw [a3, a2, a1, a0, Fin.sum_univ_four]
  simp only [add_assoc]
  rfl

set_option maxHeartbeats 2000000 in
theorem result13 (c : Dev nD) : (dats m 0 c).arrAt 13 cfg0.N = (fun j => behind ((argX m c) (ix2 (j 0) (j 1))) (fun k => merged (dot (argA m c) (argU m c) (j 0) (k)) (dot (argZ m c) (argR m c) (j 0) (k)) ((argP m c) (ix2 (j 0) (col 2560 (by decide) (k)))) ((argP m c) (ix2 (j 0) (col 3584 (by decide) (k))))) (fun k => (argO m c) (ix2 k (j 1))) : FVec Ideal S4096x1024 .f32) := by
  refine (dats m 0 c).arrAt_eq_of_covers 13 _ (by decide +kernel) fun t hf y => ?_
  have ht := (flush0_13 t).mp hf
  blk_simp
  rw [after0_13]
  idx_vars y
  rw [four_steps (fun n h => ((outsAt0 m c n h).2.2.2.2.2 (ix2 y0 y1) : EReal)) (fun s => (iblk m c 7 s) (ix2 y0 y1))
    (fun s => ∑ k : Fin 256, merged (dot (iblk m c 0 s) (iblk m c 2 s) y0 k) (dot (iblk m c 1 s) (iblk m c 3 s) y0 k) ((iblk m c 4 s) (ix2 y0 k)) ((iblk m c 5 s) (ix2 y0 k)) * (iblk m c 6 s) (ix2 k y1))
    (fun s h => by rw [outsAt0_A m c s h]; dsimp only; rw [outA_13])
    (fun s h => by rw [outsAt0_B m c s h]; dsimp only; rw [outB_13]) t ht]
  unfold behind dot col
  have at_t := places t
  have at_0 := places ⟨4 * (t.val / 4), by omega⟩
  rw [show 4 * (t.val / 4) / 4 = t.val / 4 by omega] at at_0
  refine add_terms (by blk_ext [iblk, V, at_0, at_t]) (Fin.sum_mul_add_congr fun s k hl => ?_)
  have at_s := places ⟨4 * (t.val / 4) + s.val, by omega⟩
  rw [show (4 * (t.val / 4) + s.val) / 4 = t.val / 4 by omega, show (4 * (t.val / 4) + s.val) % 4 = s.val by omega] at at_s
  exact mul_terms (merged_congr (sum_terms fun l => mul_terms (by blk_ext [iblk, V, at_s, at_t]) (by blk_ext [iblk, V, at_s, at_t])) (sum_terms fun l => mul_terms (by blk_ext [iblk, V, at_s, at_t]) (by blk_ext [iblk, V, at_s, at_t])) (by blk_ext [iblk, V, at_s, at_t]) (by blk_ext [iblk, V, at_s, at_t])) (by blk_ext [iblk, V, at_s, at_t])

/-- The call's six results, and its arguments unchanged. -/
theorem values : θ_run defs (onTc (τ := τ) (main (F := Ideal))) ⟨m, fun _ => 0, ρ⟩ fun r => ∀ c : Dev nD,
      r.2.mem ((c.tc : Thread nD τ).loc main_v5_0) = (fun j => slope (dot (argA m c) (argU m c) (j 0) (j 1)) ((argP m c) (ix2 (j 0) (col 2560 (by decide) (j 1)))) : FVec Ideal S4096x1024 .bf16)
      ∧ r.2.mem ((c.tc : Thread nD τ).loc main_v5_1) = (fun j => slope (dot (argZ m c) (argR m c) (j 0) (j 1)) ((argP m c) (ix2 (j 0) (col 3584 (by decide) (j 1)))) : FVec Ideal S4096x1024 .bf16)
      ∧ r.2.mem ((c.tc : Thread nD τ).loc main_v5_2) = (fun j => sg ((argP m c) (ix2 (j 0) (col 2560 (by decide) (j 1)))) : FVec Ideal S4096x1024 .bf16)
      ∧ r.2.mem ((c.tc : Thread nD τ).loc main_v5_3) = (fun j => sg ((argP m c) (ix2 (j 0) (col 3584 (by decide) (j 1)))) : FVec Ideal S4096x1024 .bf16)
      ∧ r.2.mem ((c.tc : Thread nD τ).loc main_v5_4) = (fun j => merged (dot (argA m c) (argU m c) (j 0) (j 1)) (dot (argZ m c) (argR m c) (j 0) (j 1)) ((argP m c) (ix2 (j 0) (col 2560 (by decide) (j 1)))) ((argP m c) (ix2 (j 0) (col 3584 (by decide) (j 1)))) : FVec Ideal S4096x1024 .bf16)
      ∧ r.2.mem ((c.tc : Thread nD τ).loc main_v5_5) = (fun j => behind ((argX m c) (ix2 (j 0) (j 1))) (fun k => merged (dot (argA m c) (argU m c) (j 0) (k)) (dot (argZ m c) (argR m c) (j 0) (k)) ((argP m c) (ix2 (j 0) (col 2560 (by decide) (k)))) ((argP m c) (ix2 (j 0) (col 3584 (by decide) (k))))) (fun k => (argO m c) (ix2 k (j 1))) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result8 m c), (h c).2.1.trans (result9 m c), (h c).2.2.1.trans (result10 m c), (h c).2.2.2.1.trans (result11 m c), (h c).2.2.2.2.1.trans (result12 m c), (h c).2.2.2.2.2.1.trans (result13 m c), (h c).2.2.2.2.2.2⟩)
    (Cert.Kernel16Ideal.Value.run_blocks m ρ)

/-- The reference's six results, and its arguments unchanged. -/
theorem reference (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ fun r =>
      ∀ c : Dev Cert.Reference16Ideal.nD,
      r.2.mem ((c.tc : Thread Cert.Reference16Ideal.nD Cert.Reference16Ideal.τ).loc Cert.Reference16Ideal.main_v34) = (fun j => slope (dot (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg2)) (j 0) (j 1)) ((m ((c.tc : Thread Cert.Reference16Ideal.nD Cert.Reference16Ideal.τ).loc Cert.Reference16Ideal.main_arg4)) (ix2 (j 0) (col 2560 (by decide) (j 1)))) : FVec Ideal S4096x1024 .bf16)
      ∧ r.2.mem ((c.tc : Thread Cert.Reference16Ideal.nD Cert.Reference16Ideal.τ).loc Cert.Reference16Ideal.main_v35) = (fun j => slope (dot (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg3)) (j 0) (j 1)) ((m ((c.tc : Thread Cert.Reference16Ideal.nD Cert.Reference16Ideal.τ).loc Cert.Reference16Ideal.main_arg4)) (ix2 (j 0) (col 3584 (by decide) (j 1)))) : FVec Ideal S4096x1024 .bf16)
      ∧ r.2.mem ((c.tc : Thread Cert.Reference16Ideal.nD Cert.Reference16Ideal.τ).loc Cert.Reference16Ideal.main_v36) = (fun j => sg ((m ((c.tc : Thread Cert.Reference16Ideal.nD Cert.Reference16Ideal.τ).loc Cert.Reference16Ideal.main_arg4)) (ix2 (j 0) (col 2560 (by decide) (j 1)))) : FVec Ideal S4096x1024 .bf16)
      ∧ r.2.mem ((c.tc : Thread Cert.Reference16Ideal.nD Cert.Reference16Ideal.τ).loc Cert.Reference16Ideal.main_v37) = (fun j => sg ((m ((c.tc : Thread Cert.Reference16Ideal.nD Cert.Reference16Ideal.τ).loc Cert.Reference16Ideal.main_arg4)) (ix2 (j 0) (col 3584 (by decide) (j 1)))) : FVec Ideal S4096x1024 .bf16)
      ∧ r.2.mem ((c.tc : Thread Cert.Reference16Ideal.nD Cert.Reference16Ideal.τ).loc Cert.Reference16Ideal.main_v38) = (fun j => merged (dot (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg2)) (j 0) (j 1)) (dot (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg3)) (j 0) (j 1)) ((m ((c.tc : Thread Cert.Reference16Ideal.nD Cert.Reference16Ideal.τ).loc Cert.Reference16Ideal.main_arg4)) (ix2 (j 0) (col 2560 (by decide) (j 1)))) ((m ((c.tc : Thread Cert.Reference16Ideal.nD Cert.Reference16Ideal.τ).loc Cert.Reference16Ideal.main_arg4)) (ix2 (j 0) (col 3584 (by decide) (j 1)))) : FVec Ideal S4096x1024 .bf16)
      ∧ r.2.mem ((c.tc : Thread Cert.Reference16Ideal.nD Cert.Reference16Ideal.τ).loc Cert.Reference16Ideal.main_v26) = (fun j => behind ((m ((c.tc : Thread Cert.Reference16Ideal.nD Cert.Reference16Ideal.τ).loc Cert.Reference16Ideal.main_arg6)) (ix2 (j 0) (j 1))) (fun k => merged (dot (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg2)) (j 0) (k)) (dot (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg3)) (j 0) (k)) ((m ((c.tc : Thread Cert.Reference16Ideal.nD Cert.Reference16Ideal.τ).loc Cert.Reference16Ideal.main_arg4)) (ix2 (j 0) (col 2560 (by decide) (k)))) ((m ((c.tc : Thread Cert.Reference16Ideal.nD Cert.Reference16Ideal.τ).loc Cert.Reference16Ideal.main_arg4)) (ix2 (j 0) (col 3584 (by decide) (k))))) (fun k => (m ((c.tc : Thread Cert.Reference16Ideal.nD Cert.Reference16Ideal.τ).loc Cert.Reference16Ideal.main_arg5)) (ix2 k (j 1))) : FVec Ideal S4096x1024 .f32)
      ∧ r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6) :=
  (θ_run _ _ _).mono (fun r h c => by
    obtain ⟨h0, h1, h2, h3, h4, h5, h6⟩ := h c
    clear h
    refine ⟨h0.trans ?_, h1.trans ?_, h2.trans ?_, h3.trans ?_, h4.trans ?_, h5.trans ?_, h6⟩ <;> clear h0 h1 h2 h3 h4 h5 h6 r <;> funext j <;> idx_vars j
    · unfold slope dot sg
      pointwise []
      (simp only [one_mul, mul_assoc]; rfl)
    · unfold slope dot sg
      pointwise []
      (simp only [one_mul, mul_assoc]; rfl)
    · unfold sg
      pointwise []
      first | rfl | exact mul_one _
    · unfold sg
      pointwise []
      first | rfl | exact mul_one _
    · unfold merged dot sg
      pointwise []
      rfl
    · unfold behind merged dot sg
      pointwise []
      rfl) (Cert.Reference16Ideal.Value.run m ρ)

end Cert.BranchMix

end
-- ==== Proof.BitsFrame.lean ====
/- The printed kernel's frame at any float instance: it ends, leaves its arguments as they were and its counters at zero. Nothing is said of
   what it leaves in its three results, so the output windows are taken at any contents. -/
module

public import proofs.«01_k».proof.Proof.Gen.Kernel.Frame.Runs
public import Idealize.ShloMosaic.Lib.Claim
public import Idealize.ShloMosaic.Lib.Pipeline.Frame

@[expose] public section

set_option maxRecDepth 16384

noncomputable section

namespace Cert.Pool.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body runs from its inputs' blocks, its outputs and its scratch at anything, and leaves the inputs' blocks as they were. -/
theorem runs (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S4096x128 .bf16) (harg5 : arg5.IsWhole) (arg6 : Memref sig .tc .vmem S1x128x128 .f32) (harg6 : arg6.IsWhole)
    (arg7 : Memref sig .tc .vmem S1x128 .f32) (harg7 : arg7.IsWhole) (arg8 : Memref sig .tc .vmem S4112x128 .f32) (harg8 : arg8.IsWhole)
    (arg9 : Memref sig .tc .vmem S4112x128 .f32) (harg9 : arg9.IsWhole) (arg10 : Memref sig .tc .vmem S4096x128 .f32) (harg10 : arg10.IsWhole)
    (x0 x1 : Vec F S4096x128 .f32) (x2 : Vec F S1x128x128 .f32) (x3 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E
          (cc0_pool_bwd i arg1 harg1 arg2 harg2 arg3 harg3 arg4 harg4 arg5 harg5 arg6 harg6 arg7 harg7 arg8 harg8 arg9 harg9 arg10 harg10) K := by
  simp only [cc0_pool_bwd_eq_skeleton]; unfold cc0_pool_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%e0, %g0, -, G0⟩, ⟨%e1, %g1, -, G1⟩, ⟨%e2, %g2, -, G2⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [G0]
  · iexists _, _; isplitr; swap; · iexact G0
    ipureintro; rfl
  isplitl [G1]
  · iexists _, _; isplitr; swap; · iexact G1
    ipureintro; rfl
  iexists _, _; isplitr; swap; · iexact G2
  ipureintro; rfl

/-- The windows whose contents are not named: the three outputs. -/
def unnamed : Fin 7 → Bool := fun w => match w with
  | 4 => true
  | 5 => true
  | 6 => true
  | _ => false

/-- The pipeline's data: the arrays as launched, the inputs' blocks in place after the body, the outputs' not named. -/
def adat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem adat_A (c : Dev nD) (w : Fin cfg0.W) : (adat m 0 c).A w = V m c (Pipeline.arrRef spec0 w) := by dsimp only [adat]

theorem stays0 (c : Dev nD) (t : Fin cfg0.N) : (adat m 0 c).after 0 t = iblk m c 0 t := by dsimp only [adat]
theorem stays1 (c : Dev nD) (t : Fin cfg0.N) : (adat m 0 c).after 1 t = iblk m c 1 t := by dsimp only [adat]
theorem stays2 (c : Dev nD) (t : Fin cfg0.N) : (adat m 0 c).after 2 t = iblk m c 2 t := by dsimp only [adat]
theorem stays3 (c : Dev nD) (t : Fin cfg0.N) : (adat m 0 c).after 3 t = iblk m c 3 t := by dsimp only [adat]

theorem holds0 (c : Dev nD) (t : Fin cfg0.N) (d) : (adat m 0 c).before 0 t d = iblk m c 0 t := before0_0_of m (adat m 0 c) (adat_A m c 0) (stays0 m c) t d
theorem holds1 (c : Dev nD) (t : Fin cfg0.N) (d) : (adat m 0 c).before 1 t d = iblk m c 1 t := before0_1_of m (adat m 0 c) (adat_A m c 1) (stays1 m c) t d
theorem holds2 (c : Dev nD) (t : Fin cfg0.N) (d) : (adat m 0 c).before 2 t d = iblk m c 2 t := before0_2_of m (adat m 0 c) (adat_A m c 2) (stays2 m c) t d
theorem holds3 (c : Dev nD) (t : Fin cfg0.N) (d) : (adat m 0 c).before 3 t d = iblk m c 3 t := before0_3_of m (adat m 0 c) (adat_A m c 3) (stays3 m c) t d

/-- What the body is called with at a point. -/
def called (c : Dev nD) (t : Fin cfg0.N) : sProp 𝕄 :=
  iprop((adat m 0 c).Φ t.castSucc ∗ (adat m 0 c).owesAt () t.castSucc
    ∗ (∃ d, owns (c : Thread nD τ) (ms0_0 t) fullShare ((adat m 0 c).before 0 t d))
    ∗ (∃ d, owns (c : Thread nD τ) (ms0_1 t) fullShare ((adat m 0 c).before 1 t d))
    ∗ (∃ d, owns (c : Thread nD τ) (ms0_2 t) fullShare ((adat m 0 c).before 2 t d))
    ∗ (∃ d, owns (c : Thread nD τ) (ms0_3 t) fullShare ((adat m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- What it gives back. -/
def handed (c : Dev nD) (t : Fin cfg0.N) : sProp 𝕄 :=
  iprop((adat m 0 c).Φ t.succ ∗ (adat m 0 c).owesAt () t.succ
    ∗ owns (c : Thread nD τ) (ms0_0 t) fullShare ((adat m 0 c).after 0 t)
    ∗ owns (c : Thread nD τ) (ms0_1 t) fullShare ((adat m 0 c).after 1 t)
    ∗ owns (c : Thread nD τ) (ms0_2 t) fullShare ((adat m 0 c).after 2 t)
    ∗ owns (c : Thread nD τ) (ms0_3 t) fullShare ((adat m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point. -/
theorem sound (c : Dev nD) (t : Fin cfg0.N) :
    called m c t ⊢ wp frame (wpE (defs₀ (F := F)) Variants.none c none) Set.univ (bodyAt0 t) (fun _ => handed m c t) := by
  unfold called handed bodyAt0
  simp only [holds0, holds1, holds2, holds3]
  rw [show (adat m 0 c).Φ t.succ = (adat m 0 c).Φ t.castSucc from rfl,
    show (adat m 0 c).owesAt () t.succ = (adat m 0 c).owesAt () t.castSucc from rfl, stays0, stays1, stays2, stays3]
  rw [show (adat m 0 c).Φ t.castSucc = Pipeline.ΦA spec0 c from rfl, PhiA0_eq]
  iintro ⟨⟨⟨G0, G1, G2⟩, Hg⟩, Ho, ⟨%d0, H0⟩, ⟨%d1, H1⟩, ⟨%d2, H2⟩, ⟨%d3, H3⟩, H4, H5, H6⟩
  iapply (runs c (grid0.coords t) _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G0]; · iexact G0
  isplitl [G1]; · iexact G1
  isplitl [G2]; · iexact G2
  iintro ⟨H0, H1, H2, H3, H4, H5, H6, G0, G1, G2⟩
  isplitl [G0 G1 G2 Hg]
  · isplitl [G0 G1 G2]
    · isplitl [G0]
      · iexact G0
      isplitl [G1]
      · iexact G1
      iexact G2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_of_table (t : Fin cfg0.N) : defs₀ (F := F) .tc cfg0.body (cfg0.bodyArgs t (cfg0.slots t)) = bodyAt0 t := by
  unfold defs₀; rw [Defs.onTc_tc]

theorem owed_body (c : Dev nD) : BodyObligation (adat m 0 c) (defs₀ (F := F)) Variants.none () Set.univ unnamed := fun t => by
  rw [bigSep_W0, bigSep_W0, row_of_table]
  exact triple_restated (sound m c t) rfl .rfl fun _ => .rfl

set_option backward.isDefEq.respectTransparency.types false in
/-- The launch. -/
theorem launched : θ_run defs (onTc (τ := τ) (main (F := F))) (s₀ m ρ)
    (fun r => Pipeline.RDat.FramePost cfg0 (fun c => (adat m 0 c).toRForget unnamed) (V m) r ∧ r.2.sem = fun _ => 0) :=
  Pipeline.θ_run_frame_forget (Q' := _) cfgs (adat m) (0 : Fin 1) launch0 defs₀ Variants.none unnamed m ρ main
    (hbody := fun c => (owed_body m c).loose) (hshare := fun c => (adat m 0 c).share_full fun _ => rfl)
    (howed := fun _ _ => rfl) (V := V m) (hmain := hmain m Variants.none) (hA := adat_A m) (hΦ := fun _ _ => rfl)

/-- The frame. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1.arr_in c 0 rfl).trans ((adat_A m c 0).trans (V_main_arg0 m c)),
      (h.1.arr_in c 1 rfl).trans ((adat_A m c 1).trans (V_main_arg1 m c)),
      (h.1.arr_in c 2 rfl).trans ((adat_A m c 2).trans (V_main_arg2 m c)),
      (h.1.arr_in c 3 rfl).trans ((adat_A m c 3).trans (V_main_arg3 m c))⟩, h.2⟩) (launched m ρ)

end Cert.Pool.Any

end
-- ==== Proof.Payloads.lean ====
/- What one trip of the kernel's loops computes from the chunks it loads, read at an index: the window sums built by doubling, the count,
   the pooled chunk, the cotangent of the pooled channels, and the contributions to the two gradients that sum over positions. -/
module

public import proofs.«01_k».proof.Proof.Gen.KernelIdeal.Skeleton
public import proofs.«01_k».proof.Proof.Mixer
public import Idealize.ShloMosaic.Lib.KernelVsHost
public import Idealize.ShloMosaic.Lib.WordCmp

@[expose] public section

set_option maxRecDepth 8192

noncomputable section

namespace Cert.Pool.Ker

open Idealize.ShloMosaic Cert.KernelIdeal Cert.KernelIdeal.Gen Cert.Pool

/-! ## Windows by doubling -/

/-- A chunk rolled by `n` rows, read at an index. -/
theorem roll_apply (v : FVec Ideal S1040x128 .f32) (b : BitVec 32) (n : ℕ) (hb : b.toNat = n) (hn : n < 1040) (r : Fin 1040) (c : Fin 128)
    (q : Fin 1040) (hq : q.val = (r.val + (1040 - n)) % 1040) :
    (dynamicRotate (0 : Fin 2) b none v rotates_S1040x128_d0 : FVec Ideal S1040x128 .f32) (ix2 r c) = v (ix2 q c) := by
  refine dynamicRotate_apply (s := S1040x128) (0 : Fin 2) b v rotates_S1040x128_d0 (ix2 r c) (ix2 q c) fun a => ?_
  match a with
  | ⟨0, _⟩ =>
    refine Eq.trans ?_ (if_pos rfl).symm
    show q.val = (r.val + 1040 - b.toNat % 1040) % 1040
    rw [hq, hb, Nat.mod_eq_of_lt hn]
    congr 1
    omega
  | ⟨1, h⟩ => exact (if_neg (fun e => absurd (congrArg Fin.val e) Nat.one_ne_zero)).symm

/-- One doubling of a trailing window. -/
theorem doubleBack (v : FVec Ideal S1040x128 .f32) (b : BitVec 32) (w : ℕ) (hb : b.toNat = w) (h0 : 0 < w) (hw : w < 1040) (V : ℕ → EReal) (c : Fin 128)
    (hv : ∀ r : Fin 1040, w ≤ r.val + 1 → (v (ix2 r c) : EReal) = back w V r) (r : Fin 1040) (hr : 2 * w ≤ r.val + 1) :
    ((addf v (dynamicRotate (0 : Fin 2) b none v rotates_S1040x128_d0) : FVec Ideal S1040x128 .f32) (ix2 r c) : EReal) = back (2 * w) V r := by
  show ((v (ix2 r c) : EReal) + _ : EReal) = _
  rw [roll_apply v b w hb hw r c ⟨r.val - w, by omega⟩ (by show r.val - w = _; have := r.isLt; omega), hv r (by omega),
    hv ⟨r.val - w, _⟩ (by show w ≤ r.val - w + 1; omega)]
  exact back_double w V r

/-- One doubling of a leading window. -/
theorem doubleAhead (v : FVec Ideal S1040x128 .f32) (b : BitVec 32) (w : ℕ) (hb : b.toNat = 1040 - w) (h0 : 0 < w) (hw : w < 1040) (V : ℕ → EReal)
    (c : Fin 128) (hv : ∀ r : Fin 1040, r.val + w ≤ 1040 → (v (ix2 r c) : EReal) = ahead w V r) (r : Fin 1040) (hr : r.val + 2 * w ≤ 1040) :
    ((addf v (dynamicRotate (0 : Fin 2) b none v rotates_S1040x128_d0) : FVec Ideal S1040x128 .f32) (ix2 r c) : EReal) = ahead (2 * w) V r := by
  show ((v (ix2 r c) : EReal) + _ : EReal) = _
  rw [roll_apply v b (1040 - w) hb (by omega) r c ⟨r.val + w, by omega⟩ (by show r.val + w = _; omega), hv r (by omega),
    hv ⟨r.val + w, _⟩ (by show r.val + w + w ≤ 1040; omega)]
  exact ahead_double w V r

/-- The choice among the four windows by the group's number. -/
theorem choose4 {α : Type} (g : ℕ) (hg : g < 4) (a b c d : α) (P : ℕ → α → Prop) (ha : P 0 a) (hb : P 1 b) (hc : P 2 c) (hd : P 3 d) :
    P g (Scalar.select (Scalar.cmpi .eq (BitVec.ofNat 32 g) 0#32) a
      (Scalar.select (Scalar.cmpi .eq (BitVec.ofNat 32 g) 1#32) b (Scalar.select (Scalar.cmpi .eq (BitVec.ofNat 32 g) 2#32) c d))) := by
  rcases (show g = 0 ∨ g = 1 ∨ g = 2 ∨ g = 3 by omega) with rfl | rfl | rfl | rfl
  · exact ha
  · exact hb
  · exact hc
  · exact hd

/-! ## The count -/

/-- A small word as an integer. -/
theorem word_toInt (n : ℕ) (h : n < 2 ^ 31) : (BitVec.ofNat 32 n).toInt = (n : ℤ) := WordCmp.toInt_ofNat_of_lt h

/-- A trip's count column: how many entries of the sequence the window has. -/
theorem count_apply (g k : ℕ) (hg : g < 4) (hk : k < 4) (kk : Fin k0_t2_loop.trips) (hkk : kk.val = k) (r : Fin 1024) :
    ((k0_pay13 (F := Ideal) (BitVec.ofNat 32 g) 0#32 1#32 kk : FVec Ideal S1024x1 .f32) (ix2 r 0) : EReal)
      = ((cnt (width g) (1024 * k + r.val) : ℝ) : EReal) := by
  pointwise [k0_pay13]
  have hr := r.isLt
  have e1 : IntOp.addi (IntOp.addi (Scalar.muli (Scf.iv 0#32 1#32 kk.val) 1024#32) (BitVec.ofNat 32 r.val)) 1#32
      = BitVec.ofNat 32 (1024 * k + r.val + 1) := by
    unfold Scf.iv Scalar.muli IntOp.muli IntOp.addi
    rw [hkk]
    apply BitVec.eq_of_toNat_eq
    simp only [BitVec.toNat_add, BitVec.toNat_mul, BitVec.toNat_ofNat]
    omega
  have e2 : Scalar.shli 2#32 (BitVec.ofNat 32 g) = BitVec.ofNat 32 (width g) := by
    rcases (show g = 0 ∨ g = 1 ∨ g = 2 ∨ g = 3 by omega) with rfl | rfl | rfl | rfl <;> decide
  have hw : width g ≤ 16 := by
    rcases (show g = 0 ∨ g = 1 ∨ g = 2 ∨ g = 3 by omega) with rfl | rfl | rfl | rfl <;> decide
  rw [e1, e2]
  show (((IntOp.minsi (BitVec.ofNat 32 (1024 * k + r.val + 1)) (BitVec.ofNat 32 (width g))).toInt : ℝ) : EReal) = _
  have e3 : (IntOp.minsi (BitVec.ofNat 32 (1024 * k + r.val + 1)) (BitVec.ofNat 32 (width g))).toInt = ((min (1024 * k + r.val + 1) (width g) : ℕ) : ℤ) := by
    have h1 := word_toInt (1024 * k + r.val + 1) (by omega)
    have h2 := word_toInt (width g) (by omega)
    unfold IntOp.minsi
    rw [BitVec.slt_eq_decide, h1, h2]
    by_cases h : ((1024 * k + r.val + 1 : ℕ) : ℤ) < (width g : ℤ)
    · simp only [h, decide_true, if_true]; rw [h1]; congr 1; omega
    · simp only [h, decide_false]; rw [if_neg (by decide), h2]; congr 1; omega
  rw [e3]
  unfold cnt
  norm_cast

/-! ## The pooled chunk -/

/-- The window that ends at row `16 + r` of a chunk whose rows are those of a sequence with sixteen zeros before it. -/
theorem back_chunk (w K r : ℕ) (hw : w ≤ r + 1) (u : ℕ → EReal) : back w (fun s => u (K + s)) r = back w u (K + r) := by
  refine Finset.sum_congr rfl fun i hi => ?_
  have := Finset.mem_range.1 hi
  show u (K + (r - i)) = u (K + r - i)
  congr 1
  omega

theorem pooled_apply (g k : ℕ) (hg : g < 4) (hk : k < 4) (kk : Fin k0_t2_loop.trips) (hkk : kk.val = k) (v24 : Vec Ideal S1040x128 .f32)
    (u : ℕ → ℕ → EReal) (c : Fin 128) (hv : ∀ r : Fin 1040, (v24 (ix2 r c) : EReal) = after16 (fun s => u s c) (1024 * k + r.val)) (r : Fin 1024) :
    ((k0_pay14 (F := Ideal) (BitVec.ofNat 32 g) 0#32 1#32 kk v24 : FVec Ideal S1024x128 .bf16) (ix2 r c) : EReal)
      = pooled (width g) u (1024 * k + r.val) c := by
  have hr := r.isLt
  have b1 : ∀ q : Fin 1040, 1 ≤ q.val + 1 → (v24 (ix2 q c) : EReal) = back 1 (fun s => after16 (fun s => u s c) (1024 * k + s)) q := by
    intro q _; rw [hv q, back_one]
  have b2 := doubleBack v24 1#32 1 rfl (by omega) (by omega) _ c b1
  have b4 := doubleBack _ 2#32 (2 * 1) rfl (by omega) (by omega) _ c b2
  have b8 := doubleBack _ 4#32 (2 * (2 * 1)) rfl (by omega) (by omega) _ c b4
  have b16 := doubleBack _ 8#32 (2 * (2 * (2 * 1))) rfl (by omega) (by omega) _ c b8
  have key : ∀ (w : ℕ), w ≤ 16 → back w (fun s => after16 (fun s => u s c) (1024 * k + s)) (16 + r.val) = trail w (fun s => u s c) (1024 * k + r.val) := by
    intro w hw
    rw [back_chunk w _ _ (by omega), ← back_after16]
    congr 1
    omega
  unfold k0_pay14
  dsimp only
  generalize hX : (Scalar.select (Scalar.cmpi .eq (BitVec.ofNat 32 g) 0#32) _ _ : FVec Ideal S1040x128 .f32) = X
  have hXv : (X (ix2 ⟨16 + r.val, by omega⟩ c) : EReal) = trail (width g) (fun s => u s c) (1024 * k + r.val) := by
    rw [← hX]
    refine choose4 (α := FVec Ideal S1040x128 .f32) g hg _ _ _ _
      (fun n x => (x (ix2 ⟨16 + r.val, by omega⟩ c) : EReal) = trail (width n) (fun s => u s c) (1024 * k + r.val)) ?_ ?_ ?_ ?_
    · exact (b2 _ (by show _ ≤ 16 + r.val + 1; omega)).trans (key _ (by omega))
    · exact (b4 _ (by show _ ≤ 16 + r.val + 1; omega)).trans (key _ (by omega))
    · exact (b8 _ (by show _ ≤ 16 + r.val + 1; omega)).trans (key _ (by omega))
    · exact (b16 _ (by show _ ≤ 16 + r.val + 1; omega)).trans (key _ (by omega))
  clear hX
  pointwise []
  rw [hXv, count_apply g k hg hk kk hkk, hv]
  unfold pooled after16
  rw [if_neg (by show ¬ 1024 * k + (16 + r.val) < 16; omega), show 1024 * k + (16 + r.val) - 16 = 1024 * k + r.val by omega]

/-! ## The input's cotangent -/

theorem dinput_apply (k : ℕ) (i : grid0.Coords) (v24 : Vec Ideal S1040x128 .f32) (v41 : Vec Ideal S1024x128 .f32)
    (z : ℕ → EReal) (c : Fin 128) (hv : ∀ r : Fin 1040, (v24 (ix2 r c) : EReal) = cut 4096 z (1024 * k + r.val)) (r : Fin 1024) :
    ((k0_pay12 (F := Ideal) i v24 v41 : FVec Ideal S1024x128 .bf16) (ix2 r c) : EReal)
      = lead (width (i 0).val) 4096 z (1024 * k + r.val) - (v41 (ix2 r c) : EReal) := by
  have hr := r.isLt
  have hg : (i 0).val < 4 := (i 0).isLt
  have b1 : ∀ q : Fin 1040, q.val + 1 ≤ 1040 → (v24 (ix2 q c) : EReal) = ahead 1 (fun s => cut 4096 z (1024 * k + s)) q := by
    intro q _; rw [hv q, ahead_one]
  have b2 := doubleAhead v24 1039#32 1 rfl (by omega) (by omega) _ c b1
  have b4 := doubleAhead _ 1038#32 (2 * 1) rfl (by omega) (by omega) _ c b2
  have b8 := doubleAhead _ 1036#32 (2 * (2 * 1)) rfl (by omega) (by omega) _ c b4
  have b16 := doubleAhead _ 1032#32 (2 * (2 * (2 * 1))) rfl (by omega) (by omega) _ c b8
  have key : ∀ (w : ℕ), ahead w (fun s => cut 4096 z (1024 * k + s)) r.val = lead w 4096 z (1024 * k + r.val) := by
    intro w
    rw [← ahead_cut]
    refine Finset.sum_congr rfl fun j _ => ?_
    rw [Nat.add_assoc]
  unfold k0_pay12
  dsimp only
  generalize hX : (Scalar.select (Scalar.cmpi .eq (BitVec.ofNat 32 (i 0).val) 0#32) _ _ : FVec Ideal S1040x128 .f32) = X
  have hXv : (X (ix2 ⟨r.val, by omega⟩ c) : EReal) = lead (width (i 0).val) 4096 z (1024 * k + r.val) := by
    rw [← hX]
    refine choose4 (α := FVec Ideal S1040x128 .f32) (i 0).val hg _ _ _ _
      (fun n x => (x (ix2 ⟨r.val, by omega⟩ c) : EReal) = lead (width n) 4096 z (1024 * k + r.val)) ?_ ?_ ?_ ?_
    · exact (b2 _ (by show r.val + _ ≤ 1040; omega)).trans (key _)
    · exact (b4 _ (by show r.val + _ ≤ 1040; omega)).trans (key _)
    · exact (b8 _ (by show r.val + _ ≤ 1040; omega)).trans (key _)
    · exact (b16 _ (by show r.val + _ ≤ 1040; omega)).trans (key _)
  clear hX
  pointwise []
  rw [hXv]

/-! ## The other payloads -/

/-- A sum over a finite type of the first numbers is a sum over a range. -/
theorem sum_fin (n : ℕ) (f : ℕ → EReal) : (∑ x : Fin n, f x.val) = ∑ x ∈ Finset.range n, f x := Fin.sum_univ_eq_sum_range f n

theorem dpool_apply (K : ℕ) (v15 : Vec Ideal S1x128x128 .f32) (v18 : Vec Ideal S1x128 .f32) (v56 : Vec Ideal S1024x128 .f32)
    (dm : ℕ → ℕ → EReal) (s : ℕ → EReal) (wt : ℕ → ℕ → EReal) (h15 : ∀ c d : Fin 128, (v15 (ix3 0 c d) : EReal) = wt c d)
    (h18 : ∀ d : Fin 128, (v18 (ix2 0 d) : EReal) = s d) (r : Fin 1024) (h56 : ∀ d : Fin 128, (v56 (ix2 r d) : EReal) = dm (K + r.val) d) (c : Fin 128) :
    ((k0_pay9 (F := Ideal) v15 v18 v56 : FVec Ideal S1024x128 .f32) (ix2 r c) : EReal) = dpool dm s wt (K + r.val) c := by
  pointwise [k0_pay9, k0_pay7, k0_pay6]
  unfold dpool dmix
  rw [← sum_fin]
  refine Finset.sum_congr rfl fun d _ => ?_
  rw [h15, h18, h56]

theorem dpoolOver_apply (g k : ℕ) (hg : g < 4) (hk : k < 4) (kk : Fin k0_t2_loop.trips) (hkk : kk.val = k) (v15 : Vec Ideal S1x128x128 .f32)
    (v18 : Vec Ideal S1x128 .f32) (v56 : Vec Ideal S1024x128 .f32) (dm : ℕ → ℕ → EReal) (s : ℕ → EReal) (wt : ℕ → ℕ → EReal)
    (h15 : ∀ c d : Fin 128, (v15 (ix3 0 c d) : EReal) = wt c d) (h18 : ∀ d : Fin 128, (v18 (ix2 0 d) : EReal) = s d) (r : Fin 1024)
    (h56 : ∀ d : Fin 128, (v56 (ix2 r d) : EReal) = dm (1024 * k + r.val) d) (c : Fin 128) :
    ((k0_pay11 (F := Ideal) v15 v18 (k0_pay13 (F := Ideal) (BitVec.ofNat 32 g) 0#32 1#32 kk) v56 : FVec Ideal S1024x128 .f32) (ix2 r c) : EReal)
      = Ideal.div (dpool dm s wt (1024 * k + r.val) c) ((cnt (width g) (1024 * k + r.val) : ℝ) : EReal) := by
  pointwise [k0_pay11]
  rw [dpool_apply (1024 * k) v15 v18 v56 dm s wt h15 h18 r h56 c, count_apply g k hg hk kk hkk]

theorem dweightStep_apply (K : ℕ) (v18 : Vec Ideal S1x128 .f32) (v53 : FVec Ideal S1024x128 .bf16) (v56 : Vec Ideal S1024x128 .f32)
    (v67 : Vec Ideal S1x128x128 .f32) (w : ℕ) (u dm : ℕ → ℕ → EReal) (s : ℕ → EReal) (h18 : ∀ d : Fin 128, (v18 (ix2 0 d) : EReal) = s d)
    (h53 : ∀ (r : Fin 1024) (c : Fin 128), (v53 (ix2 r c) : EReal) = pooled w u (K + r.val) c)
    (h56 : ∀ (r : Fin 1024) (d : Fin 128), (v56 (ix2 r d) : EReal) = dm (K + r.val) d)
    (h67 : ∀ c d : Fin 128, (v67 (ix3 0 c d) : EReal) = dweight K w u dm s c d) (c d : Fin 128) :
    ((k0_pay8 (F := Ideal) v18 v53 v56 v67 : FVec Ideal S1x128x128 .f32) (ix3 0 c d) : EReal) = dweight (K + 1024) w u dm s c d := by
  pointwise [k0_pay8, k0_pay7]
  rw [h67]
  unfold dweight
  rw [Finset.sum_range_add, ← sum_fin 1024]
  congr 1
  refine Finset.sum_congr rfl fun r _ => ?_
  rw [h53, h56, h18]
  rfl

theorem dscaleStep_apply (g k : ℕ) (hg : g < 4) (hk : k < 4) (kk : Fin k0_t2_loop.trips) (hkk : kk.val = k) (v15 : Vec Ideal S1x128x128 .f32)
    (v24 : Vec Ideal S1040x128 .f32) (v56 : Vec Ideal S1024x128 .f32) (v57 : Vec Ideal S1x128 .f32) (u dm wt : ℕ → ℕ → EReal)
    (hv : ∀ (r : Fin 1040) (c : Fin 128), (v24 (ix2 r c) : EReal) = after16 (fun s => u s c) (1024 * k + r.val))
    (h15 : ∀ c d : Fin 128, (v15 (ix3 0 c d) : EReal) = wt c d)
    (h56 : ∀ (r : Fin 1024) (d : Fin 128), (v56 (ix2 r d) : EReal) = dm (1024 * k + r.val) d)
    (h57 : ∀ d : Fin 128, (v57 (ix2 0 d) : EReal) = dscale (1024 * k) (width g) u dm wt d) (d : Fin 128) :
    ((k0_pay15 (F := Ideal) (BitVec.ofNat 32 g) (k0_pay6 v15) 0#32 1#32 kk v24 v56 v57 : FVec Ideal S1x128 .f32) (ix2 0 d) : EReal)
      = dscale (1024 * k + 1024) (width g) u dm wt d := by
  pointwise [k0_pay15, k0_pay6]
  rw [h57]
  unfold dscale
  rw [Finset.sum_range_add, ← sum_fin 1024]
  congr 1
  refine Finset.sum_congr rfl fun r _ => ?_
  rw [h56]
  congr 1
  unfold mixed
  rw [← sum_fin 128]
  refine Finset.sum_congr rfl fun c _ => ?_
  rw [h15, pooled_apply g k hg hk kk hkk v24 u c (fun r => hv r c) r]

/-- The zeros a store begins with. -/
theorem zeros8_apply (r : Fin 16) (c : Fin 128) : ((k0_pay1 (F := Ideal) : FVec Ideal S16x128 .f32) (ix2 r c) : EReal) = 0 := by pointwise [k0_pay1]

theorem zeros9_apply (r : Fin 16) (c : Fin 128) : ((k0_pay3 (F := Ideal) : FVec Ideal S16x128 .f32) (ix2 r c) : EReal) = 0 := by pointwise [k0_pay3]

theorem zeros6_apply (c d : Fin 128) : ((k0_pay4 (F := Ideal) : FVec Ideal S1x128x128 .f32) (ix3 0 c d) : EReal) = 0 := by pointwise [k0_pay4]

theorem zeros7_apply (d : Fin 128) : ((k0_pay5 (F := Ideal) : FVec Ideal S1x128 .f32) (ix2 0 d) : EReal) = 0 := by pointwise [k0_pay5]

theorem copy_apply (v : Vec Ideal S1024x128 .f32) : (k0_pay2 v : FVec Ideal S1024x128 .f32) = v := by
  funext j
  rw [show j = ix2 (j 0) (j 1) from eq_ix2 j]
  pointwise [k0_pay2]

theorem copy10 (v15 : Vec Ideal S1x128x128 .f32) (v18 : Vec Ideal S1x128 .f32) (v56 : Vec Ideal S1024x128 .f32) :
    (k0_pay10 v15 v18 v56 : FVec Ideal S1024x128 .f32) = k0_pay9 v15 v18 v56 := by
  funext j
  rw [show j = ix2 (j 0) (j 1) from eq_ix2 j]
  pointwise [k0_pay10]

end Cert.Pool.Ker

end
-- ==== Proof.Chunks.lean ====
/- What the kernel's three loops leave in the buffers they write, over any contents the buffers had before: the input behind sixteen zeros,
   the cotangent of the pooled channels and its quotient by the count, the two gradients that sum over positions, and the input's cotangent. -/
module

public import proofs.«01_k».proof.Proof.Gen.KernelIdeal.Loops
public import proofs.«01_k».proof.Proof.Payloads
public import Idealize.ShloMosaic.Lib.WritesUnit
public import Idealize.ShloMosaic.Lib.VecWindow

@[expose] public section

set_option maxRecDepth 16384

noncomputable section

namespace Cert.Pool.Ker

open Idealize.ShloMosaic Cert.KernelIdeal Cert.KernelIdeal.Gen Cert.Pool

/-! ## Rows of a buffer -/

/-- A load of the rows from `a` on, read at an index. -/
theorem readAt_rows {N n : ℕ} {e : EltTy} (v : View sig .tc .vmem ⟨2, ![N, 128]⟩ e) (f : v.ty.Contents (Elt Ideal)) {off : Fin 2 → ℕ} (a : ℕ)
    (hoff : off = ![a, 0]) (inb : ∀ x : Fin 2, off x + (![n, 128] : Fin 2 → ℕ) x ≤ (![N, 128] : Fin 2 → ℕ) x) (r : Fin n) (c : Fin 128) (q : Fin N)
    (hq : q.val = a + r.val) :
    v.readAt (Elt Ideal) (Rect.unit (s := ⟨2, ![N, 128]⟩) off ![n, 128] inb).toLoadRect f (ix2 r c) = v.read (Elt Ideal) f (ix2 q c) := by
  subst hoff
  refine congrArg (v.read (Elt Ideal) f) (funext fun x => Fin.ext ?_)
  match x with
  | ⟨0, _⟩ => show a + 1 * r.val = q.val; omega
  | ⟨1, _⟩ => show 0 + 1 * c.val = c.val; omega

/-- A store of rows, read at one of them. -/
theorem read_rows_in {N n : ℕ} {e : EltTy} (v : View sig .tc .vmem ⟨2, ![N, 128]⟩ e) (f : v.ty.Contents (Elt Ideal)) {off : Fin 2 → ℕ} (a : ℕ)
    (hoff : off = ![a, 0]) (inb : ∀ x : Fin 2, off x + (![n, 128] : Fin 2 → ℕ) x ≤ (![N, 128] : Fin 2 → ℕ) x)
    (w : (⟨2, ![n, 128]⟩ : Shape).Idx → Elt Ideal e) (L : List (View.Piece (Elt Ideal) ⟨2, ![N, 128]⟩ e)) (q : Fin N) (c : Fin 128) (r : Fin n)
    (hq : q.val = a + r.val) :
    v.read (Elt Ideal) (v.writes (Elt Ideal) f (⟨Rect.unit (s := ⟨2, ![N, 128]⟩) off ![n, 128] inb, w⟩ :: L)) (ix2 q c) = w (ix2 r c) :=
  View.read_writes_cons_rows_of_mem v f inb w L (ix2 q c) (ix2 r c) hoff hq rfl

/-- A store of rows, read at another. -/
theorem read_rows_out {N n : ℕ} {e : EltTy} (v : View sig .tc .vmem ⟨2, ![N, 128]⟩ e) (f : v.ty.Contents (Elt Ideal)) {off : Fin 2 → ℕ} (a : ℕ)
    (hoff : off = ![a, 0]) (inb : ∀ x : Fin 2, off x + (![n, 128] : Fin 2 → ℕ) x ≤ (![N, 128] : Fin 2 → ℕ) x)
    (w : (⟨2, ![n, 128]⟩ : Shape).Idx → Elt Ideal e) (L : List (View.Piece (Elt Ideal) ⟨2, ![N, 128]⟩ e)) (q : Fin N) (c : Fin 128)
    (hq : q.val < a ∨ a + n ≤ q.val) :
    v.read (Elt Ideal) (v.writes (Elt Ideal) f (⟨Rect.unit (s := ⟨2, ![N, 128]⟩) off ![n, 128] inb, w⟩ :: L)) (ix2 q c)
      = v.read (Elt Ideal) (v.writes (Elt Ideal) f L) (ix2 q c) :=
  View.read_writes_cons_rows_of_not_mem v f inb w L (ix2 q c) hoff rfl hq

/-! ## The offsets of a trip -/

theorem trips1 : k0_t1_loop.trips = 4 := by decide
theorem trips2 : k0_t2_loop.trips = 4 := by decide
theorem trips3 : k0_t3_loop.trips = 4 := by decide

theorem row_word (k n : ℕ) (hk : k < 4) (hn : n ≤ 16) :
    (Scalar.addi (Scalar.muli (Scf.iv 0#32 1#32 k) 1024#32) (BitVec.ofNat 32 n)).toNat = 1024 * k + n := by
  unfold Scf.iv Scalar.muli Scalar.addi IntOp.muli IntOp.addi
  simp only [BitVec.toNat_add, BitVec.toNat_mul, BitVec.toNat_ofNat]
  omega

theorem row_word0 (k : ℕ) (hk : k < 4) : (Scalar.muli (Scf.iv 0#32 1#32 k) 1024#32).toNat = 1024 * k := by
  unfold Scf.iv Scalar.muli IntOp.muli
  simp only [BitVec.toNat_add, BitVec.toNat_mul, BitVec.toNat_ofNat]
  omega

theorem off1 (k : Fin k0_t1_loop.trips) : k0_off1 k = ![1024 * k.val, 0] := by
  have := row_word0 k.val (by have := k.isLt; have := trips1; omega)
  exact congrArg (fun n => (![n, 0] : Fin 2 → ℕ)) this

theorem off2 (k : Fin k0_t1_loop.trips) : k0_off2 k = ![1024 * k.val + 16, 0] := by
  have := row_word k.val 16 (by have := k.isLt; have := trips1; omega) (by omega)
  exact congrArg (fun n => (![n, 0] : Fin 2 → ℕ)) this

theorem off3 (k : Fin k0_t2_loop.trips) : k0_off3 k = ![1024 * k.val, 0] := by
  have := row_word0 k.val (by have := k.isLt; have := trips2; omega)
  exact congrArg (fun n => (![n, 0] : Fin 2 → ℕ)) this

theorem off4 (k : Fin k0_t2_loop.trips) : k0_off4 k = ![1024 * k.val, 0] := by
  have := row_word0 k.val (by have := k.isLt; have := trips2; omega)
  exact congrArg (fun n => (![n, 0] : Fin 2 → ℕ)) this

theorem off5 (k : Fin k0_t2_loop.trips) : k0_off5 k = ![1024 * k.val, 0] := by
  have := row_word0 k.val (by have := k.isLt; have := trips2; omega)
  exact congrArg (fun n => (![n, 0] : Fin 2 → ℕ)) this

theorem off6 (k : Fin k0_t3_loop.trips) : k0_off6 k = ![1024 * k.val, 0] := by
  have := row_word0 k.val (by have := k.isLt; have := trips3; omega)
  exact congrArg (fun n => (![n, 0] : Fin 2 → ℕ)) this

theorem off7 (k : Fin k0_t3_loop.trips) : k0_off7 k = ![1024 * k.val, 0] := by
  have := row_word0 k.val (by have := k.isLt; have := trips3; omega)
  exact congrArg (fun n => (![n, 0] : Fin 2 → ℕ)) this

/-! ## The loops -/

variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole)
  (arg3 : Memref sig .tc .vmem S1x128x128 .f32) (harg3 : arg3.IsWhole) (arg4 : Memref sig .tc .vmem S1x128 .f32) (harg4 : arg4.IsWhole)
  (arg5 : Memref sig .tc .vmem S4096x128 .bf16) (harg5 : arg5.IsWhole) (arg6 : Memref sig .tc .vmem S1x128x128 .f32) (harg6 : arg6.IsWhole)
  (arg7 : Memref sig .tc .vmem S1x128 .f32) (harg7 : arg7.IsWhole) (arg8 : Memref sig .tc .vmem S4112x128 .f32) (harg8 : arg8.IsWhole)
  (arg9 : Memref sig .tc .vmem S4112x128 .f32) (harg9 : arg9.IsWhole) (arg10 : Memref sig .tc .vmem S4096x128 .f32) (harg10 : arg10.IsWhole)

/-- The first loop's store in trip `k`. -/
theorem trip1 (X : BufTy.Contents (Elt Ideal) arg1.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 X k
      = [⟨Rect.unit (s := S4112x128) (k0_off2 k) S1024x128.size (k0_off2_inb k),
          k0_pay2 (View.readAt (Elt Ideal) arg1.view (Rect.unit (s := S4096x128) (k0_off1 k) S1024x128.size (k0_off1_inb k)).toLoadRect X)⟩] := by
  unfold tripL_k0_t1 trip_k0_t1
  rfl

/-- The first loop after `k` trips: sixteen rows of zeros, then the input's rows. -/
theorem loop1 (X : BufTy.Contents (Elt Ideal) arg1.view.ty) (u : ℕ → ℕ → EReal)
    (hX : ∀ (t : Fin 4096) (d : Fin 128), (arg1.view.read (Elt Ideal) X (ix2 t d) : EReal) = u t d) (G : BufTy.Contents (Elt Ideal) arg8.view.ty)
    (hG : ∀ (r : Fin 4112) (d : Fin 128), r.val < 16 → (arg8.view.read (Elt Ideal) G (ix2 r d) : EReal) = 0) (k : ℕ) (hk : k ≤ 4) (r : Fin 4112)
    (d : Fin 128) (hr : r.val < 16 + 1024 * k) :
    (arg8.view.read (Elt Ideal) (arg8.view.writes (Elt Ideal) G (pb_k0_t1 (F := Ideal) 𝒱 c bd i arg1 harg1 arg2 harg2 arg3 harg3 arg4 harg4 arg5 harg5
      arg6 harg6 arg7 harg7 arg8 harg8 arg9 harg9 arg10 harg10 X k)) (ix2 r d) : EReal) = after16 (fun s => u s d) r := by
  induction k with
  | zero =>
    rw [pb_k0_t1.eq_1, View.writes_nil, hG r d (by omega)]
    unfold after16
    rw [if_pos (by omega)]
  | succ k ih =>
    have hkt : k < k0_t1_loop.trips := by have := trips1; omega
    have e := pb_k0_t1_succ (F := Ideal) 𝒱 c bd i arg1 harg1 arg2 harg2 arg3 harg3 arg4 harg4 arg5 harg5 arg6 harg6 arg7 harg7 arg8 harg8 arg9 harg9 arg10
      harg10 X ⟨k, hkt⟩
    rw [show k + 1 = (⟨k, hkt⟩ : Fin k0_t1_loop.trips).val + 1 from rfl, e, trip1, List.singleton_append]
    by_cases h : r.val < 16 + 1024 * k
    · rw [read_rows_out arg8.view G (1024 * k + 16) (off2 ⟨k, hkt⟩) _ _ _ r d (Or.inl (by omega))]
      exact ih (by omega) h
    · have hr' : r.val - (1024 * k + 16) < 1024 := by omega
      rw [read_rows_in arg8.view G (1024 * k + 16) (off2 ⟨k, hkt⟩) _ _ _ r d ⟨r.val - (1024 * k + 16), hr'⟩ (by show r.val = _ + (_ - _); omega), copy_apply,
        readAt_rows arg1.view X (1024 * k) (off1 ⟨k, hkt⟩) _ ⟨r.val - (1024 * k + 16), hr'⟩ d ⟨r.val - 16, by omega⟩
          (by show r.val - 16 = _ + (_ - _); omega), hX]
      unfold after16
      rw [if_neg (by omega)]

/-- What the second loop's trip `k` stores in the four buffers it writes. -/
theorem trip2 (g : BitVec 32) (v15 : Vec Ideal S1x128x128 .f32) (v18 : Vec Ideal S1x128 .f32) (X2 : BufTy.Contents (Elt Ideal) arg2.view.ty)
    (X8 : BufTy.Contents (Elt Ideal) arg8.view.ty) (k : Fin k0_t2_loop.trips) (f6 : BufTy.Contents (Elt Ideal) arg6.view.ty)
    (f7 : BufTy.Contents (Elt Ideal) arg7.view.ty) (f9 : BufTy.Contents (Elt Ideal) arg9.view.ty) (f10 : BufTy.Contents (Elt Ideal) arg10.view.ty)
    (v24 : Vec Ideal S1040x128 .f32)
    (h24 : v24 = View.readAt (Elt Ideal) arg8.view (Rect.unit (s := S4112x128) (k0_off3 k) S1040x128.size (k0_off3_inb k)).toLoadRect X8)
    (v56 : Vec Ideal S1024x128 .f32)
    (h56 : v56 = View.readAt (Elt Ideal) arg2.view (Rect.unit (s := S4096x128) (k0_off4 k) S1024x128.size (k0_off4_inb k)).toLoadRect X2) :
    tripL_k0_t2 (F := Ideal) 𝒱 c bd i arg1 harg1 arg2 harg2 arg3 harg3 arg4 harg4 arg5 harg5 arg6 harg6 arg7 harg7 arg8 harg8 arg9 harg9 arg10 harg10
        g v15 v18 X2 X8 k f6 f7 f9 f10
      = ([⟨Rect.unit (s := S1x128x128) ![0, 0, 0] S1x128x128.size inb_S1x128x128_S1x128x128_0_0_0,
          k0_pay8 v18 (k0_pay14 g 0#32 1#32 k v24) v56
            (View.readAt (Elt Ideal) arg6.view (Rect.unit (s := S1x128x128) ![0, 0, 0] S1x128x128.size inb_S1x128x128_S1x128x128_0_0_0).toLoadRect f6)⟩],
        [⟨Rect.unit (s := S1x128) ![0, 0] S1x128.size inb_S1x128_S1x128_0_0,
          k0_pay15 g (k0_pay6 v15) 0#32 1#32 k v24 v56
            (View.readAt (Elt Ideal) arg7.view (Rect.unit (s := S1x128) ![0, 0] S1x128.size inb_S1x128_S1x128_0_0).toLoadRect f7)⟩],
        [⟨Rect.unit (s := S4112x128) (k0_off5 k) S1024x128.size (k0_off5_inb k), k0_pay11 v15 v18 (k0_pay13 g 0#32 1#32 k) v56⟩],
        [⟨Rect.unit (s := S4096x128) (k0_off4 k) S1024x128.size (k0_off4_inb k), k0_pay10 v15 v18 v56⟩]) := by
  subst h24 h56
  unfold tripL_k0_t2 trip_k0_t2
  rfl

/-- What the four buffers of the second loop hold after `k` trips. -/
structure Held (w : ℕ) (u dm : ℕ → ℕ → EReal) (s : ℕ → EReal) (wt : ℕ → ℕ → EReal) (k : ℕ) (f6 : BufTy.Contents (Elt Ideal) arg6.view.ty)
    (f7 : BufTy.Contents (Elt Ideal) arg7.view.ty) (f9 : BufTy.Contents (Elt Ideal) arg9.view.ty) (f10 : BufTy.Contents (Elt Ideal) arg10.view.ty) : Prop where
  weight : ∀ a b : Fin 128, (arg6.view.read (Elt Ideal) f6 (ix3 0 a b) : EReal) = dweight (1024 * k) w u dm s a b
  scale : ∀ b : Fin 128, (arg7.view.read (Elt Ideal) f7 (ix2 0 b) : EReal) = dscale (1024 * k) w u dm wt b
  over : ∀ (r : Fin 4112) (a : Fin 128), r.val < 1024 * k →
    (arg9.view.read (Elt Ideal) f9 (ix2 r a) : EReal) = Ideal.div (dpool dm s wt r a) ((cnt w r : ℝ) : EReal)
  halo : ∀ (r : Fin 4112) (a : Fin 128), 4096 ≤ r.val → (arg9.view.read (Elt Ideal) f9 (ix2 r a) : EReal) = 0
  pool : ∀ (r : Fin 4096) (a : Fin 128), r.val < 1024 * k → (arg10.view.read (Elt Ideal) f10 (ix2 r a) : EReal) = dpool dm s wt r a

/-- The second loop after `k` trips. -/
theorem loop2 (g : ℕ) (hg : g < 4) (v15 : Vec Ideal S1x128x128 .f32) (v18 : Vec Ideal S1x128 .f32) (X2 : BufTy.Contents (Elt Ideal) arg2.view.ty)
    (X8 : BufTy.Contents (Elt Ideal) arg8.view.ty) (u dm : ℕ → ℕ → EReal) (s : ℕ → EReal) (wt : ℕ → ℕ → EReal)
    (h15 : ∀ a b : Fin 128, (v15 (ix3 0 a b) : EReal) = wt a b) (h18 : ∀ b : Fin 128, (v18 (ix2 0 b) : EReal) = s b)
    (h2 : ∀ (t : Fin 4096) (b : Fin 128), (arg2.view.read (Elt Ideal) X2 (ix2 t b) : EReal) = dm t b)
    (h8 : ∀ (r : Fin 4112) (a : Fin 128), (arg8.view.read (Elt Ideal) X8 (ix2 r a) : EReal) = after16 (fun t => u t a) r)
    (G6 : BufTy.Contents (Elt Ideal) arg6.view.ty) (G7 : BufTy.Contents (Elt Ideal) arg7.view.ty) (G9 : BufTy.Contents (Elt Ideal) arg9.view.ty)
    (G10 : BufTy.Contents (Elt Ideal) arg10.view.ty) (hG : Held arg6 arg7 arg9 arg10 (width g) u dm s wt 0 G6 G7 G9 G10) (k : ℕ) (hk : k ≤ 4)
    (pb : List (View.Piece (Elt Ideal) S1x128x128 .f32) × List (View.Piece (Elt Ideal) S1x128 .f32) × List (View.Piece (Elt Ideal) S4112x128 .f32)
      × List (View.Piece (Elt Ideal) S4096x128 .f32))
    (hpb : pb = pb_k0_t2 (F := Ideal) 𝒱 c bd i arg1 harg1 arg2 harg2 arg3 harg3 arg4 harg4 arg5 harg5 arg6 harg6 arg7 harg7 arg8 harg8 arg9 harg9 arg10 harg10
      (BitVec.ofNat 32 g) v15 v18 X2 X8 G6 G7 G9 G10 k) :
    Held arg6 arg7 arg9 arg10 (width g) u dm s wt k (arg6.view.writes (Elt Ideal) G6 pb.1) (arg7.view.writes (Elt Ideal) G7 pb.2.1)
      (arg9.view.writes (Elt Ideal) G9 pb.2.2.1) (arg10.view.writes (Elt Ideal) G10 pb.2.2.2) := by
  induction k generalizing pb with
  | zero =>
    rw [pb_k0_t2.eq_1] at hpb
    subst hpb
    exact hG
  | succ k ih =>
    have hkt : k < k0_t2_loop.trips := by have := trips2; omega
    have hk4 : k < 4 := by omega
    have ih' := ih (by omega) _ rfl
    have e := pb_k0_t2_succ (F := Ideal) 𝒱 c bd i arg1 harg1 arg2 harg2 arg3 harg3 arg4 harg4 arg5 harg5 arg6 harg6 arg7 harg7 arg8 harg8 arg9 harg9 arg10 harg10
      (BitVec.ofNat 32 g) v15 v18 X2 X8 G6 G7 G9 G10 ⟨k, hkt⟩
    rw [show k + 1 = (⟨k, hkt⟩ : Fin k0_t2_loop.trips).val + 1 from rfl, e] at hpb
    clear e
    revert ih' hpb
    generalize pb_k0_t2 (F := Ideal) 𝒱 c bd i arg1 harg1 arg2 harg2 arg3 harg3 arg4 harg4 arg5 harg5 arg6 harg6 arg7 harg7 arg8 harg8 arg9 harg9 arg10 harg10
      (BitVec.ofNat 32 g) v15 v18 X2 X8 G6 G7 G9 G10 k = prev
    intro hpb ih'
    have q24 : ∀ (r : Fin 1040) (a : Fin 128), (View.readAt (Elt Ideal) arg8.view (Rect.unit (s := S4112x128) (k0_off3 ⟨k, hkt⟩) S1040x128.size
        (k0_off3_inb ⟨k, hkt⟩)).toLoadRect X8 (ix2 r a) : EReal) = after16 (fun t => u t a) (1024 * k + r.val) := by
      intro r a
      rw [readAt_rows arg8.view X8 (1024 * k) (off3 ⟨k, hkt⟩) _ r a ⟨1024 * k + r.val, by omega⟩ rfl, h8]
    have q56 : ∀ (r : Fin 1024) (a : Fin 128), (View.readAt (Elt Ideal) arg2.view (Rect.unit (s := S4096x128) (k0_off4 ⟨k, hkt⟩) S1024x128.size
        (k0_off4_inb ⟨k, hkt⟩)).toLoadRect X2 (ix2 r a) : EReal) = dm (1024 * k + r.val) a := by
      intro r a
      rw [readAt_rows arg2.view X2 (1024 * k) (off4 ⟨k, hkt⟩) _ r a ⟨1024 * k + r.val, by omega⟩ rfl, h2]
    generalize h24 : View.readAt (Elt Ideal) arg8.view (Rect.unit (s := S4112x128) (k0_off3 ⟨k, hkt⟩) S1040x128.size
      (k0_off3_inb ⟨k, hkt⟩)).toLoadRect X8 = v24 at q24
    generalize h56 : View.readAt (Elt Ideal) arg2.view (Rect.unit (s := S4096x128) (k0_off4 ⟨k, hkt⟩) S1024x128.size
      (k0_off4_inb ⟨k, hkt⟩)).toLoadRect X2 = v56 at q56
    rw [trip2 (h24 := h24.symm) (h56 := h56.symm)] at hpb
    subst hpb
    have q53 := fun (r : Fin 1024) (a : Fin 128) => pooled_apply g k hg hk4 ⟨k, hkt⟩ rfl v24 u a (fun r => q24 r a) r
    constructor
    · intro a b
      show (arg6.view.read (Elt Ideal) (arg6.view.writes (Elt Ideal) G6 (_ :: prev.1)) (ix3 0 a b) : EReal) = _
      rw [View.read_writes_full, View.readAt_full]
      exact dweightStep_apply (1024 * k) v18 _ v56 _ (width g) u dm s h18 q53 q56 ih'.weight a b
    · intro b
      show (arg7.view.read (Elt Ideal) (arg7.view.writes (Elt Ideal) G7 (_ :: prev.2.1)) (ix2 0 b) : EReal) = _
      rw [View.read_writes_full, View.readAt_full]
      exact dscaleStep_apply g k hg hk4 ⟨k, hkt⟩ rfl v15 v24 v56 _ u dm wt q24 h15 q56 ih'.scale b
    · intro r a hr
      show (arg9.view.read (Elt Ideal) (arg9.view.writes (Elt Ideal) G9 (_ :: prev.2.2.1)) (ix2 r a) : EReal) = _
      by_cases h : r.val < 1024 * k
      · rw [read_rows_out arg9.view G9 (1024 * k) (off5 ⟨k, hkt⟩) _ _ _ r a (Or.inl h)]
        exact ih'.over r a h
      · have hr' : r.val - 1024 * k < 1024 := by omega
        rw [read_rows_in arg9.view G9 (1024 * k) (off5 ⟨k, hkt⟩) _ _ _ r a ⟨r.val - 1024 * k, hr'⟩ (by show r.val = _ + (_ - _); omega)]
        refine (dpoolOver_apply g k hg hk4 ⟨k, hkt⟩ rfl v15 v18 v56 dm s wt h15 h18 ⟨r.val - 1024 * k, hr'⟩ (fun d => q56 _ d) a).trans ?_
        show Ideal.div (dpool dm s wt (1024 * k + (r.val - 1024 * k)) a) ((cnt (width g) (1024 * k + (r.val - 1024 * k)) : ℝ) : EReal) = _
        rw [Nat.add_sub_cancel' (by omega)]
    · intro r a hr
      show (arg9.view.read (Elt Ideal) (arg9.view.writes (Elt Ideal) G9 (_ :: prev.2.2.1)) (ix2 r a) : EReal) = _
      rw [read_rows_out arg9.view G9 (1024 * k) (off5 ⟨k, hkt⟩) _ _ _ r a (Or.inr (by omega))]
      exact ih'.halo r a hr
    · intro r a hr
      show (arg10.view.read (Elt Ideal) (arg10.view.writes (Elt Ideal) G10 (_ :: prev.2.2.2)) (ix2 r a) : EReal) = _
      by_cases h : r.val < 1024 * k
      · rw [read_rows_out arg10.view G10 (1024 * k) (off4 ⟨k, hkt⟩) _ _ _ r a (Or.inl h)]
        exact ih'.pool r a h
      · have hr' : r.val - 1024 * k < 1024 := by omega
        rw [read_rows_in arg10.view G10 (1024 * k) (off4 ⟨k, hkt⟩) _ _ _ r a ⟨r.val - 1024 * k, hr'⟩ (by show r.val = _ + (_ - _); omega), copy10]
        refine (dpool_apply (1024 * k) v15 v18 v56 dm s wt h15 h18 ⟨r.val - 1024 * k, hr'⟩ (fun d => q56 _ d) a).trans ?_
        show dpool dm s wt (1024 * k + (r.val - 1024 * k)) a = _
        rw [Nat.add_sub_cancel' (by omega)]

/-- The third loop's store in trip `k`. -/
theorem trip3 (X9 : BufTy.Contents (Elt Ideal) arg9.view.ty) (X10 : BufTy.Contents (Elt Ideal) arg10.view.ty) (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 X9 X10 k
      = [⟨Rect.unit (s := S4096x128) (k0_off7 k) S1024x128.size (k0_off7_inb k),
          k0_pay12 i (View.readAt (Elt Ideal) arg9.view (Rect.unit (s := S4112x128) (k0_off6 k) S1040x128.size (k0_off6_inb k)).toLoadRect X9)
            (View.readAt (Elt Ideal) arg10.view (Rect.unit (s := S4096x128) (k0_off7 k) S1024x128.size (k0_off7_inb k)).toLoadRect X10)⟩] := by
  unfold tripL_k0_t3 trip_k0_t3
  rfl

/-- The third loop after `k` trips: the rows it has reached hold the input's cotangent. -/
theorem loop3 (X9 : BufTy.Contents (Elt Ideal) arg9.view.ty) (X10 : BufTy.Contents (Elt Ideal) arg10.view.ty) (z p : ℕ → ℕ → EReal)
    (h9 : ∀ (r : Fin 4112) (a : Fin 128), (arg9.view.read (Elt Ideal) X9 (ix2 r a) : EReal) = cut 4096 (fun t => z t a) r)
    (h10 : ∀ (t : Fin 4096) (a : Fin 128), (arg10.view.read (Elt Ideal) X10 (ix2 t a) : EReal) = p t a)
    (G : BufTy.Contents (Elt Ideal) arg5.view.ty) (k : ℕ) (hk : k ≤ 4) (r : Fin 4096) (a : Fin 128) (hr : r.val < 1024 * k) :
    (arg5.view.read (Elt Ideal) (arg5.view.writes (Elt Ideal) G (pb_k0_t3 (F := Ideal) 𝒱 c bd i arg1 harg1 arg2 harg2 arg3 harg3 arg4 harg4 arg5 harg5 arg6 harg6 arg7 harg7 arg8 harg8 arg9 harg9 arg10 harg10 X9 X10 k)) (ix2 r a) : EReal)
      = lead (width (i 0).val) 4096 (fun t => z t a) r - p r a := by
  induction k with
  | zero => omega
  | succ k ih =>
    have hkt : k < k0_t3_loop.trips := by have := trips3; omega
    have e := pb_k0_t3_succ (F := Ideal) 𝒱 c bd i arg1 harg1 arg2 harg2 arg3 harg3 arg4 harg4 arg5 harg5 arg6 harg6 arg7 harg7 arg8 harg8 arg9 harg9 arg10 harg10 X9 X10 ⟨k, hkt⟩
    rw [show k + 1 = (⟨k, hkt⟩ : Fin k0_t3_loop.trips).val + 1 from rfl, e, trip3, List.singleton_append]
    by_cases h : r.val < 1024 * k
    · rw [read_rows_out arg5.view G (1024 * k) (off7 ⟨k, hkt⟩) _ _ _ r a (Or.inl (by omega))]
      exact ih (by omega) h
    · have hr' : r.val - 1024 * k < 1024 := by omega
      rw [read_rows_in arg5.view G (1024 * k) (off7 ⟨k, hkt⟩) _ _ _ r a ⟨r.val - 1024 * k, hr'⟩ (by show r.val = _ + (_ - _); omega)]
      refine (dinput_apply k i _ _ (fun t => z t a) a (fun q => ?_) ⟨r.val - 1024 * k, hr'⟩).trans ?_
      · rw [readAt_rows arg9.view X9 (1024 * k) (off6 ⟨k, hkt⟩) _ q a ⟨1024 * k + q.val, by omega⟩ rfl, h9]
      · rw [readAt_rows arg10.view X10 (1024 * k) (off7 ⟨k, hkt⟩) _ ⟨r.val - 1024 * k, hr'⟩ a r (by show r.val = _ + (_ - _); omega), h10]
        show lead _ 4096 (fun t => z t a) (1024 * k + (r.val - 1024 * k)) - _ = _
        rw [Nat.add_sub_cancel' (by omega)]

end Cert.Pool.Ker

end
-- ==== Proof.Body.lean ====
/- What the kernel's body leaves in one group's output blocks, and its run to that, whatever its scratch buffers held before. -/
module

public import proofs.«01_k».proof.Proof.Gen.KernelIdeal.Frame.Runs
public import proofs.«01_k».proof.Proof.Chunks

@[expose] public section

set_option maxRecDepth 16384

noncomputable section

namespace Cert.Pool.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Pool

local notation "𝕄" => MT nD τ sig Unit (Elt Ideal) ℕ (UR sig nD τ) ℕ

/-! ## One group's output blocks -/

/-- The scale's row. -/
def row (x3 : Vec Ideal S1x128 .f32) (d : ℕ) : EReal := nat2 x3 0 d

/-- The group's weights. -/
def mat (x2 : Vec Ideal S1x128x128 .f32) (a b : ℕ) : EReal := nat3 x2 0 a b

/-- The block of the input's cotangent. -/
def duBlock (g : ℕ) (x1 : Vec Ideal S4096x128 .f32) (x2 : Vec Ideal S1x128x128 .f32) (x3 : Vec Ideal S1x128 .f32) : Vec Ideal S4096x128 .bf16 :=
  fun j => (dinput 4096 (width g) (nat2 x1) (row x3) (mat x2) (j 0).val (j 1).val : EReal)

/-- The block of the weights' gradient. -/
def dwBlock (g : ℕ) (x0 x1 : Vec Ideal S4096x128 .f32) (x3 : Vec Ideal S1x128 .f32) : Vec Ideal S1x128x128 .f32 :=
  fun j => (dweight 4096 (width g) (nat2 x0) (nat2 x1) (row x3) (j 1).val (j 2).val : EReal)

/-- The block of the scale's gradient. -/
def dsBlock (g : ℕ) (x0 x1 : Vec Ideal S4096x128 .f32) (x2 : Vec Ideal S1x128x128 .f32) : Vec Ideal S1x128 .f32 :=
  fun j => (dscale 4096 (width g) (nat2 x0) (nat2 x1) (mat x2) (j 1).val : EReal)

section

variable (c : Dev nD) (i : grid0.Coords)
  (arg1 : Memref sig .tc .vmem S4096x128 .f32) (harg1 : arg1.IsWhole) (arg2 : Memref sig .tc .vmem S4096x128 .f32) (harg2 : arg2.IsWhole)
  (arg3 : Memref sig .tc .vmem S1x128x128 .f32) (harg3 : arg3.IsWhole) (arg4 : Memref sig .tc .vmem S1x128 .f32) (harg4 : arg4.IsWhole)
  (arg5 : Memref sig .tc .vmem S4096x128 .bf16) (harg5 : arg5.IsWhole) (arg6 : Memref sig .tc .vmem S1x128x128 .f32) (harg6 : arg6.IsWhole)
  (arg7 : Memref sig .tc .vmem S1x128 .f32) (harg7 : arg7.IsWhole) (arg8 : Memref sig .tc .vmem S4112x128 .f32) (harg8 : arg8.IsWhole)
  (arg9 : Memref sig .tc .vmem S4112x128 .f32) (harg9 : arg9.IsWhole) (arg10 : Memref sig .tc .vmem S4096x128 .f32) (harg10 : arg10.IsWhole)
  (x0 x1 : Vec Ideal S4096x128 .f32) (x2 : Vec Ideal S1x128x128 .f32) (x3 : Vec Ideal S1x128 .f32)

/-- The input behind sixteen zeros, once the first loop is done. -/
theorem padded (fs0 : BufTy.Contents (Elt Ideal) arg8.view.ty) (k : ℕ) (hk : k = 4) (r : Fin 4112) (d : Fin 128) :
    (arg8.view.read (Elt Ideal) (arg8.view.writes (Elt Ideal) fs0
      (pb_k0_t1 (F := Ideal) Variants.none c none i arg1 harg1 arg2 harg2 arg3 harg3 arg4 harg4 arg5 harg5 arg6 harg6 arg7 harg7 arg8 harg8 arg9 harg9 arg10 harg10
        (harg1.unread x0) k ++ [⟨Rect.unit (s := S4112x128) ![0, 0] S16x128.size inb_S4112x128_S16x128_0_0, k0_pay1 (F := Ideal)⟩])) (ix2 r d) : EReal)
      = after16 (fun s => nat2 x0 s d) r := by
  subst hk
  rw [View.writes_append]
  refine loop1 Variants.none c none i arg1 harg1 arg2 harg2 arg3 harg3 arg4 harg4 arg5 harg5 arg6 harg6 arg7 harg7 arg8 harg8 arg9 harg9 arg10 harg10
    (harg1.unread x0) (nat2 x0) (fun t b => ?_) _ (fun q b hq => ?_) 4 le_rfl r d (by omega)
  · rw [harg1.read_unread]
    exact (nat2_apply x0 t b).symm
  · rw [read_rows_in arg8.view fs0 0 rfl _ _ _ q b ⟨q.val, hq⟩ (by show q.val = 0 + q.val; omega)]
    exact zeros8_apply _ b

/-- The four buffers of the second loop once it is done. -/
theorem heldAll (A8 : BufTy.Contents (Elt Ideal) arg8.view.ty)
    (hA8 : ∀ (r : Fin 4112) (d : Fin 128), (arg8.view.read (Elt Ideal) A8 (ix2 r d) : EReal) = after16 (fun s => nat2 x0 s d) r)
    (J6 : BufTy.Contents (Elt Ideal) arg6.view.ty) (J7 : BufTy.Contents (Elt Ideal) arg7.view.ty) (fs1 : BufTy.Contents (Elt Ideal) arg9.view.ty)
    (fs2 : BufTy.Contents (Elt Ideal) arg10.view.ty) (k : ℕ) (hk : k = 4) :
    Held arg6 arg7 arg9 arg10 (width (i 0).val) (nat2 x0) (nat2 x1) (row x3) (mat x2) 4
      (arg6.view.writes (Elt Ideal) (arg6.view.writes (Elt Ideal) J6
        [⟨Rect.unit (s := S1x128x128) ![0, 0, 0] S1x128x128.size inb_S1x128x128_S1x128x128_0_0_0, k0_pay4 (F := Ideal)⟩]) (pb_k0_t2 (F := Ideal) Variants.none c none i arg1 harg1 arg2 harg2 arg3 harg3 arg4 harg4 arg5 harg5 arg6 harg6 arg7 harg7 arg8 harg8 arg9 harg9 arg10 harg10
          (BitVec.ofNat 32 (i 0).val)
          (View.readAt (Elt Ideal) arg3.view (Rect.unit (s := S1x128x128) ![0, 0, 0] S1x128x128.size inb_S1x128x128_S1x128x128_0_0_0).toLoadRect (harg3.unread x2))
          (View.readAt (Elt Ideal) arg4.view (Rect.unit (s := S1x128) ![0, 0] S1x128.size inb_S1x128_S1x128_0_0).toLoadRect (harg4.unread x3))
          (harg2.unread x1) A8
          (arg6.view.writes (Elt Ideal) J6 [⟨Rect.unit (s := S1x128x128) ![0, 0, 0] S1x128x128.size inb_S1x128x128_S1x128x128_0_0_0, k0_pay4 (F := Ideal)⟩])
          (arg7.view.writes (Elt Ideal) J7 [⟨Rect.unit (s := S1x128) ![0, 0] S1x128.size inb_S1x128_S1x128_0_0, k0_pay5 (F := Ideal)⟩])
          (arg9.view.writes (Elt Ideal) fs1 [⟨Rect.unit (s := S4112x128) ![4096, 0] S16x128.size inb_S4112x128_S16x128_4096_0, k0_pay3 (F := Ideal)⟩]) fs2 k).1)
      (arg7.view.writes (Elt Ideal) (arg7.view.writes (Elt Ideal) J7
        [⟨Rect.unit (s := S1x128) ![0, 0] S1x128.size inb_S1x128_S1x128_0_0, k0_pay5 (F := Ideal)⟩]) (pb_k0_t2 (F := Ideal) Variants.none c none i arg1 harg1 arg2 harg2 arg3 harg3 arg4 harg4 arg5 harg5 arg6 harg6 arg7 harg7 arg8 harg8 arg9 harg9 arg10 harg10
          (BitVec.ofNat 32 (i 0).val)
          (View.readAt (Elt Ideal) arg3.view (Rect.unit (s := S1x128x128) ![0, 0, 0] S1x128x128.size inb_S1x128x128_S1x128x128_0_0_0).toLoadRect (harg3.unread x2))
          (View.readAt (Elt Ideal) arg4.view (Rect.unit (s := S1x128) ![0, 0] S1x128.size inb_S1x128_S1x128_0_0).toLoadRect (harg4.unread x3))
          (harg2.unread x1) A8
          (arg6.view.writes (Elt Ideal) J6 [⟨Rect.unit (s := S1x128x128) ![0, 0, 0] S1x128x128.size inb_S1x128x128_S1x128x128_0_0_0, k0_pay4 (F := Ideal)⟩])
          (arg7.view.writes (Elt Ideal) J7 [⟨Rect.unit (s := S1x128) ![0, 0] S1x128.size inb_S1x128_S1x128_0_0, k0_pay5 (F := Ideal)⟩])
          (arg9.view.writes (Elt Ideal) fs1 [⟨Rect.unit (s := S4112x128) ![4096, 0] S16x128.size inb_S4112x128_S16x128_4096_0, k0_pay3 (F := Ideal)⟩]) fs2 k).2.1)
      (arg9.view.writes (Elt Ideal) (arg9.view.writes (Elt Ideal) fs1
        [⟨Rect.unit (s := S4112x128) ![4096, 0] S16x128.size inb_S4112x128_S16x128_4096_0, k0_pay3 (F := Ideal)⟩]) (pb_k0_t2 (F := Ideal) Variants.none c none i arg1 harg1 arg2 harg2 arg3 harg3 arg4 harg4 arg5 harg5 arg6 harg6 arg7 harg7 arg8 harg8 arg9 harg9 arg10 harg10
          (BitVec.ofNat 32 (i 0).val)
          (View.readAt (Elt Ideal) arg3.view (Rect.unit (s := S1x128x128) ![0, 0, 0] S1x128x128.size inb_S1x128x128_S1x128x128_0_0_0).toLoadRect (harg3.unread x2))
          (View.readAt (Elt Ideal) arg4.view (Rect.unit (s := S1x128) ![0, 0] S1x128.size inb_S1x128_S1x128_0_0).toLoadRect (harg4.unread x3))
          (harg2.unread x1) A8
          (arg6.view.writes (Elt Ideal) J6 [⟨Rect.unit (s := S1x128x128) ![0, 0, 0] S1x128x128.size inb_S1x128x128_S1x128x128_0_0_0, k0_pay4 (F := Ideal)⟩])
          (arg7.view.writes (Elt Ideal) J7 [⟨Rect.unit (s := S1x128) ![0, 0] S1x128.size inb_S1x128_S1x128_0_0, k0_pay5 (F := Ideal)⟩])
          (arg9.view.writes (Elt Ideal) fs1 [⟨Rect.unit (s := S4112x128) ![4096, 0] S16x128.size inb_S4112x128_S16x128_4096_0, k0_pay3 (F := Ideal)⟩]) fs2 k).2.2.1)
      (arg10.view.writes (Elt Ideal) fs2 (pb_k0_t2 (F := Ideal) Variants.none c none i arg1 harg1 arg2 harg2 arg3 harg3 arg4 harg4 arg5 harg5 arg6 harg6 arg7 harg7 arg8 harg8 arg9 harg9 arg10 harg10
          (BitVec.ofNat 32 (i 0).val)
          (View.readAt (Elt Ideal) arg3.view (Rect.unit (s := S1x128x128) ![0, 0, 0] S1x128x128.size inb_S1x128x128_S1x128x128_0_0_0).toLoadRect (harg3.unread x2))
          (View.readAt (Elt Ideal) arg4.view (Rect.unit (s := S1x128) ![0, 0] S1x128.size inb_S1x128_S1x128_0_0).toLoadRect (harg4.unread x3))
          (harg2.unread x1) A8
          (arg6.view.writes (Elt Ideal) J6 [⟨Rect.unit (s := S1x128x128) ![0, 0, 0] S1x128x128.size inb_S1x128x128_S1x128x128_0_0_0, k0_pay4 (F := Ideal)⟩])
          (arg7.view.writes (Elt Ideal) J7 [⟨Rect.unit (s := S1x128) ![0, 0] S1x128.size inb_S1x128_S1x128_0_0, k0_pay5 (F := Ideal)⟩])
          (arg9.view.writes (Elt Ideal) fs1 [⟨Rect.unit (s := S4112x128) ![4096, 0] S16x128.size inb_S4112x128_S16x128_4096_0, k0_pay3 (F := Ideal)⟩]) fs2 k).2.2.2) := by
  subst hk
  refine loop2 Variants.none c none i arg1 harg1 arg2 harg2 arg3 harg3 arg4 harg4 arg5 harg5 arg6 harg6 arg7 harg7 arg8 harg8 arg9 harg9 arg10 harg10
    (i 0).val (i 0).isLt _ _ (harg2.unread x1) A8 (nat2 x0) (nat2 x1) (row x3) (mat x2) (fun a b => ?_) (fun b => ?_) (fun t b => ?_) hA8 _ _ _ _ ?_ 4 le_rfl _ rfl
  · rw [View.readAt_full, harg3.read_unread]
    exact (nat3_apply x2 0 a b).symm
  · rw [View.readAt_full, harg4.read_unread]
    exact (nat2_apply x3 0 b).symm
  · rw [harg2.read_unread]
    exact (nat2_apply x1 t b).symm
  · constructor
    · intro a b
      rw [View.read_writes_full]
      exact (zeros6_apply a b).trans (by simp [dweight])
    · intro b
      rw [View.read_writes_full]
      exact (zeros7_apply b).trans (by simp [dscale])
    · intro r a hr
      omega
    · intro r a hr
      rw [read_rows_in arg9.view fs1 4096 rfl _ _ _ r a ⟨r.val - 4096, by omega⟩ (by show r.val = 4096 + (r.val - 4096); omega)]
      exact zeros9_apply _ a
    · intro r a hr
      omega

theorem dw_of_held {f6 : BufTy.Contents (Elt Ideal) arg6.view.ty} {f7 : BufTy.Contents (Elt Ideal) arg7.view.ty}
    {f9 : BufTy.Contents (Elt Ideal) arg9.view.ty} {f10 : BufTy.Contents (Elt Ideal) arg10.view.ty}
    (h : Held arg6 arg7 arg9 arg10 (width (i 0).val) (nat2 x0) (nat2 x1) (row x3) (mat x2) 4 f6 f7 f9 f10) :
    arg6.view.read (Elt Ideal) f6 = dwBlock (i 0).val x0 x1 x3 := by
  funext j
  have e : j = ix3 0 (j 1) (j 2) := (eq_ix3 j).trans (congrArg (fun z => ix3 z (j 1) (j 2)) (Subsingleton.elim (α := Fin 1) (j 0) 0))
  rw [e]
  exact h.weight (j 1) (j 2)

theorem ds_of_held {f6 : BufTy.Contents (Elt Ideal) arg6.view.ty} {f7 : BufTy.Contents (Elt Ideal) arg7.view.ty}
    {f9 : BufTy.Contents (Elt Ideal) arg9.view.ty} {f10 : BufTy.Contents (Elt Ideal) arg10.view.ty}
    (h : Held arg6 arg7 arg9 arg10 (width (i 0).val) (nat2 x0) (nat2 x1) (row x3) (mat x2) 4 f6 f7 f9 f10) :
    arg7.view.read (Elt Ideal) f7 = dsBlock (i 0).val x0 x1 x2 := by
  funext j
  have e : j = ix2 0 (j 1) := (eq_ix2 j).trans (congrArg (fun z => ix2 z (j 1)) (Subsingleton.elim (α := Fin 1) (j 0) 0))
  rw [e]
  exact h.scale (j 1)

theorem du_of_held {f6 : BufTy.Contents (Elt Ideal) arg6.view.ty} {f7 : BufTy.Contents (Elt Ideal) arg7.view.ty}
    {f9 : BufTy.Contents (Elt Ideal) arg9.view.ty} {f10 : BufTy.Contents (Elt Ideal) arg10.view.ty}
    (h : Held arg6 arg7 arg9 arg10 (width (i 0).val) (nat2 x0) (nat2 x1) (row x3) (mat x2) 4 f6 f7 f9 f10)
    (f5 : BufTy.Contents (Elt Ideal) arg5.view.ty) (k : ℕ) (hk : k = 4) :
    arg5.view.read (Elt Ideal) (arg5.view.writes (Elt Ideal) f5 (pb_k0_t3 (F := Ideal) Variants.none c none i arg1 harg1 arg2 harg2 arg3 harg3 arg4 harg4 arg5 harg5 arg6 harg6 arg7 harg7 arg8 harg8 arg9 harg9 arg10 harg10 f9 f10 k))
      = duBlock (i 0).val x1 x2 x3 := by
  subst hk
  funext j
  rw [eq_ix2 j]
  refine loop3 Variants.none c none i arg1 harg1 arg2 harg2 arg3 harg3 arg4 harg4 arg5 harg5 arg6 harg6 arg7 harg7 arg8 harg8 arg9 harg9 arg10 harg10 f9 f10
    (fun t a => Ideal.div (dpool (nat2 x1) (row x3) (mat x2) t a) ((cnt (width (i 0).val) t : ℝ) : EReal)) (dpool (nat2 x1) (row x3) (mat x2))
    (fun r a => ?_) (fun t a => h.pool t a (by omega)) f5 4 le_rfl (j 0) (j 1) (by have := (j 0).isLt; exact this)
  unfold cut
  by_cases hr : r.val < 4096
  · rw [if_pos hr]
    exact h.over r a (by omega)
  · rw [if_neg hr]
    exact h.halo r a (by omega)

theorem t1 : Scf.trips k0_t1_loop.lb k0_t1_loop.ub k0_t1_loop.st = 4 := by decide
theorem t2 : Scf.trips k0_t2_loop.lb k0_t2_loop.ub k0_t2_loop.st = 4 := by decide
theorem t3 : Scf.trips k0_t3_loop.lb k0_t3_loop.ub k0_t3_loop.st = 4 := by decide

set_option maxHeartbeats 4000000 in
/-- The body's run: the inputs' blocks are kept, the outputs' hold the group's gradients, the scratch buffers hold something. -/
theorem bodyRun (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (duBlock (i 0).val x1 x2 x3)
            ∗ owns (c : Thread nD τ) arg6 fullShare (dwBlock (i 0).val x0 x1 x3) ∗ owns (c : Thread nD τ) arg7 fullShare (dsBlock (i 0).val x0 x1 x2)
            ∗ (∃ d, owns (c : Thread nD τ) arg8 fullShare d) ∗ (∃ d, owns (c : Thread nD τ) arg9 fullShare d)
            ∗ (∃ d, owns (c : Thread nD τ) arg10 fullShare d)) -∗ K ⟨⟩))
      ⊢ wp frame (wpE (defs₀ (F := Ideal)) Variants.none c none) E (cc0_pool_bwd i arg1 harg1 arg2 harg2 arg3 harg3 arg4 harg4 arg5 harg5 arg6 harg6 arg7 harg7 arg8 harg8 arg9 harg9 arg10 harg10) K := by
  simp only [cc0_pool_bwd_eq_skeleton]; unfold cc0_pool_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec
  sl_step
  have held := heldAll c i arg1 harg1 arg2 harg2 arg3 harg3 arg4 harg4 arg5 harg5 arg6 harg6 arg7 harg7 arg8 harg8 arg9 harg9 arg10 harg10 x0 x1 x2 x3 _
    (padded c i arg1 harg1 arg2 harg2 arg3 harg3 arg4 harg4 arg5 harg5 arg6 harg6 arg7 harg7 arg8 harg8 arg9 harg9 arg10 harg10 x0 fs0 _ t1) arg6.view.junk arg7.view.junk fs1 fs2 _ t2
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [View.writes_append (v := arg9.view)]
    exact du_of_held c i arg1 harg1 arg2 harg2 arg3 harg3 arg4 harg4 arg5 harg5 arg6 harg6 arg7 harg7 arg8 harg8 arg9 harg9 arg10 harg10 x0 x1 x2 x3 held f4 _ t3
  isplitl [H5]
  · iexists _; isplitr
    swap; · iexact H5
    ipureintro
    rw [View.writes_append]
    exact dw_of_held i arg6 arg7 arg9 arg10 x0 x1 x2 x3 held
  isplitl [H6]
  · iexists _; isplitr
    swap; · iexact H6
    ipureintro
    rw [View.writes_append]
    exact ds_of_held i arg6 arg7 arg9 arg10 x0 x1 x2 x3 held
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end

end Cert.Pool.Ker

end
-- ==== Proof.KRun.lean ====
/- The kernel's run over its four groups: what the pipeline leaves in the arrays, the arguments unchanged, and the three results as sums. -/
module

public import proofs.«01_k».proof.Proof.Body
public import Idealize.ShloMosaic.Lib.Claim
public import Idealize.ShloMosaic.Lib.Pipeline.Value
public import Idealize.ShloMosaic.Lib.Pipeline.ValueKit

@[expose] public section

set_option maxRecDepth 16384

noncomputable section

namespace Cert.Pool.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Pool

local notation "𝕄" => MT nD τ sig Unit (Elt Ideal) ℕ (UR sig nD τ) ℕ

variable (m : (ℓ : Loc nD τ sig) → Buf (Elt Ideal) ℓ) (ρ : Dev nD → PrngReg)

/-- The group a grid point works on. -/
abbrev grp (t : Fin cfg0.N) : ℕ := (grid0.coords t 0).val

/-- The pipeline's data: the arrays as launched; after the body the inputs' blocks in place and the outputs' at the group's gradients. -/
def pdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => duBlock (grp t) (iblk m c 1 t) (iblk m c 2 t) (iblk m c 3 t)
    | ⟨5, _⟩ => dwBlock (grp t) (iblk m c 0 t) (iblk m c 1 t) (iblk m c 3 t)
    | ⟨6, _⟩ => dsBlock (grp t) (iblk m c 0 t) (iblk m c 1 t) (iblk m c 2 t)
  Φ _ := Pipeline.ΦA spec0 c
  q _ := fullShare
  owed _ := 0

theorem pdat_A (c : Dev nD) (w : Fin cfg0.W) : (pdat m 0 c).A w = V m c (Pipeline.arrRef spec0 w) := by dsimp only [pdat]

theorem left0 (c : Dev nD) (t : Fin cfg0.N) : (pdat m 0 c).after 0 t = iblk m c 0 t := by dsimp only [pdat]
theorem left1 (c : Dev nD) (t : Fin cfg0.N) : (pdat m 0 c).after 1 t = iblk m c 1 t := by dsimp only [pdat]
theorem left2 (c : Dev nD) (t : Fin cfg0.N) : (pdat m 0 c).after 2 t = iblk m c 2 t := by dsimp only [pdat]
theorem left3 (c : Dev nD) (t : Fin cfg0.N) : (pdat m 0 c).after 3 t = iblk m c 3 t := by dsimp only [pdat]
theorem left4 (c : Dev nD) (t : Fin cfg0.N) : (pdat m 0 c).after 4 t = duBlock (grp t) (iblk m c 1 t) (iblk m c 2 t) (iblk m c 3 t) := by
  dsimp only [pdat]
theorem left5 (c : Dev nD) (t : Fin cfg0.N) : (pdat m 0 c).after 5 t = dwBlock (grp t) (iblk m c 0 t) (iblk m c 1 t) (iblk m c 3 t) := by
  dsimp only [pdat]
theorem left6 (c : Dev nD) (t : Fin cfg0.N) : (pdat m 0 c).after 6 t = dsBlock (grp t) (iblk m c 0 t) (iblk m c 1 t) (iblk m c 2 t) := by
  dsimp only [pdat]

theorem found0 (c : Dev nD) (t : Fin cfg0.N) (d) : (pdat m 0 c).before 0 t d = iblk m c 0 t := before0_0_of m (pdat m 0 c) (pdat_A m c 0) (left0 m c) t d
theorem found1 (c : Dev nD) (t : Fin cfg0.N) (d) : (pdat m 0 c).before 1 t d = iblk m c 1 t := before0_1_of m (pdat m 0 c) (pdat_A m c 1) (left1 m c) t d
theorem found2 (c : Dev nD) (t : Fin cfg0.N) (d) : (pdat m 0 c).before 2 t d = iblk m c 2 t := before0_2_of m (pdat m 0 c) (pdat_A m c 2) (left2 m c) t d
theorem found3 (c : Dev nD) (t : Fin cfg0.N) (d) : (pdat m 0 c).before 3 t d = iblk m c 3 t := before0_3_of m (pdat m 0 c) (pdat_A m c 3) (left3 m c) t d

/-- What the body is called with at a point, the windows one by one. -/
def given (c : Dev nD) (t : Fin cfg0.N) : sProp 𝕄 :=
  iprop((pdat m 0 c).Φ t.castSucc ∗ (pdat m 0 c).owesAt () t.castSucc
    ∗ (∃ d, owns (c : Thread nD τ) (ms0_0 t) fullShare ((pdat m 0 c).before 0 t d))
    ∗ (∃ d, owns (c : Thread nD τ) (ms0_1 t) fullShare ((pdat m 0 c).before 1 t d))
    ∗ (∃ d, owns (c : Thread nD τ) (ms0_2 t) fullShare ((pdat m 0 c).before 2 t d))
    ∗ (∃ d, owns (c : Thread nD τ) (ms0_3 t) fullShare ((pdat m 0 c).before 3 t d))
    ∗ (∃ d, owns (c : Thread nD τ) (ms0_4 t) fullShare ((pdat m 0 c).before 4 t d))
    ∗ (∃ d, owns (c : Thread nD τ) (ms0_5 t) fullShare ((pdat m 0 c).before 5 t d))
    ∗ (∃ d, owns (c : Thread nD τ) (ms0_6 t) fullShare ((pdat m 0 c).before 6 t d)))

/-- What it returns. -/
def returned (c : Dev nD) (t : Fin cfg0.N) : sProp 𝕄 :=
  iprop((pdat m 0 c).Φ t.succ ∗ (pdat m 0 c).owesAt () t.succ
    ∗ owns (c : Thread nD τ) (ms0_0 t) fullShare ((pdat m 0 c).after 0 t)
    ∗ owns (c : Thread nD τ) (ms0_1 t) fullShare ((pdat m 0 c).after 1 t)
    ∗ owns (c : Thread nD τ) (ms0_2 t) fullShare ((pdat m 0 c).after 2 t)
    ∗ owns (c : Thread nD τ) (ms0_3 t) fullShare ((pdat m 0 c).after 3 t)
    ∗ owns (c : Thread nD τ) (ms0_4 t) fullShare ((pdat m 0 c).after 4 t)
    ∗ owns (c : Thread nD τ) (ms0_5 t) fullShare ((pdat m 0 c).after 5 t)
    ∗ owns (c : Thread nD τ) (ms0_6 t) fullShare ((pdat m 0 c).after 6 t))

set_option maxHeartbeats 800000 in
/-- The body at any point. -/
theorem body_sound (c : Dev nD) (t : Fin cfg0.N) :
    given m c t ⊢ wp frame (wpE (defs₀ (F := Ideal)) Variants.none c none) Set.univ (bodyAt0 t) (fun _ => returned m c t) := by
  unfold given returned bodyAt0
  simp only [found0, found1, found2, found3]
  rw [show (pdat m 0 c).Φ t.succ = (pdat m 0 c).Φ t.castSucc from rfl,
    show (pdat m 0 c).owesAt () t.succ = (pdat m 0 c).owesAt () t.castSucc from rfl,
    left0, left1, left2, left3, left4, left5, left6]
  rw [show (pdat m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem table_row (t : Fin cfg0.N) : defs₀ (F := Ideal) .tc cfg0.body (cfg0.bodyArgs t (cfg0.slots t)) = bodyAt0 t := by
  unfold defs₀; rw [Defs.onTc_tc]

theorem obliged (c : Dev nD) : BodyObligation (pdat m 0 c) (defs₀ (F := Ideal)) Variants.none () Set.univ := fun t => by
  rw [bigSep_W0, bigSep_W0, table_row]
  exact triple_restated (body_sound m c t) rfl .rfl fun _ => .rfl

set_option backward.isDefEq.respectTransparency.types false in
/-- The launch: every array at what the pipeline's data say, and every counter at zero. -/
theorem launched : θ_run defs (onTc (τ := τ) (main (F := Ideal))) (s₀ m ρ)
    (fun r => (Pipeline.FramePost cfgs (pdat m) 0 (V m)) r ∧ r.2.sem = fun _ => 0) :=
  Pipeline.θ_run_frame (Q' := _) cfgs (pdat m) (0 : Fin 1) launch0 defs₀ Variants.none m ρ main
    (hbody := fun c => (obliged m c).loose) (hshare := fun c => (pdat m 0 c).share_full fun _ => rfl)
    (howed := fun _ _ => rfl) (V := V m) (hmain := hmain m Variants.none) (hA := pdat_A m) (hΦ := fun _ _ => rfl)

theorem launched_post : θ_run defs (onTc (τ := τ) (main (F := Ideal))) (s₀ m ρ) (Pipeline.FramePost cfgs (pdat m) 0 (V m)) :=
  (θ_run defs _ _).mono (fun _ h => h.1) (launched m ρ)

/-- The kernel ends, leaves its arguments as they were and its counters at zero. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (pdat m) (pdat_A m) (launched_post m ρ)) ((θ_run defs _ _).mono (fun _ h => h.2) (launched m ρ))

/-! ## The result arrays -/

/-- The windows' blocks by the grid point's group. -/
theorem places : ∀ t : Fin cfg0.N, win0_0.index t = ![0, grp t] ∧ win0_1.index t = ![0, grp t] ∧ win0_2.index t = ![grp t, 0, 0]
    ∧ win0_3.index t = ![0, grp t] ∧ win0_4.index t = ![0, grp t] ∧ win0_5.index t = ![grp t, 0, 0] ∧ win0_6.index t = ![0, grp t] := by
  decide +kernel

theorem grp_lt (t : Fin cfg0.N) : grp t < 4 := (grid0.coords t 0).isLt

/-- The arguments as launched. -/
abbrev argU (c : Dev nD) : FVec Ideal S4096x4608 .f32 := m ((c.tc : Thread nD τ).loc main_arg0)
abbrev argDm (c : Dev nD) : FVec Ideal S4096x512 .f32 := m ((c.tc : Thread nD τ).loc main_arg1)
abbrev argWt (c : Dev nD) : FVec Ideal S4x128x128 .f32 := m ((c.tc : Thread nD τ).loc main_arg2)
abbrev argSc (c : Dev nD) : FVec Ideal S1x512 .f32 := m ((c.tc : Thread nD τ).loc main_arg3)

theorem blk0 (c : Dev nD) (t : Fin cfg0.N) (r d : ℕ) (hr : r < 4096) (hd : d < 128) :
    nat2 (R := 4096) (C := 128) (iblk m c 0 t) r d = cols (nat2 (argU m c)) (grp t) r d := by
  have hg := grp_lt t
  unfold cols
  rw [nat2_mk _ hr hd, nat2_mk (argU m c) hr (show grp t * 128 + d < 4608 by omega)]
  blk_ext [iblk, V, places t]

theorem blk1 (c : Dev nD) (t : Fin cfg0.N) (r d : ℕ) (hr : r < 4096) (hd : d < 128) :
    nat2 (R := 4096) (C := 128) (iblk m c 1 t) r d = cols (nat2 (argDm m c)) (grp t) r d := by
  have hg := grp_lt t
  unfold cols
  rw [nat2_mk _ hr hd, nat2_mk (argDm m c) hr (show grp t * 128 + d < 512 by omega)]
  blk_ext [iblk, V, places t]

theorem blk2 (c : Dev nD) (t : Fin cfg0.N) (a b : ℕ) (ha : a < 128) (hb : b < 128) : mat (iblk m c 2 t) a b = nat3 (argWt m c) (grp t) a b := by
  have hg := grp_lt t
  unfold mat
  rw [nat3_mk _ Nat.one_pos ha hb, nat3_mk (argWt m c) hg ha hb]
  blk_ext [iblk, V, places t]

theorem blk3 (c : Dev nD) (t : Fin cfg0.N) (d : ℕ) (hd : d < 128) : row (iblk m c 3 t) d = scales (argSc m c) (grp t) d := by
  have hg := grp_lt t
  unfold row scales
  rw [nat2_mk _ Nat.one_pos hd, nat2_mk (argSc m c) Nat.one_pos (show grp t * 128 + d < 512 by omega)]
  blk_ext [iblk, V, places t]

/-- The cotangent of the mixer's input, the whole array. -/
theorem result0 (c : Dev nD) : (pdat m 0 c).arrAt 4 cfg0.N
    = (fun j => duAll (argDm m c) (argWt m c) (argSc m c) (j 0).val (j 1).val : FVec Ideal S4096x512 .bf16) := by
  refine (pdat m 0 c).arrAt_eq_of_covers 4 _ (by decide +kernel) fun t hf y => ?_
  have hg := grp_lt t
  blk_simp
  rw [left4]
  have p := (places t).2.2.2.2.1
  have h0 : win0_4.index t 0 * 4096 + (y 0).val = (y 0).val := by rw [p]; exact (congrArg (· + (y 0).val) (Nat.zero_mul 4096)).trans (Nat.zero_add _)
  have h1 : win0_4.index t 1 = grp t := by rw [p]; rfl
  have hy0 : (y 0).val < 4096 := (y 0).isLt
  have hy1 : (y 1).val < 128 := (y 1).isLt
  show duBlock _ _ _ _ y = _
  unfold duBlock duAll
  rw [h0, h1, show (grp t * 128 + (y 1).val) / 128 = grp t by omega, show (grp t * 128 + (y 1).val) % 128 = (y 1).val by omega]
  exact dinput_congr hy0 (fun r d hr hd => blk1 m c t r d hr hd) (fun d hd => blk3 m c t d hd) (fun d hd => blk2 m c t _ d hy1 hd)

/-- The gradient of the weights, the whole array. -/
theorem result1 (c : Dev nD) : (pdat m 0 c).arrAt 5 cfg0.N
    = (fun j => dwAll (argU m c) (argDm m c) (argSc m c) (j 0).val (j 1).val (j 2).val : FVec Ideal S4x128x128 .f32) := by
  refine (pdat m 0 c).arrAt_eq_of_covers 5 _ (by decide +kernel) fun t hf y => ?_
  have hg := grp_lt t
  blk_simp
  rw [left5]
  have p := (places t).2.2.2.2.2.1
  have h0 : win0_5.index t 0 = grp t := by rw [p]; rfl
  have h1 : win0_5.index t 1 * 128 + (y 1).val = (y 1).val := by rw [p]; exact (congrArg (· + (y 1).val) (Nat.zero_mul 128)).trans (Nat.zero_add _)
  have h2 : win0_5.index t 2 * 128 + (y 2).val = (y 2).val := by rw [p]; exact (congrArg (· + (y 2).val) (Nat.zero_mul 128)).trans (Nat.zero_add _)
  have hy1 : (y 1).val < 128 := (y 1).isLt
  have hy2 : (y 2).val < 128 := (y 2).isLt
  show dwBlock _ _ _ _ y = _
  unfold dwBlock dwAll
  rw [h0, h1, h2]
  exact dweight_congr (fun r hr => blk0 m c t r _ hr hy1) (fun r hr => blk1 m c t r _ hr hy2) (blk3 m c t _ hy2)

/-- The gradient of the scales, the whole array. -/
theorem result2 (c : Dev nD) : (pdat m 0 c).arrAt 6 cfg0.N
    = (fun j => dsAll (argU m c) (argDm m c) (argWt m c) (j 1).val : FVec Ideal S1x512 .f32) := by
  refine (pdat m 0 c).arrAt_eq_of_covers 6 _ (by decide +kernel) fun t hf y => ?_
  have hg := grp_lt t
  blk_simp
  rw [left6]
  have p := (places t).2.2.2.2.2.2
  have h1 : win0_6.index t 1 = grp t := by rw [p]; rfl
  have hy1 : (y 1).val < 128 := (y 1).isLt
  show dsBlock _ _ _ _ y = _
  unfold dsBlock dsAll
  rw [h1, show (grp t * 128 + (y 1).val) / 128 = grp t by omega, show (grp t * 128 + (y 1).val) % 128 = (y 1).val by omega]
  exact dscale_congr (fun r d hr hd => blk0 m c t r d hr hd) (fun r hr => blk1 m c t r _ hr hy1) (fun a ha => blk2 m c t a _ ha hy1)

/-- The kernel's results, and its arguments unchanged. -/
theorem values : θ_run defs (onTc (τ := τ) (main (F := Ideal))) ⟨m, fun _ => 0, ρ⟩ (fun r => ∀ c : Dev nD,
      (r.2.mem ((c.tc : Thread nD τ).loc main_v0_0)
        = (fun j => duAll (argDm m c) (argWt m c) (argSc m c) (j 0).val (j 1).val : FVec Ideal S4096x512 .bf16)
      ∧ r.2.mem ((c.tc : Thread nD τ).loc main_v0_1)
        = (fun j => dwAll (argU m c) (argDm m c) (argSc m c) (j 0).val (j 1).val (j 2).val : FVec Ideal S4x128x128 .f32)
      ∧ r.2.mem ((c.tc : Thread nD τ).loc main_v0_2)
        = (fun j => dsAll (argU m c) (argDm m c) (argWt m c) (j 1).val : FVec Ideal S1x512 .f32))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  (θ_run defs _ _).mono (fun _ h c => ⟨⟨((h.1 c).1 4).trans (result0 m c), ((h.1 c).1 5).trans (result1 m c), ((h.1 c).1 6).trans (result2 m c)⟩, h.2.1 c⟩)
    (θ_run_and (launched_post m ρ) (quiet m ρ))

end Cert.Pool.Ker

end
-- ==== Proof.RunningSum.lean ====
/- The host's running sums along the leading axis of a rank-three array, from the front and from the back, read at an index as a sum over
   the window's positions. -/
module

public import Idealize.ShloMosaic.Lib.Pointwise

@[expose] public section

noncomputable section

namespace Cert.Pool

open Idealize.ShloMosaic

/-- A left fold that adds one term per entry of a list adds the terms' sum to what it started from. -/
theorem foldl_add_terms {ι : Type} (l : List ι) (f : ι → EReal) (v : EReal) :
    l.foldl (fun r a => r + f a) v = v + (l.map f).sum := by
  induction l generalizing v with
  | nil => simp
  | cons a l ih => rw [List.foldl_cons, ih, List.map_cons, List.sum_cons, add_assoc]

/-- A window sum from zero, read at an index: the sum over the window's positions, a position in the padding giving zero. -/
theorem windowSum_apply {s t u : Shape} {φ : FTy} (window strides lo hi : Fin s.rank → ℕ) (x : FVec Ideal s φ) (init : FVec Ideal u φ)
    (h : s.ReduceWindows window strides lo hi t) (hu : 0 < u.numel) (h0 : init (Shape.Idx.first hu) = (0 : EReal)) (j : t.Idx) :
    (Host.reduceWindowAdd (F := Ideal) window strides lo hi x init h hu j : EReal)
      = ∑ p : (⟨s.rank, window⟩ : Shape).Idx,
          (if hin : ∀ a, lo a ≤ (j (a.cast h.1.symm)).val * strides a + (p a).val ∧ (j (a.cast h.1.symm)).val * strides a + (p a).val - lo a < s.size a
            then (x (fun a => ⟨(j (a.cast h.1.symm)).val * strides a + (p a).val - lo a, (hin a).2⟩) : EReal) else 0) := by
  unfold Host.reduceWindowAdd
  rw [Ideal.hostReduceWindowAdd_def, h0]
  unfold Ideal.hostReduceWindowAdd Host.reduceWindow
  dsimp only
  rw [foldl_add_terms, zero_add, ← Fin.sum_univ_def]
  refine Fintype.sum_equiv (Shape.rowMajor ⟨s.rank, window⟩).symm _ _ fun i => ?_
  by_cases hin : ∀ a, lo a ≤ (j (a.cast h.1.symm)).val * strides a + ((Shape.rowMajor ⟨s.rank, window⟩).symm i a).val
      ∧ (j (a.cast h.1.symm)).val * strides a + ((Shape.rowMajor ⟨s.rank, window⟩).symm i a).val - lo a < s.size a
  · rw [dif_pos hin, dif_pos hin]
  · rw [dif_neg hin, dif_neg hin]

/-- The running sum from the front: entry `t` is the sum over `k` of the entry `k - (R - 1)` places from `t`, where there is one. -/
theorem runningFront {R Rm1 G C : ℕ} {u : Shape} (x : FVec Ideal (⟨3, ![R, G, C]⟩ : Shape) .f32) (init : FVec Ideal u .f32)
    (h : (⟨3, ![R, G, C]⟩ : Shape).ReduceWindows ![R, 1, 1] ![1, 1, 1] ![Rm1, 0, 0] ![0, 0, 0] ⟨3, ![R, G, C]⟩) (hu : 0 < u.numel)
    (h0 : init (Shape.Idx.first hu) = (0 : EReal)) (t : Fin R) (g : Fin G) (c : Fin C) :
    (Host.reduceWindowAdd (F := Ideal) ![R, 1, 1] ![1, 1, 1] ![Rm1, 0, 0] ![0, 0, 0] x init h hu (ix3 t g c) : EReal)
      = ∑ k : Fin R, if hk : Rm1 ≤ t.val + k.val ∧ t.val + k.val - Rm1 < R then (x (ix3 ⟨t.val + k.val - Rm1, hk.2⟩ g c) : EReal) else 0 := by
  rw [windowSum_apply _ _ _ _ x init h hu h0]
  refine (sum_idx3 (n0 := R) (n1 := 1) (n2 := 1) _).trans ?_
  refine Finset.sum_congr rfl fun k _ => ?_
  rw [Fin.sum_univ_one, Fin.sum_univ_one]
  by_cases hk : Rm1 ≤ t.val + k.val ∧ t.val + k.val - Rm1 < R
  · have hin : ∀ a : Fin 3, (![Rm1, 0, 0] : Fin 3 → ℕ) a ≤ ((ix3 t g c : (⟨3, ![R, G, C]⟩ : Shape).Idx) a).val * (![1, 1, 1] : Fin 3 → ℕ) a + ((ix3 k (0 : Fin 1) (0 : Fin 1) : (⟨3, ![R, 1, 1]⟩ : Shape).Idx) a).val
        ∧ ((ix3 t g c : (⟨3, ![R, G, C]⟩ : Shape).Idx) a).val * (![1, 1, 1] : Fin 3 → ℕ) a + ((ix3 k (0 : Fin 1) (0 : Fin 1) : (⟨3, ![R, 1, 1]⟩ : Shape).Idx) a).val - (![Rm1, 0, 0] : Fin 3 → ℕ) a < (![R, G, C] : Fin 3 → ℕ) a := by
      intro a
      match a with
      | ⟨0, _⟩ => show Rm1 ≤ t.val * 1 + k.val ∧ t.val * 1 + k.val - Rm1 < R; rwa [Nat.mul_one]
      | ⟨1, _⟩ => show 0 ≤ g.val * 1 + 0 ∧ g.val * 1 + 0 - 0 < G; have := g.isLt; omega
      | ⟨2, _⟩ => show 0 ≤ c.val * 1 + 0 ∧ c.val * 1 + 0 - 0 < C; have := c.isLt; omega
    rw [dif_pos hk]
    refine (dif_pos hin).trans (congrArg x (funext fun a => Fin.ext ?_))
    match a with
    | ⟨0, _⟩ => show t.val * 1 + k.val - Rm1 = t.val + k.val - Rm1; rw [Nat.mul_one]
    | ⟨1, _⟩ => show g.val * 1 + 0 - 0 = g.val; omega
    | ⟨2, _⟩ => show c.val * 1 + 0 - 0 = c.val; omega
  · rw [dif_neg hk]
    refine dif_neg fun hin => hk ?_
    have h1 := hin (0 : Fin 3)
    change Rm1 ≤ t.val * 1 + k.val ∧ t.val * 1 + k.val - Rm1 < R at h1
    rwa [Nat.mul_one] at h1

/-- The running sum from the back: entry `t` is the sum over `k` of the entry `k` places on from `t`, where there is one. -/
theorem runningBack {R Rm1 G C : ℕ} {u : Shape} (x : FVec Ideal (⟨3, ![R, G, C]⟩ : Shape) .f32) (init : FVec Ideal u .f32)
    (h : (⟨3, ![R, G, C]⟩ : Shape).ReduceWindows ![R, 1, 1] ![1, 1, 1] ![0, 0, 0] ![Rm1, 0, 0] ⟨3, ![R, G, C]⟩) (hu : 0 < u.numel)
    (h0 : init (Shape.Idx.first hu) = (0 : EReal)) (t : Fin R) (g : Fin G) (c : Fin C) :
    (Host.reduceWindowAdd (F := Ideal) ![R, 1, 1] ![1, 1, 1] ![0, 0, 0] ![Rm1, 0, 0] x init h hu (ix3 t g c) : EReal)
      = ∑ k : Fin R, if hk : t.val + k.val < R then (x (ix3 ⟨t.val + k.val, hk⟩ g c) : EReal) else 0 := by
  rw [windowSum_apply _ _ _ _ x init h hu h0]
  refine (sum_idx3 (n0 := R) (n1 := 1) (n2 := 1) _).trans ?_
  refine Finset.sum_congr rfl fun k _ => ?_
  rw [Fin.sum_univ_one, Fin.sum_univ_one]
  by_cases hk : t.val + k.val < R
  · have hin : ∀ a : Fin 3, (![0, 0, 0] : Fin 3 → ℕ) a ≤ ((ix3 t g c : (⟨3, ![R, G, C]⟩ : Shape).Idx) a).val * (![1, 1, 1] : Fin 3 → ℕ) a + ((ix3 k (0 : Fin 1) (0 : Fin 1) : (⟨3, ![R, 1, 1]⟩ : Shape).Idx) a).val
        ∧ ((ix3 t g c : (⟨3, ![R, G, C]⟩ : Shape).Idx) a).val * (![1, 1, 1] : Fin 3 → ℕ) a + ((ix3 k (0 : Fin 1) (0 : Fin 1) : (⟨3, ![R, 1, 1]⟩ : Shape).Idx) a).val - (![0, 0, 0] : Fin 3 → ℕ) a < (![R, G, C] : Fin 3 → ℕ) a := by
      intro a
      match a with
      | ⟨0, _⟩ => show 0 ≤ t.val * 1 + k.val ∧ t.val * 1 + k.val - 0 < R; omega
      | ⟨1, _⟩ => show 0 ≤ g.val * 1 + 0 ∧ g.val * 1 + 0 - 0 < G; have := g.isLt; omega
      | ⟨2, _⟩ => show 0 ≤ c.val * 1 + 0 ∧ c.val * 1 + 0 - 0 < C; have := c.isLt; omega
    rw [dif_pos hk]
    refine (dif_pos hin).trans (congrArg x (funext fun a => Fin.ext ?_))
    match a with
    | ⟨0, _⟩ => show t.val * 1 + k.val - 0 = t.val + k.val; omega
    | ⟨1, _⟩ => show g.val * 1 + 0 - 0 = g.val; omega
    | ⟨2, _⟩ => show c.val * 1 + 0 - 0 = c.val; omega
  · rw [dif_neg hk]
    refine dif_neg fun hin => hk ?_
    have h1 := hin (0 : Fin 3)
    change 0 ≤ t.val * 1 + k.val ∧ t.val * 1 + k.val - 0 < R at h1
    omega

end Cert.Pool

end
-- ==== Proof.RefRun.lean ====
/- The reference's three results as the same sums: its running sums, windows cut out of them and their derivatives, at finite arguments. -/
module

public import proofs.«01_k».proof.Proof.Gen.ReferenceIdeal.Run
public import proofs.«01_k».proof.Proof.RunningSum
public import proofs.«01_k».proof.Proof.Mixer
public import Idealize.ShloMosaic.Lib.WordCmp

@[expose] public section

set_option maxRecDepth 16384

noncomputable section

namespace Cert.Pool.Ref

open Idealize.ShloMosaic Idealize.SL.Sem Cert.Pool Cert.ReferenceIdeal Cert.ReferenceIdeal.Value
open Finset

/-! ## Sums -/

/-- The running sum's window, counted from the window's first position, is the sum of the entries up to `t`. -/
theorem sum_front (R t : ℕ) (ht : t < R) (f : ℕ → EReal) :
    (∑ k ∈ range R, if R - 1 ≤ t + k ∧ t + k - (R - 1) < R then f (t + k - (R - 1)) else 0) = ∑ i ∈ range (t + 1), f i := by
  obtain ⟨a, rfl⟩ : ∃ a, R = a + (t + 1) := ⟨R - (t + 1), by omega⟩
  rw [sum_range_add, sum_eq_zero (s := range a), zero_add]
  · refine sum_congr rfl fun i hi => ?_
    have := mem_range.1 hi
    rw [if_pos ⟨by omega, by omega⟩]
    congr 1
    omega
  · intro k hk
    have := mem_range.1 hk
    exact if_neg (by omega)

theorem trail_of_real (w t : ℕ) (x : ℕ → EReal) (hx : ∀ s, s ≤ t → ∃ r : ℝ, x s = r) :
    ((∑ i ∈ range (t + 1), x i) - if t < w then 0 else ∑ i ∈ range (t - w + 1), x i) = trail w x t := by
  have hX : ∀ s, s ≤ t → x s = (((x s).toReal : ℝ) : EReal) := fun s hs => by obtain ⟨r, h⟩ := hx s hs; rw [h, EReal.toReal_coe]
  have e : trail w x t = trail w (fun s => (((x s).toReal : ℝ) : EReal)) t := by
    refine sum_congr rfl fun i _ => ?_
    by_cases h : i ≤ t
    · rw [if_pos h, if_pos h]; exact hX _ (Nat.sub_le _ _)
    · rw [if_neg h, if_neg h]
  rw [e, ← coe_trail, ← trail_eq_sub, EReal.coe_sub, coe_choice, coe_sum, coe_sum, EReal.coe_zero]
  congr 1
  · exact sum_congr rfl fun i hi => hX i (by have := mem_range.1 hi; omega)
  · refine if_congr Iff.rfl rfl (sum_congr rfl fun i hi => hX i (by have := mem_range.1 hi; omega))

theorem lead_same {w n t : ℕ} {f f' : ℕ → EReal} (h : ∀ s, s < n → f s = f' s) : lead w n f t = lead w n f' t := by
  refine sum_congr rfl fun i _ => ?_
  by_cases hi : t + i < n
  · rw [if_pos hi, if_pos hi, h _ hi]
  · rw [if_neg hi, if_neg hi]

theorem lead_of_real (w n t : ℕ) (ht : t ≤ n) (z : ℕ → EReal) (hz : ∀ s, s < n → ∃ r : ℝ, z s = r) :
    lead n n (fun s => z s + if s + w < n then -z (s + w) else 0) t = lead w n z t := by
  have hZ : ∀ s, s < n → z s = (((z s).toReal : ℝ) : EReal) := fun s hs => by obtain ⟨r, h⟩ := hz s hs; rw [h, EReal.toReal_coe]
  rw [lead_same (w := w) hZ, ← coe_lead, ← lead_eq_sub w n _ t ht, coe_lead]
  refine lead_same fun s hs => ?_
  rw [EReal.coe_add, coe_choice, EReal.coe_neg, EReal.coe_zero, ← hZ s hs]
  congr 1
  by_cases h : s + w < n
  · rw [if_pos h, if_pos h, ← hZ _ h]
  · rw [if_neg h, if_neg h]

/-- Of four terms, one for each group and zero elsewhere, the one of the group is left. -/
theorem four {g : ℕ} (hg : g < 4) {p3 p2 p1 p0 : Prop} [Decidable p3] [Decidable p2] [Decidable p1] [Decidable p0]
    (i3 : p3 ↔ g = 3) (i2 : p2 ↔ g = 2) (i1 : p1 ↔ g = 1) (i0 : p0 ↔ g = 0) {a3 : p3 → EReal} {a2 : p2 → EReal} {a1 : p1 → EReal} {a0 : p0 → EReal}
    {X : EReal} (h3 : ∀ h, g = 3 → a3 h = X) (h2 : ∀ h, g = 2 → a2 h = X) (h1 : ∀ h, g = 1 → a1 h = X) (h0 : ∀ h, g = 0 → a0 h = X) :
    ((((if h : p3 then a3 h else 0) + if h : p2 then a2 h else 0) + if h : p1 then a1 h else 0) + if h : p0 then a0 h else 0) = X := by
  rcases (show g = 0 ∨ g = 1 ∨ g = 2 ∨ g = 3 by omega) with e | e | e | e
  · rw [dif_neg (fun h => by have := i3.1 h; omega), dif_neg (fun h => by have := i2.1 h; omega), dif_neg (fun h => by have := i1.1 h; omega),
      dif_pos (i0.2 e), add_zero, add_zero, zero_add]
    exact h0 _ e
  · rw [dif_neg (fun h => by have := i3.1 h; omega), dif_neg (fun h => by have := i2.1 h; omega), dif_pos (i1.2 e),
      dif_neg (fun h => by have := i0.1 h; omega), add_zero, add_zero, zero_add]
    exact h1 _ e
  · rw [dif_neg (fun h => by have := i3.1 h; omega), dif_pos (i2.2 e), dif_neg (fun h => by have := i1.1 h; omega),
      dif_neg (fun h => by have := i0.1 h; omega), add_zero, add_zero, zero_add]
    exact h2 _ e
  · rw [dif_pos (i3.2 e), dif_neg (fun h => by have := i2.1 h; omega), dif_neg (fun h => by have := i1.1 h; omega),
      dif_neg (fun h => by have := i0.1 h; omega), add_zero, add_zero, add_zero]
    exact h3 _ e

/-! ## The arguments -/

variable (V0 : Valuation τ sig (Elt Ideal))

abbrev rU : FVec Ideal S4096x4608 .f32 := V0 (Proc.devRef .tc main_arg0)
abbrev rDm : FVec Ideal S4096x512 .f32 := V0 (Proc.devRef .tc main_arg1)
abbrev rWt : FVec Ideal S4x128x128 .f32 := V0 (Proc.devRef .tc main_arg2)
abbrev rSc : FVec Ideal S1x512 .f32 := V0 (Proc.devRef .tc main_arg3)

/-- The entries the step reads are finite. -/
structure Finite : Prop where
  u : ∀ g t c, g < 4 → t < 4096 → c < 128 → ∃ r : ℝ, cols (nat2 (rU V0)) g t c = r
  dm : ∀ g t c, g < 4 → t < 4096 → c < 128 → ∃ r : ℝ, cols (nat2 (rDm V0)) g t c = r
  wt : ∀ g a b, g < 4 → a < 128 → b < 128 → ∃ r : ℝ, nat3 (rWt V0) g a b = r
  sc : ∀ g c, g < 4 → c < 128 → ∃ r : ℝ, scales (rSc V0) g c = r

/-! ## The pooled channels -/

theorem v1_at (t : Fin 4096) (g : Fin 4) (c : Fin 128) :
    ((res_main_v1 V0 : FVec Ideal S4096x4x128 .f32) (ix3 t g c) : EReal) = cols (nat2 (rU V0)) g t c := by
  have hg := g.isLt
  have hc := c.isLt
  unfold cols
  rw [nat2_mk (rU V0) t.isLt (show g.val * 128 + c.val < 4608 by omega)]
  pointwise [res_main_v1]

theorem v2_at (t : Fin 4096) (g : Fin 4) (c : Fin 128) :
    ((res_main_v2 V0 : FVec Ideal S4096x4x128 .f32) (ix3 t g c) : EReal) = ∑ i ∈ range (t.val + 1), cols (nat2 (rU V0)) g i c := by
  unfold res_main_v2
  rw [← sum_front 4096 t.val t.isLt fun i => cols (nat2 (rU V0)) g i c]
  refine (runningFront _ _ _ _ (by pointwise []) t g c).trans ?_
  rw [Finset.sum_range]
  refine sum_congr rfl fun k _ => ?_
  by_cases hk : 4095 ≤ t.val + k.val ∧ t.val + k.val - 4095 < 4096
  · rw [dif_pos hk, if_pos hk]
    exact v1_at V0 _ g c
  · rw [dif_neg hk, if_neg hk]

/-- The counts of one width. -/
theorem count_word (w : ℕ) (hw : w < 2 ^ 30) (t : ℕ) (ht : t < 4096) :
    (FloatOps.sitofp (F := Ideal) FTy.f32 (IntOp.minsi (IntOp.addi (BitVec.ofNat 32 t) 1#32) (BitVec.ofNat 32 w)) : EReal) = ((cnt w t : ℝ) : EReal) := by
  have e1 : IntOp.addi (BitVec.ofNat 32 t) 1#32 = BitVec.ofNat 32 (t + 1) := by
    unfold IntOp.addi
    apply BitVec.eq_of_toNat_eq
    simp only [BitVec.toNat_add, BitVec.toNat_ofNat]
    omega
  rw [e1]
  show (((IntOp.minsi (BitVec.ofNat 32 (t + 1)) (BitVec.ofNat 32 w)).toInt : ℝ) : EReal) = _
  have e3 : (IntOp.minsi (BitVec.ofNat 32 (t + 1)) (BitVec.ofNat 32 w)).toInt = ((min (t + 1) w : ℕ) : ℤ) := by
    have h1 : (BitVec.ofNat 32 (t + 1)).toInt = ((t + 1 : ℕ) : ℤ) := WordCmp.toInt_ofNat_of_lt (by omega)
    have h2 : (BitVec.ofNat 32 w).toInt = (w : ℤ) := WordCmp.toInt_ofNat_of_lt (by omega)
    unfold IntOp.minsi
    rw [BitVec.slt_eq_decide, h1, h2]
    by_cases h : ((t + 1 : ℕ) : ℤ) < (w : ℤ)
    · simp only [h, decide_true, if_true]; rw [h1]; congr 1; omega
    · simp only [h, decide_false]; rw [if_neg (by decide), h2]; congr 1; omega
  rw [e3]
  unfold cnt
  push_cast
  rfl

theorem v15_at (t : Fin 4096) : ((res_main_v15 V0 : FVec Ideal S4096x1 .f32) (ix2 t 0) : EReal) = ((cnt 2 t : ℝ) : EReal) := by
  pointwise [res_main_v15, res_main_v3]; exact count_word 2 (by decide) t t.isLt
theorem v33_at (t : Fin 4096) : ((res_main_v33 V0 : FVec Ideal S4096x1 .f32) (ix2 t 0) : EReal) = ((cnt 4 t : ℝ) : EReal) := by
  pointwise [res_main_v33, res_main_v3]; exact count_word 4 (by decide) t t.isLt
theorem v51_at (t : Fin 4096) : ((res_main_v51 V0 : FVec Ideal S4096x1 .f32) (ix2 t 0) : EReal) = ((cnt 8 t : ℝ) : EReal) := by
  pointwise [res_main_v51, res_main_v3]; exact count_word 8 (by decide) t t.isLt
theorem v69_at (t : Fin 4096) : ((res_main_v69 V0 : FVec Ideal S4096x1 .f32) (ix2 t 0) : EReal) = ((cnt 16 t : ℝ) : EReal) := by
  pointwise [res_main_v69, res_main_v3]; exact count_word 16 (by decide) t t.isLt

theorem v5_at (t : Fin 4096) (c : Fin 128) : ((res_main_v5 V0 : FVec Ideal S4096x128 .f32) (ix2 t c) : EReal) = ∑ i ∈ range (t.val + 1), cols (nat2 (rU V0)) 0 i c := by
  pointwise [res_main_v5]; exact v2_at V0 t 0 c
theorem v23_at (t : Fin 4096) (c : Fin 128) : ((res_main_v23 V0 : FVec Ideal S4096x128 .f32) (ix2 t c) : EReal) = ∑ i ∈ range (t.val + 1), cols (nat2 (rU V0)) 1 i c := by
  pointwise [res_main_v23]; exact v2_at V0 t 1 c
theorem v41_at (t : Fin 4096) (c : Fin 128) : ((res_main_v41 V0 : FVec Ideal S4096x128 .f32) (ix2 t c) : EReal) = ∑ i ∈ range (t.val + 1), cols (nat2 (rU V0)) 2 i c := by
  pointwise [res_main_v41]; exact v2_at V0 t 2 c
theorem v59_at (t : Fin 4096) (c : Fin 128) : ((res_main_v59 V0 : FVec Ideal S4096x128 .f32) (ix2 t c) : EReal) = ∑ i ∈ range (t.val + 1), cols (nat2 (rU V0)) 3 i c := by
  pointwise [res_main_v59]; exact v2_at V0 t 3 c

/-- One group's pooled channels: the difference of two running sums over the count, less the entry itself. -/
theorem pool_at (hF : Finite V0) (g w : ℕ) (hg : g < 4) (hw : w = width g) (t c : ℕ) (ht : t < 4096) (hc : c < 128) {a n x : EReal} {b : ¬ t < w → EReal}
    (ha : a = ∑ i ∈ range (t + 1), cols (nat2 (rU V0)) g i c) (hb : ∀ h, b h = ∑ i ∈ range (t - w + 1), cols (nat2 (rU V0)) g i c)
    (hn : n = ((cnt w t : ℝ) : EReal)) (hx : x = cols (nat2 (rU V0)) g t c) :
    Ideal.div (a - if h : t < w then 0 else b h) n - x = pooled (width g) (cols (nat2 (rU V0)) g) t c := by
  subst hw
  unfold pooled
  rw [← trail_of_real (width g) t (fun s => cols (nat2 (rU V0)) g s c) (fun s hs => hF.u g s c hg (by omega) hc), ha, hn, hx]
  congr 3
  by_cases h : t < width g
  · rw [dif_pos h, if_pos h]
  · rw [dif_neg h, if_neg h, hb h]

theorem v80_at (hF : Finite V0) (t : Fin 4096) (g : Fin 4) (c : Fin 128) :
    ((res_main_v80 V0 : FVec Ideal S4096x4x128 .f32) (ix3 t g c) : EReal) = pooled (width g) (cols (nat2 (rU V0)) g) t c := by
  match g with
  | ⟨0, _⟩ =>
    show ((res_main_v80 V0 : FVec Ideal S4096x4x128 .f32) (ix3 t 0 c) : EReal) = _
    pointwise [res_main_v80]
    exact pool_at V0 hF 0 2 (by decide) rfl t c t.isLt c.isLt (v5_at V0 t c) (fun h => v5_at V0 _ c) (v15_at V0 t) (v1_at V0 t 0 c)
  | ⟨1, _⟩ =>
    show ((res_main_v80 V0 : FVec Ideal S4096x4x128 .f32) (ix3 t 1 c) : EReal) = _
    pointwise [res_main_v80]
    exact pool_at V0 hF 1 4 (by decide) rfl t c t.isLt c.isLt (v23_at V0 t c) (fun h => v23_at V0 _ c) (v33_at V0 t) (v1_at V0 t 1 c)
  | ⟨2, _⟩ =>
    show ((res_main_v80 V0 : FVec Ideal S4096x4x128 .f32) (ix3 t 2 c) : EReal) = _
    pointwise [res_main_v80]
    exact pool_at V0 hF 2 8 (by decide) rfl t c t.isLt c.isLt (v41_at V0 t c) (fun h => v41_at V0 _ c) (v51_at V0 t) (v1_at V0 t 2 c)
  | ⟨3, _⟩ =>
    show ((res_main_v80 V0 : FVec Ideal S4096x4x128 .f32) (ix3 t 3 c) : EReal) = _
    pointwise [res_main_v80]
    exact pool_at V0 hF 3 16 (by decide) rfl t c t.isLt c.isLt (v59_at V0 t c) (fun h => v59_at V0 _ c) (v69_at V0 t) (v1_at V0 t 3 c)

/-! ## The gradients of the weights and of the scales -/

theorem v92_at (t : Fin 4096) (g : Fin 4) (d : Fin 128) :
    ((res_main_v92 V0 : FVec Ideal S4x128x4096 .f32) (ix3 g d t) : EReal) = dmix (cols (nat2 (rDm V0)) g) (scales (rSc V0) g) t d := by
  have hg := g.isLt
  have hd := d.isLt
  unfold dmix cols scales
  rw [nat2_mk (rDm V0) t.isLt (show g.val * 128 + d.val < 512 by omega), nat2_mk (rSc V0) Nat.one_pos (show g.val * 128 + d.val < 512 by omega)]
  pointwise [res_main_v92]

/-- Three of the reference's arrays as arrays of extended reals. -/
abbrev r92 : S4x128x4096.Idx → EReal := (res_main_v92 V0 : FVec Ideal S4x128x4096 .f32)
abbrev r80 : S4096x4x128.Idx → EReal := (res_main_v80 V0 : FVec Ideal S4096x4x128 .f32)
abbrev r83 : S4096x512.Idx → EReal := (res_main_v83 V0 : FVec Ideal S4096x512 .f32)

theorem weight_at (hF : Finite V0) (g : Fin 4) (a b : Fin 128) :
    (∑ x : Fin 4096, r92 V0 (ix3 g b x) * r80 V0 (ix3 x g a))
      = dwAll (rU V0) (rDm V0) (rSc V0) g a b := by
  unfold dwAll dweight
  rw [Finset.sum_range]
  refine sum_congr rfl fun x _ => ?_
  rw [show r92 V0 (ix3 g b x) = _ from v92_at V0 x g b, show r80 V0 (ix3 x g a) = _ from v80_at V0 hF x g a, mul_comm]

theorem v83_at (hF : Finite V0) (t : Fin 4096) (q : Fin 512) :
    ((res_main_v83 V0 : FVec Ideal S4096x512 .f32) (ix2 t q) : EReal)
      = mixed (width (q.val / 128)) (cols (nat2 (rU V0)) (q.val / 128)) (nat3 (rWt V0) (q.val / 128)) t (q.val % 128) := by
  have hq := q.isLt
  pointwise [res_main_v83]
  show (∑ x : Fin 128, (rWt V0 (ix3 (⟨q.val / 128, by omega⟩ : Fin 4) x (⟨q.val % 128, by omega⟩ : Fin 128)) : EReal) * r80 V0 (ix3 t (⟨q.val / 128, by omega⟩ : Fin 4) x) : EReal) = _
  unfold mixed
  rw [Finset.sum_range]
  refine sum_congr rfl fun x _ => ?_
  rw [show r80 V0 (ix3 t (⟨q.val / 128, by omega⟩ : Fin 4) x) = _ from v80_at V0 hF t _ x, mul_comm, nat3_mk (rWt V0) (show q.val / 128 < 4 by omega) x.isLt (show q.val % 128 < 128 by omega)]

theorem scale_at (hF : Finite V0) (q : Fin 512) :
    (∑ x : Fin 4096, r83 V0 (ix2 x q) * (rDm V0 (ix2 x q) : EReal) : EReal)
      = dsAll (rU V0) (rDm V0) (rWt V0) q := by
  have hq := q.isLt
  unfold dsAll dscale
  rw [Finset.sum_range]
  refine sum_congr rfl fun x _ => ?_
  rw [show r83 V0 (ix2 x q) = _ from v83_at V0 hF x q, mul_comm]
  congr 1
  unfold cols
  rw [show q.val / 128 * 128 + q.val % 128 = q.val by omega, nat2_apply]

/-! ## The cotangent of the input -/

theorem v94_at (t : Fin 4096) (g : Fin 4) (c : Fin 128) :
    ((res_main_v94 V0 : FVec Ideal S4096x4x128 .f32) (ix3 t g c) : EReal) = dpool (cols (nat2 (rDm V0)) g) (scales (rSc V0) g) (nat3 (rWt V0) g) t c := by
  pointwise [res_main_v94]
  show (∑ x : Fin 128, r92 V0 (ix3 g x t) * (rWt V0 (ix3 g c x) : EReal) : EReal) = _
  unfold dpool
  rw [Finset.sum_range]
  refine sum_congr rfl fun x _ => ?_
  rw [show r92 V0 (ix3 g x t) = _ from v92_at V0 t g x, nat3_apply (rWt V0) g c x]

/-- The pooled cotangent over the count. -/
abbrev quo (g w c s : ℕ) : EReal := Ideal.div (dpool (cols (nat2 (rDm V0)) g) (scales (rSc V0) g) (nat3 (rWt V0) g) s c) ((cnt w s : ℝ) : EReal)

theorem v150_at (t : Fin 4096) (c : Fin 128) : ((res_main_v150 V0 : FVec Ideal S4096x128 .f32) (ix2 t c) : EReal) = quo V0 0 2 c t := by
  pointwise [res_main_v150, res_main_v98]; rw [v94_at, v15_at]; rfl
theorem v136_at (t : Fin 4096) (c : Fin 128) : ((res_main_v136 V0 : FVec Ideal S4096x128 .f32) (ix2 t c) : EReal) = quo V0 1 4 c t := by
  pointwise [res_main_v136, res_main_v100]; rw [v94_at, v33_at]; rfl
theorem v122_at (t : Fin 4096) (c : Fin 128) : ((res_main_v122 V0 : FVec Ideal S4096x128 .f32) (ix2 t c) : EReal) = quo V0 2 8 c t := by
  pointwise [res_main_v122, res_main_v102]; rw [v94_at, v51_at]; rfl
theorem v109_at (t : Fin 4096) (c : Fin 128) : ((res_main_v109 V0 : FVec Ideal S4096x128 .f32) (ix2 t c) : EReal) = quo V0 3 16 c t := by
  pointwise [res_main_v109, res_main_v104]; rw [v94_at, v69_at]; rfl
theorem v151_at (t : Fin 4096) (c : Fin 128) : ((res_main_v151 V0 : FVec Ideal S4096x128 .f32) (ix2 t c) : EReal) = -quo V0 0 2 c t := by
  pointwise [res_main_v151]; rw [v150_at]
theorem v137_at (t : Fin 4096) (c : Fin 128) : ((res_main_v137 V0 : FVec Ideal S4096x128 .f32) (ix2 t c) : EReal) = -quo V0 1 4 c t := by
  pointwise [res_main_v137]; rw [v136_at]
theorem v123_at (t : Fin 4096) (c : Fin 128) : ((res_main_v123 V0 : FVec Ideal S4096x128 .f32) (ix2 t c) : EReal) = -quo V0 2 8 c t := by
  pointwise [res_main_v123]; rw [v122_at]
theorem v110_at (t : Fin 4096) (c : Fin 128) : ((res_main_v110 V0 : FVec Ideal S4096x128 .f32) (ix2 t c) : EReal) = -quo V0 3 16 c t := by
  pointwise [res_main_v110]; rw [v109_at]

theorem quo_real (hF : Finite V0) (g w c s : ℕ) (hg : g < 4) (hw : 0 < w) (hc : c < 128) (hs : s < 4096) : ∃ r : ℝ, quo V0 g w c s = r := by
  have hsum : ∃ r : ℝ, dpool (cols (nat2 (rDm V0)) g) (scales (rSc V0) g) (nat3 (rWt V0) g) s c = r := by
    have h : ∀ d, ∃ r : ℝ, d < 128 → dmix (cols (nat2 (rDm V0)) g) (scales (rSc V0) g) s d * nat3 (rWt V0) g c d = r := by
      intro d
      by_cases hd : d < 128
      · obtain ⟨x, hx⟩ := hF.dm g s d hg hs hd
        obtain ⟨y, hy⟩ := hF.sc g d hg hd
        obtain ⟨z, hz⟩ := hF.wt g c d hg hc hd
        exact ⟨x * y * z, fun _ => by unfold dmix; rw [hx, hy, hz, EReal.coe_mul, EReal.coe_mul]⟩
      · exact ⟨0, fun h => absurd h hd⟩
    choose r hr using h
    refine ⟨∑ d ∈ range 128, r d, ?_⟩
    rw [coe_sum]
    exact sum_congr rfl fun d hd => hr d (mem_range.1 hd)
  obtain ⟨r, hr⟩ := hsum
  refine ⟨r * (cnt w s)⁻¹, ?_⟩
  unfold quo Ideal.div
  rw [hr, if_neg (by exact_mod_cast cnt_ne hw s), EReal.coe_mul, EReal.coe_inv]

/-- Group `g`'s pooled cotangent. -/
abbrev pull (g c s : ℕ) : EReal := dpool (cols (nat2 (rDm V0)) g) (scales (rSc V0) g) (nat3 (rWt V0) g) s c

theorem v98_at (t : Fin 4096) (c : Fin 128) : ((res_main_v98 V0 : FVec Ideal S4096x128 .f32) (ix2 t c) : EReal) = pull V0 0 c t := by
  pointwise [res_main_v98]; exact v94_at V0 t 0 c
theorem v100_at (t : Fin 4096) (c : Fin 128) : ((res_main_v100 V0 : FVec Ideal S4096x128 .f32) (ix2 t c) : EReal) = pull V0 1 c t := by
  pointwise [res_main_v100]; exact v94_at V0 t 1 c
theorem v102_at (t : Fin 4096) (c : Fin 128) : ((res_main_v102 V0 : FVec Ideal S4096x128 .f32) (ix2 t c) : EReal) = pull V0 2 c t := by
  pointwise [res_main_v102]; exact v94_at V0 t 2 c
theorem v104_at (t : Fin 4096) (c : Fin 128) : ((res_main_v104 V0 : FVec Ideal S4096x128 .f32) (ix2 t c) : EReal) = pull V0 3 c t := by
  pointwise [res_main_v104]; exact v94_at V0 t 3 c

/-- What the running sum from the back adds up: the quotient, less the quotient one window on. -/
abbrev step (g c s : ℕ) : EReal := quo V0 g (width g) c s + if s + width g < 4096 then -quo V0 g (width g) c (s + width g) else 0

/-- One group's entry of it. -/
theorem step_at (g w : ℕ) (hw : w = width g) (c s : ℕ) {a : EReal} {p : Prop} [Decidable p] {b : p → EReal} (hp : p ↔ s + w < 4096)
    (ha : a = quo V0 g w c s) (hb : ∀ h, b h = -quo V0 g w c (w + s)) : (a + if h : p then b h else 0) = step V0 g c s := by
  subst hw
  rw [ha]
  unfold step
  congr 1
  by_cases h : s + width g < 4096
  · rw [dif_pos (hp.2 h), if_pos h, hb, Nat.add_comm]
  · rw [dif_neg (fun h' => h (hp.1 h')), if_neg h]

/-- The running sum from the back is the sum over a window. -/
theorem steps_at (hF : Finite V0) (g c t : ℕ) (hg : g < 4) (hc : c < 128) (ht : t < 4096) :
    (∑ k : Fin 4096, if t + k.val < 4096 then step V0 g c (t + k.val) else 0) = lead (width g) 4096 (quo V0 g (width g) c) t := by
  rw [← lead_of_real (width g) 4096 t (by omega) (quo V0 g (width g) c) (fun s hs => quo_real V0 hF g _ c s hg (width_pos g) hc hs)]
  unfold lead
  rw [Finset.sum_range]

/-! ## The run -/

set_option maxHeartbeats 1000000 in
theorem values (m : (ℓ : Loc nD τ sig) → Buf (Elt Ideal) ℓ) (ρ : Dev nD → PrngReg) (hF : ∀ c : Dev nD, Finite (StableHlo.launchContents m c)) :
    θ_run defs (onTc (τ := τ) (main (F := Ideal))) ⟨m, fun _ => 0, ρ⟩ fun r => ∀ c : Dev nD,
      r.2.mem ((c.tc : Thread nD τ).loc main_v162)
        = (fun j => duAll (rDm (StableHlo.launchContents m c)) (rWt (StableHlo.launchContents m c)) (rSc (StableHlo.launchContents m c)) (j 0).val (j 1).val : FVec Ideal S4096x512 .bf16)
      ∧ r.2.mem ((c.tc : Thread nD τ).loc main_v96)
        = (fun j => dwAll (rU (StableHlo.launchContents m c)) (rDm (StableHlo.launchContents m c)) (rSc (StableHlo.launchContents m c)) (j 0).val (j 1).val (j 2).val : FVec Ideal S4x128x128 .f32)
      ∧ r.2.mem ((c.tc : Thread nD τ).loc main_v88)
        = (fun j => dsAll (rU (StableHlo.launchContents m c)) (rDm (StableHlo.launchContents m c)) (rWt (StableHlo.launchContents m c)) (j 1).val : FVec Ideal S1x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (run m ρ)
  have hFc := hF c
  refine ⟨(h c).1.trans ?_, (h c).2.1.trans ?_, (h c).2.2.1.trans ?_, (h c).2.2.2⟩
  · clear h hF
    generalize StableHlo.launchContents m c = V0 at hFc ⊢
    refine funext fun j => ?_
    obtain ⟨t, q, rfl⟩ : ∃ (t : Fin 4096) (q : Fin 512), j = ix2 t q := ⟨_, _, (eq_ix2 j)⟩
    have hq := q.isLt
    have hg : q.val / 128 < 4 := by omega
    pointwise
    have hc : q.val % 128 < 128 := by omega
    have e : duAll (rDm V0) (rWt V0) (rSc V0) t q
        = -pull V0 (q.val / 128) (q.val % 128) t + lead (width (q.val / 128)) 4096 (quo V0 (q.val / 128) (width (q.val / 128)) (q.val % 128)) t := by
      unfold duAll dinput
      rw [sub_eq_add_neg, add_comm]
    refine Eq.trans ?_ e.symm
    refine congrArg₂ (fun x y : EReal => x + y) (four hg (by omega) (by omega) (by omega) (by omega) (fun _ e => ?_) (fun _ e => ?_) (fun _ e => ?_) (fun _ e => ?_)) ?_
    · refine Eq.trans ?_ (congrArg (fun g => -pull V0 g (q.val % 128) t) e.symm); exact congrArg (fun x : EReal => -x) (v104_at V0 t ⟨q.val % 128, hc⟩)
    · refine Eq.trans ?_ (congrArg (fun g => -pull V0 g (q.val % 128) t) e.symm); exact congrArg (fun x : EReal => -x) (v102_at V0 t ⟨q.val % 128, hc⟩)
    · refine Eq.trans ?_ (congrArg (fun g => -pull V0 g (q.val % 128) t) e.symm); exact congrArg (fun x : EReal => -x) (v100_at V0 t ⟨q.val % 128, hc⟩)
    · refine Eq.trans ?_ (congrArg (fun g => -pull V0 g (q.val % 128) t) e.symm); exact congrArg (fun x : EReal => -x) (v98_at V0 t ⟨q.val % 128, hc⟩)
    · refine (runningBack _ _ _ _ (by pointwise []) t _ _).trans (Eq.trans ?_ (steps_at V0 hFc _ _ t hg hc t.isLt))
      refine sum_congr rfl fun k _ => ?_
      by_cases hk : t.val + k.val < 4096
      · rw [dif_pos hk, if_pos hk]
        pointwise
        refine four hg (by omega) (by omega) (by omega) (by omega) (fun _ e => ?_) (fun _ e => ?_) (fun _ e => ?_) (fun _ e => ?_)
        · refine Eq.trans ?_ (congrArg (fun g => step V0 g (q.val % 128) (t.val + k.val)) e.symm); exact step_at V0 3 16 rfl _ _ (by omega) (v109_at V0 _ _) (fun h => v110_at V0 _ _)
        · refine Eq.trans ?_ (congrArg (fun g => step V0 g (q.val % 128) (t.val + k.val)) e.symm); exact step_at V0 2 8 rfl _ _ (by omega) (v122_at V0 _ _) (fun h => v123_at V0 _ _)
        · refine Eq.trans ?_ (congrArg (fun g => step V0 g (q.val % 128) (t.val + k.val)) e.symm); exact step_at V0 1 4 rfl _ _ (by omega) (v136_at V0 _ _) (fun h => v137_at V0 _ _)
        · refine Eq.trans ?_ (congrArg (fun g => step V0 g (q.val % 128) (t.val + k.val)) e.symm); exact step_at V0 0 2 rfl _ _ (by omega) (v150_at V0 _ _) (fun h => v151_at V0 _ _)
      · rw [dif_neg hk, if_neg hk]
  · clear h hF
    generalize StableHlo.launchContents m c = V0 at hFc ⊢
    refine funext fun j => ?_
    obtain ⟨g, a, b, rfl⟩ : ∃ (g : Fin 4) (a b : Fin 128), j = ix3 g a b := ⟨_, _, _, (eq_ix3 j)⟩
    pointwise
    exact weight_at V0 hFc g a b
  · clear h hF
    generalize StableHlo.launchContents m c = V0 at hFc ⊢
    refine funext fun j => ?_
    obtain ⟨t, q, rfl⟩ : ∃ (t : Fin 1) (q : Fin 512), j = ix2 t q := ⟨_, _, (eq_ix2 j)⟩
    pointwise
    exact scale_at V0 hFc q

end Cert.Pool.Ref

end
-- ==== Proof.lean ====
/- The proof of the certificate's claim: the kernel's frame (BitsFrame), and at the ideal instance the kernel's run (KRun) and the reference's
   (RefRun), which leave the same sums in their results. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.FfnOutBwd
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.FfnInBwd
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.InGrad
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.OutGrad
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.FfnLoss
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.MixGrad
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.PoolOutGrad
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.RnnOutGrad
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.BranchGrad
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.InProjBwd
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.ProjGrad
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.MergeBwd
public import proofs.«01_k».proof.Proof.Gen.Kernel15
public import proofs.«01_k».proof.Proof.Gen.Kernel15Ideal
public import proofs.«01_k».proof.Proof.Gen.Reference15Ideal
public import proofs.«01_k».proof.Proof.Gen.Reference15Ideal.Run
public import proofs.«01_k».proof.Proof.InProjFrame
public import proofs.«01_k».proof.Proof.InProj
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.BranchMix
public import proofs.«01_k».proof.Defs
public import proofs.«01_k».proof.Proof.Gen.Kernel
public import proofs.«01_k».proof.Proof.BitsFrame
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.RefRun
public import proofs.«01_k».proof.Proof.Finiteness
public import Idealize.ShloMosaic.Lib.Quiescent

@[expose] public section

noncomputable section

namespace Cert.Proof

open Idealize.ShloMosaic Idealize.SL.Sem

/-- The reference ends, leaves its arguments as they were and its counters at zero. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems (by decide) r.2⟩) (Cert.ReferenceIdeal.Value.run m ρ)

attribute [local instance] Cert.Pool.preFacts Cert.FfnOutBwd.preFacts Cert.FfnInBwd.preFacts Cert.FfnLoss.preFacts Cert.InProjBwd.preFacts

/-- Reference 2 ends, leaves its arguments as they were and its counters at zero. -/
theorem reference_quiet2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2, sem_eq_zero_of_no_sems (by decide) r.2⟩) (Cert.Reference2Ideal.Value.run m ρ)

theorem algebraic2 : Cert.algebraic_Kernel2Ideal_Reference2Ideal_pre_finite_ffn_out := by
  intro m ρ m' ρ' hpre hagree
  have hF : ∀ c, Cert.FfnOutBwd.Real m' c := fun c => by
    obtain ⟨e0, e1, e2, e3⟩ := hagree c
    have p := hpre c
    rw [← e0, ← e1, ← e2, ← e3] at p
    exact Cert.FfnOutBwd.real_of_pre m' c p
  refine ⟨_, _, Cert.FfnOutBwd.values m ρ, (θ_run _ _ _).mono (fun r h c => ?_) (Cert.FfnOutBwd.reference m' ρ' hF)⟩
  have h := h c
  obtain ⟨e0, e1, e2, e3⟩ := hagree c
  refine ⟨h.1.trans ?_, h.2.1.trans ?_, h.2.2⟩ <;> simp only [e0, e1, e2, e3]

/-- Reference 3 ends, leaves its arguments as they were and its counters at zero. -/
theorem reference_quiet3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2.2.2, sem_eq_zero_of_no_sems (by decide) r.2⟩) (Cert.Reference3Ideal.Value.run m ρ)

theorem algebraic3 : Cert.algebraic_Kernel3Ideal_Reference3Ideal_pre_finite_ffn_in := by
  intro m ρ m' ρ' hpre hagree
  have hF : ∀ c, Cert.FfnInBwd.Real m' c := fun c => by
    obtain ⟨e0, e1, e2, e3, e4, e5⟩ := hagree c
    have p := hpre c
    rw [← e0, ← e1, ← e2, ← e3, ← e4, ← e5] at p
    exact Cert.FfnInBwd.real_of_pre m' c p
  refine ⟨_, _, _, Cert.FfnInBwd.values m ρ, (θ_run _ _ _).mono (fun r h c => ?_) (Cert.FfnInBwd.reference m' ρ' hF)⟩
  have h := h c
  obtain ⟨e0, e1, e2, e3, e4, e5⟩ := hagree c
  refine ⟨h.1.trans ?_, h.2.1.trans ?_, h.2.2.1.trans ?_, h.2.2.2⟩ <;> simp only [e0, e1, e2, e3, e4, e5]

/-- Reference 4 ends, leaves its arguments as they were and its counters at zero. -/
theorem reference_quiet4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run _ _ _).mono (fun r h => ⟨fun c => (h c).2, sem_eq_zero_of_no_sems (by decide) r.2⟩) (Cert.Reference4Ideal.Value.run m ρ)

theorem algebraic4 : Cert.algebraic_Kernel4Ideal_Reference4Ideal := by
  intro m ρ m' ρ' _ hagree
  refine ⟨_, Cert.InGrad.values m ρ, (θ_run _ _ _).mono (fun r h c => ?_) (Cert.InGrad.reference m' ρ')⟩
  have h := h c
  obtain ⟨e0, e1, e2⟩ := hagree c
  refine ⟨h.1.trans ?_, h.2⟩ <;> simp only [e0, e1, e2]

/-- Reference 5 ends, leaves its arguments as they were and its counters at zero. -/
theorem reference_quiet5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2.2, sem_eq_zero_of_no_sems (by decide) r.2⟩) (Cert.Reference5Ideal.Value.run m ρ)

theorem algebraic5 : Cert.algebraic_Kernel5Ideal_Reference5Ideal := by
  intro m ρ m' ρ' _ hagree
  refine ⟨_, _, Cert.OutGrad.values m ρ, (θ_run _ _ _).mono (fun r h c => ?_) (Cert.OutGrad.reference m' ρ')⟩
  have h := h c
  obtain ⟨e0, e1⟩ := hagree c
  refine ⟨h.1.trans ?_, h.2.1.trans ?_, h.2.2⟩ <;> simp only [e0, e1]

/-- Reference 7 ends, leaves its arguments as they were and its counters at zero. -/
theorem reference_quiet7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0) :=
  (θ_run _ _ _).mono (fun r h => ⟨fun c => (h c).2.2.2.2, sem_eq_zero_of_no_sems (by decide) r.2⟩) (Cert.Reference7Ideal.Value.run m ρ)

theorem algebraic7 : Cert.algebraic_Kernel7Ideal_Reference7Ideal_pre_finite_loss := by
  intro m ρ m' ρ' hpre hagree
  have hF : ∀ c, Cert.FfnLoss.Real m' c := fun c => by
    obtain ⟨e0, e1, e2, e3, e4⟩ := hagree c
    have p := hpre c
    rw [← e0, ← e1, ← e2, ← e3, ← e4] at p
    exact Cert.FfnLoss.real_of_pre m' c p
  refine ⟨_, _, _, _, Cert.FfnLoss.values m ρ, (θ_run _ _ _).mono (fun r h c => ?_) (Cert.FfnLoss.reference m' ρ' hF)⟩
  have h := h c
  obtain ⟨e0, e1, e2, e3, e4⟩ := hagree c
  refine ⟨h.1.trans ?_, h.2.1.trans ?_, h.2.2.1.trans ?_, h.2.2.2.1.trans ?_, h.2.2.2.2⟩ <;> simp only [e0, e1, e2, e3, e4]

/-- Reference 8 ends, leaves its arguments as they were and its counters at zero. -/
theorem reference_quiet8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2.2, sem_eq_zero_of_no_sems (by decide) r.2⟩) (Cert.Reference8Ideal.Value.run m ρ)

theorem algebraic8 : Cert.algebraic_Kernel8Ideal_Reference8Ideal := by
  intro m ρ m' ρ' _ hagree
  refine ⟨_, _, Cert.MixGrad.values m ρ, (θ_run _ _ _).mono (fun r h c => ?_) (Cert.MixGrad.reference m' ρ')⟩
  have h := h c
  obtain ⟨e0, e1⟩ := hagree c
  refine ⟨h.1.trans ?_, h.2.1.trans ?_, h.2.2⟩ <;> simp only [e0, e1]

/-- Reference 9 ends, leaves its arguments as they were and its counters at zero. -/
theorem reference_quiet9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2.2, sem_eq_zero_of_no_sems (by decide) r.2⟩) (Cert.Reference9Ideal.Value.run m ρ)

theorem algebraic9 : Cert.algebraic_Kernel9Ideal_Reference9Ideal := by
  intro m ρ m' ρ' _ hagree
  refine ⟨_, _, Cert.PoolOutGrad.values m ρ, (θ_run _ _ _).mono (fun r h c => ?_) (Cert.PoolOutGrad.reference m' ρ')⟩
  have h := h c
  obtain ⟨e0, e1⟩ := hagree c
  refine ⟨h.1.trans ?_, h.2.1.trans ?_, h.2.2⟩ <;> simp only [e0, e1]

/-- Reference 10 ends, leaves its arguments as they were and its counters at zero. -/
theorem reference_quiet10 (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2.2, sem_eq_zero_of_no_sems (by decide) r.2⟩) (Cert.Reference10Ideal.Value.run m ρ)

theorem algebraic10 : Cert.algebraic_Kernel10Ideal_Reference10Ideal := by
  intro m ρ m' ρ' _ hagree
  refine ⟨_, _, Cert.RnnOutGrad.values m ρ, (θ_run _ _ _).mono (fun r h c => ?_) (Cert.RnnOutGrad.reference m' ρ')⟩
  have h := h c
  obtain ⟨e0, e1⟩ := hagree c
  refine ⟨h.1.trans ?_, h.2.1.trans ?_, h.2.2⟩ <;> simp only [e0, e1]

/-- Reference 11 ends, leaves its arguments as they were and its counters at zero. -/
theorem reference_quiet11 (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0) :=
  (θ_run _ _ _).mono (fun r h => ⟨fun c => (h c).2.2, sem_eq_zero_of_no_sems (by decide) r.2⟩) (Cert.Reference11Ideal.Value.run m ρ)

theorem algebraic11 : Cert.algebraic_Kernel11Ideal_Reference11Ideal := by
  intro m ρ m' ρ' _ hagree
  refine ⟨_, _, Cert.BranchGrad.values m ρ, (θ_run _ _ _).mono (fun r h c => ?_) (Cert.BranchGrad.reference m' ρ')⟩
  have h := h c
  obtain ⟨e0, e1, e2, e3⟩ := hagree c
  refine ⟨h.1.trans ?_, h.2.1.trans ?_, h.2.2⟩ <;> simp only [e0, e1, e2, e3]

/-- Reference 12 ends, leaves its arguments as they were and its counters at zero. -/
theorem reference_quiet12 (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0) :=
  (θ_run _ _ _).mono (fun r h => ⟨fun c => (h c).2.2, sem_eq_zero_of_no_sems (by decide) r.2⟩) (Cert.Reference12Ideal.Value.run m ρ)

theorem algebraic12 : Cert.algebraic_Kernel12Ideal_Reference12Ideal_pre_finite_in_proj := by
  intro m ρ m' ρ' hpre hagree
  have hF : ∀ c, Cert.InProjBwd.Real m' c := fun c => by
    obtain ⟨e0, e1, e2, e3, e4⟩ := hagree c
    have p := hpre c
    rw [← e0, ← e1, ← e2, ← e3, ← e4] at p
    exact Cert.InProjBwd.real_of_pre m' c p
  refine ⟨_, _, Cert.InProjBwd.values m ρ, (θ_run _ _ _).mono (fun r h c => ?_) (Cert.InProjBwd.reference m' ρ' hF)⟩
  have h := h c
  obtain ⟨e0, e1, e2, e3, e4⟩ := hagree c
  refine ⟨h.1.trans ?_, h.2.1.trans ?_, h.2.2⟩ <;> simp only [e0, e1, e2, e3, e4]

/-- Reference 13 ends, leaves its arguments as they were and its counters at zero. -/
theorem reference_quiet13 (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run _ _ _).mono (fun r h => ⟨fun c => (h c).2, sem_eq_zero_of_no_sems (by decide) r.2⟩) (Cert.Reference13Ideal.Value.run m ρ)

theorem algebraic13 : Cert.algebraic_Kernel13Ideal_Reference13Ideal := by
  intro m ρ m' ρ' _ hagree
  refine ⟨_, Cert.ProjGrad.values m ρ, (θ_run _ _ _).mono (fun r h c => ?_) (Cert.ProjGrad.reference m' ρ')⟩
  have h := h c
  obtain ⟨e0, e1⟩ := hagree c
  refine ⟨h.1.trans ?_, h.2⟩ <;> simp only [e0, e1]

/-- Reference 14 ends, leaves its arguments as they were and its counters at zero. -/
theorem reference_quiet14 (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0) :=
  (θ_run _ _ _).mono (fun r h => ⟨fun c => (h c).2.2.2.2, sem_eq_zero_of_no_sems (by decide) r.2⟩) (Cert.Reference14Ideal.Value.run m ρ)

theorem algebraic14 : Cert.algebraic_Kernel14Ideal_Reference14Ideal := by
  intro m ρ m' ρ' _ hagree
  refine ⟨_, _, _, _, Cert.MergeBwd.values m ρ, (θ_run _ _ _).mono (fun r h c => ?_) (Cert.MergeBwd.reference m' ρ')⟩
  have h := h c
  obtain ⟨e0, e1, e2, e3, e4⟩ := hagree c
  refine ⟨h.1.trans ?_, h.2.1.trans ?_, h.2.2.1.trans ?_, h.2.2.2.1.trans ?_, h.2.2.2.2⟩ <;> simp only [e0, e1, e2, e3, e4]

/-- Reference 15 ends, leaves its arguments as they were and its counters at zero. -/
theorem reference_quiet15 (m : (ℓ : Loc Cert.Reference15Ideal.nD Cert.Reference15Ideal.τ Cert.Reference15Ideal.sig) → Buf (Elt Ideal) ℓ) (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0) :=
  (θ_run _ _ _).mono (fun r h => ⟨fun c => (h c).2.2, sem_eq_zero_of_no_sems (by decide) r.2⟩) (Cert.Reference15Ideal.Value.run m ρ)

theorem algebraic15 : Cert.algebraic_Kernel15Ideal_Reference15Ideal := by
  intro m ρ m' ρ' _ hagree
  refine ⟨_, _, Cert.InProj.values m ρ, (θ_run _ _ _).mono (fun r h c => ?_) (Cert.InProj.reference m' ρ')⟩
  have h := h c
  obtain ⟨e0, e1, e2⟩ := hagree c
  refine ⟨h.1.trans ?_, h.2.1.trans ?_, h.2.2⟩ <;> simp only [e0, e1, e2]

/-- Reference 16 ends, leaves its arguments as they were and its counters at zero. -/
theorem reference_quiet16 (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0) :=
  (θ_run _ _ _).mono (fun r h => ⟨fun c => (h c).2.2.2.2.2.2, sem_eq_zero_of_no_sems (by decide) r.2⟩) (Cert.Reference16Ideal.Value.run m ρ)

theorem algebraic16 : Cert.algebraic_Kernel16Ideal_Reference16Ideal := by
  intro m ρ m' ρ' _ hagree
  refine ⟨_, _, _, _, _, _, Cert.BranchMix.values m ρ, (θ_run _ _ _).mono (fun r h c => ?_) (Cert.BranchMix.reference m' ρ')⟩
  have h := h c
  obtain ⟨e0, e1, e2, e3, e4, e5, e6⟩ := hagree c
  refine ⟨h.1.trans ?_, h.2.1.trans ?_, h.2.2.1.trans ?_, h.2.2.2.1.trans ?_, h.2.2.2.2.1.trans ?_, h.2.2.2.2.2.1.trans ?_, h.2.2.2.2.2.2⟩ <;> simp only [e0, e1, e2, e3, e4, e5, e6]

theorem algebraic : Cert.algebraic_KernelIdeal_ReferenceIdeal_pre_finite_inputs := by
  intro m ρ m' ρ' hpre hagree
  have hF : ∀ c : Dev Cert.ReferenceIdeal.nD, Cert.Pool.Ref.Finite (StableHlo.launchContents m' c) := fun c => by
    obtain ⟨e0, e1, e2, e3⟩ := hagree c
    obtain ⟨p0, p1, p2, p3⟩ := hpre c
    rw [← e0, ← e1, ← e2, ← e3] at p0 p1 p2 p3
    exact ⟨Cert.Pool.pre_u _ _ _ _ p0, Cert.Pool.pre_dm _ _ _ _ p1, Cert.Pool.pre_wt _ _ _ _ p2, Cert.Pool.pre_sc _ _ _ _ p3⟩
  refine ⟨_, _, _, (θ_run _ _ _).mono (fun r h c => ⟨(h c).1.1, (h c).1.2.1, (h c).1.2.2, (h c).2⟩) (Cert.Pool.Ker.values m ρ),
    (θ_run _ _ _).mono (fun r h c => ⟨(h c).1.trans ?_, (h c).2.1.trans ?_, (h c).2.2.1.trans ?_, (h c).2.2.2⟩) (Cert.Pool.Ref.values m' ρ' hF)⟩
  · have e1 : Cert.Pool.Ref.rDm (StableHlo.launchContents m' c) = Cert.Pool.Ker.argDm m c := (hagree c).2.1
    have e2 : Cert.Pool.Ref.rWt (StableHlo.launchContents m' c) = Cert.Pool.Ker.argWt m c := (hagree c).2.2.1
    have e3 : Cert.Pool.Ref.rSc (StableHlo.launchContents m' c) = Cert.Pool.Ker.argSc m c := (hagree c).2.2.2
    rw [e1, e2, e3]
  · have e0 : Cert.Pool.Ref.rU (StableHlo.launchContents m' c) = Cert.Pool.Ker.argU m c := (hagree c).1
    have e1 : Cert.Pool.Ref.rDm (StableHlo.launchContents m' c) = Cert.Pool.Ker.argDm m c := (hagree c).2.1
    have e3 : Cert.Pool.Ref.rSc (StableHlo.launchContents m' c) = Cert.Pool.Ker.argSc m c := (hagree c).2.2.2
    rw [e0, e1, e3]
  · have e0 : Cert.Pool.Ref.rU (StableHlo.launchContents m' c) = Cert.Pool.Ker.argU m c := (hagree c).1
    have e1 : Cert.Pool.Ref.rDm (StableHlo.launchContents m' c) = Cert.Pool.Ker.argDm m c := (hagree c).2.1
    have e2 : Cert.Pool.Ref.rWt (StableHlo.launchContents m' c) = Cert.Pool.Ker.argWt m c := (hagree c).2.2.1
    rw [e0, e1, e2]

theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pool.preFacts, Cert.FfnOutBwd.preFacts, Cert.FfnInBwd.preFacts, Cert.FfnLoss.preFacts, Cert.InProjBwd.preFacts,
    fun m ρ _ => Cert.Pool.Any.quiet m ρ, fun m ρ _ => Cert.Pool.Ker.quiet m ρ, fun m ρ _ => Cert.Pool.Ker.quiet m ρ,
    fun m ρ _ => reference_quiet m ρ, fun m ρ _ => reference_quiet m ρ,
    fun m ρ _ => Cert.Kernel2.Gen.frame m ρ,
    fun m ρ _ => Cert.Kernel2Ideal.Gen.frame m ρ,
    fun m ρ _ => Cert.Kernel2Ideal.Gen.frame m ρ,
    fun m ρ _ => reference_quiet2 m ρ,
    fun m ρ _ => reference_quiet2 m ρ,
    fun m ρ _ => Cert.Kernel3.Gen.frame m ρ,
    fun m ρ _ => Cert.Kernel3Ideal.Gen.frame m ρ,
    fun m ρ _ => Cert.Kernel3Ideal.Gen.frame m ρ,
    fun m ρ _ => reference_quiet3 m ρ,
    fun m ρ _ => reference_quiet3 m ρ,
    fun m ρ _ => Cert.Kernel4.Gen.frame m ρ,
    fun m ρ _ => Cert.Kernel4Ideal.Gen.frame m ρ,
    fun m ρ _ => reference_quiet4 m ρ,
    fun m ρ _ => Cert.Kernel5.Gen.frame m ρ,
    fun m ρ _ => Cert.Kernel5Ideal.Gen.frame m ρ,
    fun m ρ _ => reference_quiet5 m ρ,
    fun m ρ _ => Cert.Kernel7.Gen.frame m ρ,
    fun m ρ _ => Cert.Kernel7Ideal.Gen.frame m ρ,
    fun m ρ _ => Cert.Kernel7Ideal.Gen.frame m ρ,
    fun m ρ _ => reference_quiet7 m ρ,
    fun m ρ _ => reference_quiet7 m ρ,
    fun m ρ _ => Cert.Kernel8.Gen.frame m ρ,
    fun m ρ _ => Cert.Kernel8Ideal.Gen.frame m ρ,
    fun m ρ _ => reference_quiet8 m ρ,
    fun m ρ _ => Cert.Kernel9.Gen.frame m ρ,
    fun m ρ _ => Cert.Kernel9Ideal.Gen.frame m ρ,
    fun m ρ _ => reference_quiet9 m ρ,
    fun m ρ _ => Cert.Kernel10.Gen.frame m ρ,
    fun m ρ _ => Cert.Kernel10Ideal.Gen.frame m ρ,
    fun m ρ _ => reference_quiet10 m ρ,
    fun m ρ _ => Cert.Kernel11.Gen.frame m ρ,
    fun m ρ _ => Cert.Kernel11Ideal.Gen.frame m ρ,
    fun m ρ _ => reference_quiet11 m ρ,
    fun m ρ _ => Cert.Kernel12.Gen.frame m ρ,
    fun m ρ _ => Cert.Kernel12Ideal.Gen.frame m ρ,
    fun m ρ _ => Cert.Kernel12Ideal.Gen.frame m ρ,
    fun m ρ _ => reference_quiet12 m ρ,
    fun m ρ _ => reference_quiet12 m ρ,
    fun m ρ _ => Cert.Kernel13.Gen.frame m ρ,
    fun m ρ _ => Cert.Kernel13Ideal.Gen.frame m ρ,
    fun m ρ _ => reference_quiet13 m ρ,
    fun m ρ _ => Cert.Kernel14.Gen.frame m ρ,
    fun m ρ _ => Cert.Kernel14Ideal.Gen.frame m ρ,
    fun m ρ _ => reference_quiet14 m ρ,
    fun m ρ _ => Cert.InProj.Any.quiet m ρ,
    fun m ρ _ => Cert.InProj.quiet m ρ,
    fun m ρ _ => reference_quiet15 m ρ,
    fun m ρ _ => Cert.Kernel16.Gen.frame m ρ,
    fun m ρ _ => Cert.Kernel16Ideal.Gen.frame m ρ,
    fun m ρ _ => reference_quiet16 m ρ,
    trivial, algebraic, trivial, algebraic2, trivial, algebraic3, trivial, algebraic4, trivial, algebraic5, trivial, algebraic7, trivial, algebraic8, trivial, algebraic9, trivial, algebraic10, trivial, algebraic11, trivial, algebraic12, trivial, algebraic13, trivial, algebraic14, trivial, algebraic15, trivial, algebraic16⟩

end Cert.Proof

end
